-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 8192]⟩ ⟨2, ![1024, 32768]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .f32) (main_arg1 : FVec F S1024x8192 .f32) : IVec S512x1024 1 × IVec S1024x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x32768 : Shape := ⟨2, ![1024, 32768]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)

variable [Facts]

def fn {F : FTy → Type} [FloatOps F] (main_arg0 : FVec F S512x1024 .f32) (main_arg1 : FVec F S1024x32768 .f32) : IVec S512x1024 1 × IVec S1024x32768 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x32768 .f32 := Host.absf main_arg1
  let main_cst_0 : FVec F S_ .f32 := constant S_ .f32 0x7F800000#32
  let main_v4 : FVec F S1024x32768 .f32 := broadcastInDim S1024x32768 ![] bcast_S_S1024x32768 main_cst_0
  let main_v5 : IVec S1024x32768 1 := cmpf .olt main_v3 main_v4
  (main_v2, main_v5)
-- ==== Kernel.lean ====
abbrev S512x1024 : Shape := ⟨2, ![512, 1024]⟩
abbrev S1024x8192 : Shape := ⟨2, ![1024, 8192]⟩
abbrev S512x32768 : Shape := ⟨2, ![512, 32768]⟩
abbrev S2x1024x1024 : Shape := ⟨3, ![2, 1024, 1024]⟩
abbrev S2x512x1024 : Shape := ⟨3, ![2, 512, 1024]⟩
abbrev S4x512 : Shape := ⟨2, ![4, 512]⟩
abbrev S2 : Shape := ⟨1, ![2]⟩
abbrev S_ : Shape := ⟨0, ![]⟩
abbrev S3 : Shape := ⟨1, ![3]⟩
abbrev S12 : Shape := ⟨1, ![12]⟩
abbrev S1 : Shape := ⟨1, ![1]⟩
abbrev S1x1024x1024 : Shape := ⟨3, ![1, 1024, 1024]⟩
abbrev S1024x1024 : Shape := ⟨2, ![1024, 1024]⟩
abbrev S512 : Shape := ⟨1, ![512]⟩
abbrev S1x512x1024 : Shape := ⟨3, ![1, 512, 1024]⟩
abbrev S512x2048 : Shape := ⟨2, ![512, 2048]⟩
abbrev S1x512 : Shape := ⟨2, ![1, 512]⟩
abbrev S512x1 : Shape := ⟨2, ![512, 1]⟩

abbrev nBuf : Space → Nat
  | .hbm => 4
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x32768, .f32⟩
  | .hbm, ⟨3, _⟩ => ⟨S512x32768, .f32⟩
  | .local _ .vmem, ⟨0, _⟩ => ⟨S512x1024, .f32⟩
  | .local _ .vmem, ⟨1, _⟩ => ⟨S2x1024x1024, .f32⟩
  | .local _ .vmem, ⟨2, _⟩ => ⟨S2x512x1024, .f32⟩
  | .local _ .vmem, ⟨3, _⟩ => ⟨S4x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_753 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c1_i32_752 : BitVec 32 := 1#32
  let v904 : BitVec 32 := Scalar.muli v903 c1_i32_752
  let v905 : BitVec 32 := Scalar.addi c0_i32_753 v904
  v905.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 1 := Scalar.cmpi .sle v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_753 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c1_i32_752 : BitVec 32 := 1#32
  let v904 : BitVec 32 := Scalar.muli v903 c1_i32_752
  let v905 : BitVec 32 := Scalar.addi c0_i32_753 v904
  v905.toNat
def k0_amt1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v10 : BitVec 1 := Scalar.cmpi .sge v2 c1_i32_2
  let v11 : BitVec 32 := Scalar.extui v10
  let c2_i32_3 : BitVec 32 := 2#32
  let v12 : BitVec 1 := Scalar.cmpi .sle v2 c2_i32_3
  let v13 : BitVec 32 := Scalar.extui v12
  let v14 : BitVec 32 := Scalar.addi v11 v13
  v14

def k0_off1 (d0 : Dev nD) (c0_i32_30 : BitVec 32) : Fin 2 → Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32 : BitVec 32 := 8192#32
  let v42 : BitVec 32 := Scalar.muli v2 c8192_i32
  let v43 : BitVec 32 := Scalar.addi v42 c0_i32_30
  ![0, v43.toNat]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v147 : BitVec 1 := Scalar.cmpi .sle v2 c2_i32_133
  let v148 : BitVec 32 := Scalar.extui v147
  let c0_i32_134 : BitVec 32 := 0#32
  let v149 : BitVec 1 := Scalar.cmpi .ne v148 c0_i32_134
  v149

def k0_off2 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_750 : BitVec 32 := 8192#32
  let v903 : BitVec 32 := Scalar.muli v2 c8192_i32_750
  let c0_i32_751 : BitVec 32 := 0#32
  let v904 : BitVec 32 := Scalar.addi v903 c0_i32_751
  ![0, v904.toNat]
def k0_dev3 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v905 : BitVec 32 := Scalar.addi v2 c1_i32_752
  let c1_i32_755 : BitVec 32 := 1#32
  let v906 : BitVec 32 := Scalar.muli v905 c1_i32_755
  let v907 : BitVec 32 := Scalar.addi c0_i32_756 v906
  v907.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_135 : BitVec 32 := 1#32
  let v150 : BitVec 1 := Scalar.cmpi .sge v2 c1_i32_135
  let v151 : BitVec 32 := Scalar.extui v150
  let c0_i32_136 : BitVec 32 := 0#32
  let v152 : BitVec 1 := Scalar.cmpi .ne v151 c0_i32_136
  v152

def k0_off3 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_750 : BitVec 32 := 8192#32
  let v903 : BitVec 32 := Scalar.muli v2 c8192_i32_750
  let c0_i32_751 : BitVec 32 := 0#32
  let v904 : BitVec 32 := Scalar.addi v903 c0_i32_751
  ![0, v904.toNat]
def k0_dev4 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v905 : BitVec 32 := Scalar.addi v2 c_m1_i32
  let c1_i32_754 : BitVec 32 := 1#32
  let v906 : BitVec 32 := Scalar.muli v905 c1_i32_754
  let v907 : BitVec 32 := Scalar.addi c0_i32_755 v906
  v907.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_207 : BitVec 32 := 2#32
  let v223 : BitVec 1 := Scalar.cmpi .sle v2 c2_i32_207
  let v224 : BitVec 32 := Scalar.extui v223
  let c0_i32_208 : BitVec 32 := 0#32
  let v225 : BitVec 1 := Scalar.cmpi .ne v224 c0_i32_208
  v225

def k0_off4 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_750 : BitVec 32 := 8192#32
  let v903 : BitVec 32 := Scalar.muli v2 c8192_i32_750
  let c2048_i32_751 : BitVec 32 := 2048#32
  let v904 : BitVec 32 := Scalar.addi v903 c2048_i32_751
  ![0, v904.toNat]
def k0_dev5 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v905 : BitVec 32 := Scalar.addi v2 c1_i32_752
  let c1_i32_755 : BitVec 32 := 1#32
  let v906 : BitVec 32 := Scalar.muli v905 c1_i32_755
  let v907 : BitVec 32 := Scalar.addi c0_i32_756 v906
  v907.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_209 : BitVec 32 := 1#32
  let v226 : BitVec 1 := Scalar.cmpi .sge v2 c1_i32_209
  let v227 : BitVec 32 := Scalar.extui v226
  let c0_i32_210 : BitVec 32 := 0#32
  let v228 : BitVec 1 := Scalar.cmpi .ne v227 c0_i32_210
  v228

def k0_off5 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_750 : BitVec 32 := 8192#32
  let v903 : BitVec 32 := Scalar.muli v2 c8192_i32_750
  let c2048_i32_751 : BitVec 32 := 2048#32
  let v904 : BitVec 32 := Scalar.addi v903 c2048_i32_751
  ![0, v904.toNat]
def k0_dev6 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v905 : BitVec 32 := Scalar.addi v2 c_m1_i32
  let c1_i32_754 : BitVec 32 := 1#32
  let v906 : BitVec 32 := Scalar.muli v905 c1_i32_754
  let v907 : BitVec 32 := Scalar.addi c0_i32_755 v906
  v907.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_276 : BitVec 32 := 2#32
  let v294 : BitVec 1 := Scalar.cmpi .sle v2 c2_i32_276
  let v295 : BitVec 32 := Scalar.extui v294
  let c0_i32_277 : BitVec 32 := 0#32
  let v296 : BitVec 1 := Scalar.cmpi .ne v295 c0_i32_277
  v296

def k0_off6 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_750 : BitVec 32 := 8192#32
  let v903 : BitVec 32 := Scalar.muli v2 c8192_i32_750
  let c4096_i32_751 : BitVec 32 := 4096#32
  let v904 : BitVec 32 := Scalar.addi v903 c4096_i32_751
  ![0, v904.toNat]
def k0_dev7 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v905 : BitVec 32 := Scalar.addi v2 c1_i32_752
  let c1_i32_755 : BitVec 32 := 1#32
  let v906 : BitVec 32 := Scalar.muli v905 c1_i32_755
  let v907 : BitVec 32 := Scalar.addi c0_i32_756 v906
  v907.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v297 : BitVec 1 := Scalar.cmpi .sge v2 c1_i32_278
  let v298 : BitVec 32 := Scalar.extui v297
  let c0_i32_279 : BitVec 32 := 0#32
  let v299 : BitVec 1 := Scalar.cmpi .ne v298 c0_i32_279
  v299

def k0_off7 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_750 : BitVec 32 := 8192#32
  let v903 : BitVec 32 := Scalar.muli v2 c8192_i32_750
  let c4096_i32_751 : BitVec 32 := 4096#32
  let v904 : BitVec 32 := Scalar.addi v903 c4096_i32_751
  ![0, v904.toNat]
def k0_dev8 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v905 : BitVec 32 := Scalar.addi v2 c_m1_i32
  let c1_i32_754 : BitVec 32 := 1#32
  let v906 : BitVec 32 := Scalar.muli v905 c1_i32_754
  let v907 : BitVec 32 := Scalar.addi c0_i32_755 v906
  v907.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_294 : BitVec 32 := 2#32
  let v314 : BitVec 1 := Scalar.cmpi .sle v2 c2_i32_294
  let v315 : BitVec 32 := Scalar.extui v314
  let c0_i32_295 : BitVec 32 := 0#32
  let v316 : BitVec 1 := Scalar.cmpi .ne v315 c0_i32_295
  v316

def k0_off8 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_750 : BitVec 32 := 8192#32
  let v903 : BitVec 32 := Scalar.muli v2 c8192_i32_750
  let c6144_i32_751 : BitVec 32 := 6144#32
  let v904 : BitVec 32 := Scalar.addi v903 c6144_i32_751
  ![0, v904.toNat]
def k0_dev9 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v905 : BitVec 32 := Scalar.addi v2 c1_i32_752
  let c1_i32_755 : BitVec 32 := 1#32
  let v906 : BitVec 32 := Scalar.muli v905 c1_i32_755
  let v907 : BitVec 32 := Scalar.addi c0_i32_756 v906
  v907.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_296 : BitVec 32 := 1#32
  let v317 : BitVec 1 := Scalar.cmpi .sge v2 c1_i32_296
  let v318 : BitVec 32 := Scalar.extui v317
  let c0_i32_297 : BitVec 32 := 0#32
  let v319 : BitVec 1 := Scalar.cmpi .ne v318 c0_i32_297
  v319

def k0_off9 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_750 : BitVec 32 := 8192#32
  let v903 : BitVec 32 := Scalar.muli v2 c8192_i32_750
  let c6144_i32_751 : BitVec 32 := 6144#32
  let v904 : BitVec 32 := Scalar.addi v903 c6144_i32_751
  ![0, v904.toNat]
def k0_dev10 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v905 : BitVec 32 := Scalar.addi v2 c_m1_i32
  let c1_i32_754 : BitVec 32 := 1#32
  let v906 : BitVec 32 := Scalar.muli v905 c1_i32_754
  let v907 : BitVec 32 := Scalar.addi c0_i32_755 v906
  v907.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v320 : Index := Scalar.indexCast v2
  let c0_298 : Index := 0#32
  ![v320.toNat, 0]
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_299 : BitVec 32 := 0#32
  let v324 : BitVec 1 := Scalar.cmpi .sge v2 c0_i32_299
  let c2_i32_300 : BitVec 32 := 2#32
  let v325 : BitVec 1 := Scalar.cmpi .sle v2 c2_i32_300
  let v326 : BitVec 1 := Scalar.andi v324 v325
  let v327 : BitVec 32 := Scalar.extui v326
  let c0_i32_301 : BitVec 32 := 0#32
  let v328 : BitVec 1 := Scalar.cmpi .ne v327 c0_i32_301
  v328

def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.subi v2 c0_i32_750
  let c0_i32_756 : BitVec 32 := 0#32
  ![v903.toNat, 0]
def k0_dev11 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_751 : BitVec 32 := 1#32
  let v904 : BitVec 32 := Scalar.addi v2 c1_i32_751
  let c1_i32_754 : BitVec 32 := 1#32
  let v905 : BitVec 32 := Scalar.muli v904 c1_i32_754
  let v906 : BitVec 32 := Scalar.addi c0_i32_755 v905
  v906.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_302 : BitVec 32 := 1#32
  let v329 : BitVec 1 := Scalar.cmpi .sge v2 c1_i32_302
  let c3_i32 : BitVec 32 := 3#32
  let v330 : BitVec 1 := Scalar.cmpi .sle v2 c3_i32
  let v331 : BitVec 1 := Scalar.andi v329 v330
  let v332 : BitVec 32 := Scalar.extui v331
  let c0_i32_303 : BitVec 32 := 0#32
  let v333 : BitVec 1 := Scalar.cmpi .ne v332 c0_i32_303
  v333

def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.addi v2 c0_i32_750
  let c0_i32_755 : BitVec 32 := 0#32
  ![v903.toNat, 0]
def k0_dev12 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v904 : BitVec 32 := Scalar.addi v2 c_m1_i32
  let c1_i32_753 : BitVec 32 := 1#32
  let v905 : BitVec 32 := Scalar.muli v904 c1_i32_753
  let v906 : BitVec 32 := Scalar.addi c0_i32_754 v905
  v906.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_304 : BitVec 32 := 1#32
  let v334 : BitVec 1 := Scalar.cmpi .sge v2 c1_i32_304
  let v335 : BitVec 32 := Scalar.extui v334
  let c0_i32_305 : BitVec 32 := 0#32
  let v336 : BitVec 1 := Scalar.cmpi .ne v335 c0_i32_305
  v336

def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c0_i32_755 : BitVec 32 := 0#32
  ![v903.toNat, 0]
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_306 : BitVec 32 := 1#32
  let v337 : BitVec 1 := Scalar.cmpi .sge v2 c1_i32_306
  let c2_i32_307 : BitVec 32 := 2#32
  let v338 : BitVec 1 := Scalar.cmpi .sle v2 c2_i32_307
  let v339 : BitVec 1 := Scalar.andi v337 v338
  let v340 : BitVec 32 := Scalar.extui v339
  let c0_i32_308 : BitVec 32 := 0#32
  let v341 : BitVec 1 := Scalar.cmpi .ne v340 c0_i32_308
  v341

def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c0_i32_756 : BitVec 32 := 0#32
  ![v903.toNat, 0]
def k0_dev13 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_751 : BitVec 32 := 1#32
  let v904 : BitVec 32 := Scalar.addi v2 c1_i32_751
  let c1_i32_754 : BitVec 32 := 1#32
  let v905 : BitVec 32 := Scalar.muli v904 c1_i32_754
  let v906 : BitVec 32 := Scalar.addi c0_i32_755 v905
  v906.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_309 : BitVec 32 := 2#32
  let v342 : BitVec 1 := Scalar.cmpi .sle v2 c2_i32_309
  let v343 : BitVec 32 := Scalar.extui v342
  let c0_i32_310 : BitVec 32 := 0#32
  let v344 : BitVec 1 := Scalar.cmpi .ne v343 c0_i32_310
  v344

def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c0_i32_756 : BitVec 32 := 0#32
  ![v903.toNat, 0]
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_311 : BitVec 32 := 1#32
  let v345 : BitVec 1 := Scalar.cmpi .sge v2 c1_i32_311
  let c2_i32_312 : BitVec 32 := 2#32
  let v346 : BitVec 1 := Scalar.cmpi .sle v2 c2_i32_312
  let v347 : BitVec 1 := Scalar.andi v345 v346
  let v348 : BitVec 32 := Scalar.extui v347
  let c0_i32_313 : BitVec 32 := 0#32
  let v349 : BitVec 1 := Scalar.cmpi .ne v348 c0_i32_313
  v349

def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c0_i32_755 : BitVec 32 := 0#32
  ![v903.toNat, 0]
def k0_dev14 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v904 : BitVec 32 := Scalar.addi v2 c_m1_i32
  let c1_i32_753 : BitVec 32 := 1#32
  let v905 : BitVec 32 := Scalar.muli v904 c1_i32_753
  let v906 : BitVec 32 := Scalar.addi c0_i32_754 v905
  v906.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_314 : BitVec 32 := 2#32
  let v350 : BitVec 1 := Scalar.cmpi .sge v2 c2_i32_314
  let v351 : BitVec 32 := Scalar.extui v350
  let c0_i32_315 : BitVec 32 := 0#32
  let v352 : BitVec 1 := Scalar.cmpi .ne v351 c0_i32_315
  v352

def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c0_i32_755 : BitVec 32 := 0#32
  ![v903.toNat, 0]
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_316 : BitVec 32 := 2#32
  let v353 : BitVec 1 := Scalar.cmpi .sge v2 c2_i32_316
  let c2_i32_317 : BitVec 32 := 2#32
  let v354 : BitVec 1 := Scalar.cmpi .sle v2 c2_i32_317
  let v355 : BitVec 1 := Scalar.andi v353 v354
  let v356 : BitVec 32 := Scalar.extui v355
  let c0_i32_318 : BitVec 32 := 0#32
  let v357 : BitVec 1 := Scalar.cmpi .ne v356 c0_i32_318
  v357

def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c0_i32_756 : BitVec 32 := 0#32
  ![v903.toNat, 0]
def k0_dev15 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_751 : BitVec 32 := 1#32
  let v904 : BitVec 32 := Scalar.addi v2 c1_i32_751
  let c1_i32_754 : BitVec 32 := 1#32
  let v905 : BitVec 32 := Scalar.muli v904 c1_i32_754
  let v906 : BitVec 32 := Scalar.addi c0_i32_755 v905
  v906.toNat
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_319 : BitVec 32 := 1#32
  let v358 : BitVec 1 := Scalar.cmpi .sle v2 c1_i32_319
  let v359 : BitVec 32 := Scalar.extui v358
  let c0_i32_320 : BitVec 32 := 0#32
  let v360 : BitVec 1 := Scalar.cmpi .ne v359 c0_i32_320
  v360

def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c0_i32_756 : BitVec 32 := 0#32
  ![v903.toNat, 0]
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_321 : BitVec 32 := 1#32
  let v361 : BitVec 1 := Scalar.cmpi .sge v2 c1_i32_321
  let c1_i32_322 : BitVec 32 := 1#32
  let v362 : BitVec 1 := Scalar.cmpi .sle v2 c1_i32_322
  let v363 : BitVec 1 := Scalar.andi v361 v362
  let v364 : BitVec 32 := Scalar.extui v363
  let c0_i32_323 : BitVec 32 := 0#32
  let v365 : BitVec 1 := Scalar.cmpi .ne v364 c0_i32_323
  v365

def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c0_i32_755 : BitVec 32 := 0#32
  ![v903.toNat, 0]
def k0_dev16 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v904 : BitVec 32 := Scalar.addi v2 c_m1_i32
  let c1_i32_753 : BitVec 32 := 1#32
  let v905 : BitVec 32 := Scalar.muli v904 c1_i32_753
  let v906 : BitVec 32 := Scalar.addi c0_i32_754 v905
  v906.toNat
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_324 : BitVec 32 := 3#32
  let v366 : BitVec 1 := Scalar.cmpi .sge v2 c3_i32_324
  let v367 : BitVec 32 := Scalar.extui v366
  let c0_i32_325 : BitVec 32 := 0#32
  let v368 : BitVec 1 := Scalar.cmpi .ne v367 c0_i32_325
  v368

def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.subi v2 c3_i32_750
  let c0_i32_755 : BitVec 32 := 0#32
  ![v903.toNat, 0]
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_326 : BitVec 32 := 0#32
  let v369 : BitVec 1 := Scalar.cmpi .sle v2 c0_i32_326
  let v370 : BitVec 32 := Scalar.extui v369
  let c0_i32_327 : BitVec 32 := 0#32
  let v371 : BitVec 1 := Scalar.cmpi .ne v370 c0_i32_327
  v371

def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.addi v2 c3_i32_750
  let c0_i32_756 : BitVec 32 := 0#32
  ![v903.toNat, 0]
def k0_off23 (d0 : Dev nD) (c0_i32_333 : BitVec 32) (c0_i32_334 : BitVec 32) : Fin 2 → Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_332 : BitVec 32 := 8192#32
  let v377 : BitVec 32 := Scalar.muli v2 c8192_i32_332
  let v378 : BitVec 32 := Scalar.addi v377 c0_i32_333
  let v379 : BitVec 32 := Scalar.addi v378 c0_i32_334
  ![0, v379.toNat]
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_532 : BitVec 32 := 1#32
  let v553 : BitVec 1 := Scalar.cmpi .sge v2 c1_i32_532
  let v554 : BitVec 32 := Scalar.extui v553
  let c0_i32_533 : BitVec 32 := 0#32
  let v555 : BitVec 1 := Scalar.cmpi .ne v554 c0_i32_533
  v555

def k0_off24 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_534 : BitVec 32 := 1#32
  let v556 : BitVec 1 := Scalar.cmpi .sge v2 c1_i32_534
  let c2_i32_535 : BitVec 32 := 2#32
  let v557 : BitVec 1 := Scalar.cmpi .sle v2 c2_i32_535
  let v558 : BitVec 1 := Scalar.andi v556 v557
  let v559 : BitVec 32 := Scalar.extui v558
  let c0_i32_536 : BitVec 32 := 0#32
  let v560 : BitVec 1 := Scalar.cmpi .ne v559 c0_i32_536
  v560

def k0_off25 (d0 : Dev nD) : Fin 2 → Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_dev17 (d0 : Dev nD) : Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_753 : BitVec 32 := 1#32
  let v906 : BitVec 32 := Scalar.addi v2 c1_i32_753
  let c1_i32_756 : BitVec 32 := 1#32
  let v907 : BitVec 32 := Scalar.muli v906 c1_i32_756
  let v908 : BitVec 32 := Scalar.addi c0_i32_757 v907
  v908.toNat
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_537 : BitVec 32 := 1#32
  let v561 : BitVec 1 := Scalar.cmpi .sge v2 c1_i32_537
  let v562 : BitVec 32 := Scalar.extui v561
  let c0_i32_538 : BitVec 32 := 0#32
  let v563 : BitVec 1 := Scalar.cmpi .ne v562 c0_i32_538
  v563

def k0_off26 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c0_i32_752 : BitVec 32 := 0#32
  let v905 : BitVec 32 := Scalar.addi v904 c0_i32_752
  let v906 : BitVec 32 := Scalar.addi v905 c0_i32_753
  ![0, v906.toNat]
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_539 : BitVec 32 := 2#32
  let v564 : BitVec 1 := Scalar.cmpi .sle v2 c2_i32_539
  let v565 : BitVec 32 := Scalar.extui v564
  let c0_i32_540 : BitVec 32 := 0#32
  let v566 : BitVec 1 := Scalar.cmpi .ne v565 c0_i32_540
  v566

def k0_off27 (d0 : Dev nD) : Fin 2 → Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_541 : BitVec 32 := 1#32
  let v567 : BitVec 1 := Scalar.cmpi .sge v2 c1_i32_541
  let c2_i32_542 : BitVec 32 := 2#32
  let v568 : BitVec 1 := Scalar.cmpi .sle v2 c2_i32_542
  let v569 : BitVec 1 := Scalar.andi v567 v568
  let v570 : BitVec 32 := Scalar.extui v569
  let c0_i32_543 : BitVec 32 := 0#32
  let v571 : BitVec 1 := Scalar.cmpi .ne v570 c0_i32_543
  v571

def k0_off28 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_dev18 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v906 : BitVec 32 := Scalar.addi v2 c_m1_i32
  let c1_i32_755 : BitVec 32 := 1#32
  let v907 : BitVec 32 := Scalar.muli v906 c1_i32_755
  let v908 : BitVec 32 := Scalar.addi c0_i32_756 v907
  v908.toNat
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_544 : BitVec 32 := 2#32
  let v572 : BitVec 1 := Scalar.cmpi .sle v2 c2_i32_544
  let v573 : BitVec 32 := Scalar.extui v572
  let c0_i32_545 : BitVec 32 := 0#32
  let v574 : BitVec 1 := Scalar.cmpi .ne v573 c0_i32_545
  v574

def k0_off29 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c0_i32_752 : BitVec 32 := 0#32
  let v905 : BitVec 32 := Scalar.addi v904 c0_i32_752
  let v906 : BitVec 32 := Scalar.addi v905 c0_i32_753
  ![0, v906.toNat]
def k0_cond29 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_546 : BitVec 32 := 1#32
  let v575 : BitVec 1 := Scalar.cmpi .sge v2 c1_i32_546
  let v576 : BitVec 32 := Scalar.extui v575
  let c0_i32_547 : BitVec 32 := 0#32
  let v577 : BitVec 1 := Scalar.cmpi .ne v576 c0_i32_547
  v577

def k0_off30 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond30 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_548 : BitVec 32 := 1#32
  let v578 : BitVec 1 := Scalar.cmpi .sge v2 c1_i32_548
  let c2_i32_549 : BitVec 32 := 2#32
  let v579 : BitVec 1 := Scalar.cmpi .sle v2 c2_i32_549
  let v580 : BitVec 1 := Scalar.andi v578 v579
  let v581 : BitVec 32 := Scalar.extui v580
  let c0_i32_550 : BitVec 32 := 0#32
  let v582 : BitVec 1 := Scalar.cmpi .ne v581 c0_i32_550
  v582

def k0_off31 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_dev19 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_753 : BitVec 32 := 1#32
  let v906 : BitVec 32 := Scalar.addi v2 c1_i32_753
  let c1_i32_755 : BitVec 32 := 1#32
  let v907 : BitVec 32 := Scalar.muli v906 c1_i32_755
  let v908 : BitVec 32 := Scalar.addi c0_i32_756 v907
  v908.toNat
def k0_cond31 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_551 : BitVec 32 := 1#32
  let v583 : BitVec 1 := Scalar.cmpi .sge v2 c1_i32_551
  let v584 : BitVec 32 := Scalar.extui v583
  let c0_i32_552 : BitVec 32 := 0#32
  let v585 : BitVec 1 := Scalar.cmpi .ne v584 c0_i32_552
  v585

def k0_off32 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  let v906 : BitVec 32 := Scalar.addi v905 c0_i32_753
  ![0, v906.toNat]
def k0_cond32 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_553 : BitVec 32 := 2#32
  let v586 : BitVec 1 := Scalar.cmpi .sle v2 c2_i32_553
  let v587 : BitVec 32 := Scalar.extui v586
  let c0_i32_554 : BitVec 32 := 0#32
  let v588 : BitVec 1 := Scalar.cmpi .ne v587 c0_i32_554
  v588

def k0_off33 (d0 : Dev nD) : Fin 2 → Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond33 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_555 : BitVec 32 := 1#32
  let v589 : BitVec 1 := Scalar.cmpi .sge v2 c1_i32_555
  let c2_i32_556 : BitVec 32 := 2#32
  let v590 : BitVec 1 := Scalar.cmpi .sle v2 c2_i32_556
  let v591 : BitVec 1 := Scalar.andi v589 v590
  let v592 : BitVec 32 := Scalar.extui v591
  let c0_i32_557 : BitVec 32 := 0#32
  let v593 : BitVec 1 := Scalar.cmpi .ne v592 c0_i32_557
  v593

def k0_off34 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_dev20 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v906 : BitVec 32 := Scalar.addi v2 c_m1_i32
  let c1_i32_754 : BitVec 32 := 1#32
  let v907 : BitVec 32 := Scalar.muli v906 c1_i32_754
  let v908 : BitVec 32 := Scalar.addi c0_i32_755 v907
  v908.toNat
def k0_cond34 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_558 : BitVec 32 := 2#32
  let v594 : BitVec 1 := Scalar.cmpi .sle v2 c2_i32_558
  let v595 : BitVec 32 := Scalar.extui v594
  let c0_i32_559 : BitVec 32 := 0#32
  let v596 : BitVec 1 := Scalar.cmpi .ne v595 c0_i32_559
  v596

def k0_off35 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  let v906 : BitVec 32 := Scalar.addi v905 c0_i32_753
  ![0, v906.toNat]
def k0_cond35 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_560 : BitVec 32 := 1#32
  let v597 : BitVec 1 := Scalar.cmpi .sge v2 c1_i32_560
  let v598 : BitVec 32 := Scalar.extui v597
  let c0_i32_561 : BitVec 32 := 0#32
  let v599 : BitVec 1 := Scalar.cmpi .ne v598 c0_i32_561
  v599

def k0_off36 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond36 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_562 : BitVec 32 := 1#32
  let v600 : BitVec 1 := Scalar.cmpi .sge v2 c1_i32_562
  let c2_i32_563 : BitVec 32 := 2#32
  let v601 : BitVec 1 := Scalar.cmpi .sle v2 c2_i32_563
  let v602 : BitVec 1 := Scalar.andi v600 v601
  let v603 : BitVec 32 := Scalar.extui v602
  let c0_i32_564 : BitVec 32 := 0#32
  let v604 : BitVec 1 := Scalar.cmpi .ne v603 c0_i32_564
  v604

def k0_off37 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_dev21 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_753 : BitVec 32 := 1#32
  let v906 : BitVec 32 := Scalar.addi v2 c1_i32_753
  let c1_i32_755 : BitVec 32 := 1#32
  let v907 : BitVec 32 := Scalar.muli v906 c1_i32_755
  let v908 : BitVec 32 := Scalar.addi c0_i32_756 v907
  v908.toNat
def k0_cond37 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_565 : BitVec 32 := 1#32
  let v605 : BitVec 1 := Scalar.cmpi .sge v2 c1_i32_565
  let v606 : BitVec 32 := Scalar.extui v605
  let c0_i32_566 : BitVec 32 := 0#32
  let v607 : BitVec 1 := Scalar.cmpi .ne v606 c0_i32_566
  v607

def k0_off38 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  let v906 : BitVec 32 := Scalar.addi v905 c0_i32_753
  ![0, v906.toNat]
def k0_cond38 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_567 : BitVec 32 := 2#32
  let v608 : BitVec 1 := Scalar.cmpi .sle v2 c2_i32_567
  let v609 : BitVec 32 := Scalar.extui v608
  let c0_i32_568 : BitVec 32 := 0#32
  let v610 : BitVec 1 := Scalar.cmpi .ne v609 c0_i32_568
  v610

def k0_off39 (d0 : Dev nD) : Fin 2 → Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond39 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_569 : BitVec 32 := 1#32
  let v611 : BitVec 1 := Scalar.cmpi .sge v2 c1_i32_569
  let c2_i32_570 : BitVec 32 := 2#32
  let v612 : BitVec 1 := Scalar.cmpi .sle v2 c2_i32_570
  let v613 : BitVec 1 := Scalar.andi v611 v612
  let v614 : BitVec 32 := Scalar.extui v613
  let c0_i32_571 : BitVec 32 := 0#32
  let v615 : BitVec 1 := Scalar.cmpi .ne v614 c0_i32_571
  v615

def k0_off40 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_dev22 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v906 : BitVec 32 := Scalar.addi v2 c_m1_i32
  let c1_i32_754 : BitVec 32 := 1#32
  let v907 : BitVec 32 := Scalar.muli v906 c1_i32_754
  let v908 : BitVec 32 := Scalar.addi c0_i32_755 v907
  v908.toNat
def k0_cond40 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_572 : BitVec 32 := 2#32
  let v616 : BitVec 1 := Scalar.cmpi .sle v2 c2_i32_572
  let v617 : BitVec 32 := Scalar.extui v616
  let c0_i32_573 : BitVec 32 := 0#32
  let v618 : BitVec 1 := Scalar.cmpi .ne v617 c0_i32_573
  v618

def k0_off41 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  let v906 : BitVec 32 := Scalar.addi v905 c0_i32_753
  ![0, v906.toNat]
def k0_cond41 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_574 : BitVec 32 := 1#32
  let v619 : BitVec 1 := Scalar.cmpi .sge v2 c1_i32_574
  let v620 : BitVec 32 := Scalar.extui v619
  let c0_i32_575 : BitVec 32 := 0#32
  let v621 : BitVec 1 := Scalar.cmpi .ne v620 c0_i32_575
  v621

def k0_off42 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond42 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_576 : BitVec 32 := 1#32
  let v622 : BitVec 1 := Scalar.cmpi .sge v2 c1_i32_576
  let c2_i32_577 : BitVec 32 := 2#32
  let v623 : BitVec 1 := Scalar.cmpi .sle v2 c2_i32_577
  let v624 : BitVec 1 := Scalar.andi v622 v623
  let v625 : BitVec 32 := Scalar.extui v624
  let c0_i32_578 : BitVec 32 := 0#32
  let v626 : BitVec 1 := Scalar.cmpi .ne v625 c0_i32_578
  v626

def k0_off43 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_dev23 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_753 : BitVec 32 := 1#32
  let v906 : BitVec 32 := Scalar.addi v2 c1_i32_753
  let c1_i32_755 : BitVec 32 := 1#32
  let v907 : BitVec 32 := Scalar.muli v906 c1_i32_755
  let v908 : BitVec 32 := Scalar.addi c0_i32_756 v907
  v908.toNat
def k0_cond43 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_579 : BitVec 32 := 1#32
  let v627 : BitVec 1 := Scalar.cmpi .sge v2 c1_i32_579
  let v628 : BitVec 32 := Scalar.extui v627
  let c0_i32_580 : BitVec 32 := 0#32
  let v629 : BitVec 1 := Scalar.cmpi .ne v628 c0_i32_580
  v629

def k0_off44 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  let v906 : BitVec 32 := Scalar.addi v905 c0_i32_753
  ![0, v906.toNat]
def k0_cond44 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_581 : BitVec 32 := 2#32
  let v630 : BitVec 1 := Scalar.cmpi .sle v2 c2_i32_581
  let v631 : BitVec 32 := Scalar.extui v630
  let c0_i32_582 : BitVec 32 := 0#32
  let v632 : BitVec 1 := Scalar.cmpi .ne v631 c0_i32_582
  v632

def k0_off45 (d0 : Dev nD) : Fin 2 → Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond45 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_583 : BitVec 32 := 1#32
  let v633 : BitVec 1 := Scalar.cmpi .sge v2 c1_i32_583
  let c2_i32_584 : BitVec 32 := 2#32
  let v634 : BitVec 1 := Scalar.cmpi .sle v2 c2_i32_584
  let v635 : BitVec 1 := Scalar.andi v633 v634
  let v636 : BitVec 32 := Scalar.extui v635
  let c0_i32_585 : BitVec 32 := 0#32
  let v637 : BitVec 1 := Scalar.cmpi .ne v636 c0_i32_585
  v637

def k0_off46 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_dev24 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v906 : BitVec 32 := Scalar.addi v2 c_m1_i32
  let c1_i32_754 : BitVec 32 := 1#32
  let v907 : BitVec 32 := Scalar.muli v906 c1_i32_754
  let v908 : BitVec 32 := Scalar.addi c0_i32_755 v907
  v908.toNat
def k0_cond46 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_586 : BitVec 32 := 2#32
  let v638 : BitVec 1 := Scalar.cmpi .sle v2 c2_i32_586
  let v639 : BitVec 32 := Scalar.extui v638
  let c0_i32_587 : BitVec 32 := 0#32
  let v640 : BitVec 1 := Scalar.cmpi .ne v639 c0_i32_587
  v640

def k0_off47 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  let v906 : BitVec 32 := Scalar.addi v905 c0_i32_753
  ![0, v906.toNat]
def k0_cond47 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_588 : BitVec 32 := 2#32
  let v641 : BitVec 1 := Scalar.cmpi .sge v2 c2_i32_588
  let v642 : BitVec 32 := Scalar.extui v641
  let c0_i32_589 : BitVec 32 := 0#32
  let v643 : BitVec 1 := Scalar.cmpi .ne v642 c0_i32_589
  v643

def k0_off48 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond48 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_590 : BitVec 32 := 2#32
  let v644 : BitVec 1 := Scalar.cmpi .sge v2 c2_i32_590
  let c2_i32_591 : BitVec 32 := 2#32
  let v645 : BitVec 1 := Scalar.cmpi .sle v2 c2_i32_591
  let v646 : BitVec 1 := Scalar.andi v644 v645
  let v647 : BitVec 32 := Scalar.extui v646
  let c0_i32_592 : BitVec 32 := 0#32
  let v648 : BitVec 1 := Scalar.cmpi .ne v647 c0_i32_592
  v648

def k0_off49 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_dev25 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_753 : BitVec 32 := 1#32
  let v906 : BitVec 32 := Scalar.addi v2 c1_i32_753
  let c1_i32_755 : BitVec 32 := 1#32
  let v907 : BitVec 32 := Scalar.muli v906 c1_i32_755
  let v908 : BitVec 32 := Scalar.addi c0_i32_756 v907
  v908.toNat
def k0_cond49 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_593 : BitVec 32 := 2#32
  let v649 : BitVec 1 := Scalar.cmpi .sge v2 c2_i32_593
  let v650 : BitVec 32 := Scalar.extui v649
  let c0_i32_594 : BitVec 32 := 0#32
  let v651 : BitVec 1 := Scalar.cmpi .ne v650 c0_i32_594
  v651

def k0_off50 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c0_i32_752 : BitVec 32 := 0#32
  let v905 : BitVec 32 := Scalar.addi v904 c0_i32_752
  let v906 : BitVec 32 := Scalar.addi v905 c0_i32_753
  ![0, v906.toNat]
def k0_cond50 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_595 : BitVec 32 := 1#32
  let v652 : BitVec 1 := Scalar.cmpi .sle v2 c1_i32_595
  let v653 : BitVec 32 := Scalar.extui v652
  let c0_i32_596 : BitVec 32 := 0#32
  let v654 : BitVec 1 := Scalar.cmpi .ne v653 c0_i32_596
  v654

def k0_off51 (d0 : Dev nD) : Fin 2 → Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond51 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_597 : BitVec 32 := 1#32
  let v655 : BitVec 1 := Scalar.cmpi .sge v2 c1_i32_597
  let c1_i32_598 : BitVec 32 := 1#32
  let v656 : BitVec 1 := Scalar.cmpi .sle v2 c1_i32_598
  let v657 : BitVec 1 := Scalar.andi v655 v656
  let v658 : BitVec 32 := Scalar.extui v657
  let c0_i32_599 : BitVec 32 := 0#32
  let v659 : BitVec 1 := Scalar.cmpi .ne v658 c0_i32_599
  v659

def k0_off52 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_dev26 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v906 : BitVec 32 := Scalar.addi v2 c_m1_i32
  let c1_i32_754 : BitVec 32 := 1#32
  let v907 : BitVec 32 := Scalar.muli v906 c1_i32_754
  let v908 : BitVec 32 := Scalar.addi c0_i32_755 v907
  v908.toNat
def k0_cond52 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_600 : BitVec 32 := 1#32
  let v660 : BitVec 1 := Scalar.cmpi .sle v2 c1_i32_600
  let v661 : BitVec 32 := Scalar.extui v660
  let c0_i32_601 : BitVec 32 := 0#32
  let v662 : BitVec 1 := Scalar.cmpi .ne v661 c0_i32_601
  v662

def k0_off53 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c0_i32_752 : BitVec 32 := 0#32
  let v905 : BitVec 32 := Scalar.addi v904 c0_i32_752
  let v906 : BitVec 32 := Scalar.addi v905 c0_i32_753
  ![0, v906.toNat]
def k0_cond53 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_602 : BitVec 32 := 2#32
  let v663 : BitVec 1 := Scalar.cmpi .sge v2 c2_i32_602
  let v664 : BitVec 32 := Scalar.extui v663
  let c0_i32_603 : BitVec 32 := 0#32
  let v665 : BitVec 1 := Scalar.cmpi .ne v664 c0_i32_603
  v665

def k0_off54 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond54 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_604 : BitVec 32 := 2#32
  let v666 : BitVec 1 := Scalar.cmpi .sge v2 c2_i32_604
  let c2_i32_605 : BitVec 32 := 2#32
  let v667 : BitVec 1 := Scalar.cmpi .sle v2 c2_i32_605
  let v668 : BitVec 1 := Scalar.andi v666 v667
  let v669 : BitVec 32 := Scalar.extui v668
  let c0_i32_606 : BitVec 32 := 0#32
  let v670 : BitVec 1 := Scalar.cmpi .ne v669 c0_i32_606
  v670

def k0_off55 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_dev27 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_753 : BitVec 32 := 1#32
  let v906 : BitVec 32 := Scalar.addi v2 c1_i32_753
  let c1_i32_755 : BitVec 32 := 1#32
  let v907 : BitVec 32 := Scalar.muli v906 c1_i32_755
  let v908 : BitVec 32 := Scalar.addi c0_i32_756 v907
  v908.toNat
def k0_cond55 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_607 : BitVec 32 := 2#32
  let v671 : BitVec 1 := Scalar.cmpi .sge v2 c2_i32_607
  let v672 : BitVec 32 := Scalar.extui v671
  let c0_i32_608 : BitVec 32 := 0#32
  let v673 : BitVec 1 := Scalar.cmpi .ne v672 c0_i32_608
  v673

def k0_off56 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  let v906 : BitVec 32 := Scalar.addi v905 c0_i32_753
  ![0, v906.toNat]
def k0_cond56 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_609 : BitVec 32 := 1#32
  let v674 : BitVec 1 := Scalar.cmpi .sle v2 c1_i32_609
  let v675 : BitVec 32 := Scalar.extui v674
  let c0_i32_610 : BitVec 32 := 0#32
  let v676 : BitVec 1 := Scalar.cmpi .ne v675 c0_i32_610
  v676

def k0_off57 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond57 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_611 : BitVec 32 := 1#32
  let v677 : BitVec 1 := Scalar.cmpi .sge v2 c1_i32_611
  let c1_i32_612 : BitVec 32 := 1#32
  let v678 : BitVec 1 := Scalar.cmpi .sle v2 c1_i32_612
  let v679 : BitVec 1 := Scalar.andi v677 v678
  let v680 : BitVec 32 := Scalar.extui v679
  let c0_i32_613 : BitVec 32 := 0#32
  let v681 : BitVec 1 := Scalar.cmpi .ne v680 c0_i32_613
  v681

def k0_off58 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_dev28 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v906 : BitVec 32 := Scalar.addi v2 c_m1_i32
  let c1_i32_754 : BitVec 32 := 1#32
  let v907 : BitVec 32 := Scalar.muli v906 c1_i32_754
  let v908 : BitVec 32 := Scalar.addi c0_i32_755 v907
  v908.toNat
def k0_cond58 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_614 : BitVec 32 := 1#32
  let v682 : BitVec 1 := Scalar.cmpi .sle v2 c1_i32_614
  let v683 : BitVec 32 := Scalar.extui v682
  let c0_i32_615 : BitVec 32 := 0#32
  let v684 : BitVec 1 := Scalar.cmpi .ne v683 c0_i32_615
  v684

def k0_off59 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  let v906 : BitVec 32 := Scalar.addi v905 c0_i32_753
  ![0, v906.toNat]
def k0_cond59 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_616 : BitVec 32 := 2#32
  let v685 : BitVec 1 := Scalar.cmpi .sge v2 c2_i32_616
  let v686 : BitVec 32 := Scalar.extui v685
  let c0_i32_617 : BitVec 32 := 0#32
  let v687 : BitVec 1 := Scalar.cmpi .ne v686 c0_i32_617
  v687

def k0_off60 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond60 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_618 : BitVec 32 := 2#32
  let v688 : BitVec 1 := Scalar.cmpi .sge v2 c2_i32_618
  let c2_i32_619 : BitVec 32 := 2#32
  let v689 : BitVec 1 := Scalar.cmpi .sle v2 c2_i32_619
  let v690 : BitVec 1 := Scalar.andi v688 v689
  let v691 : BitVec 32 := Scalar.extui v690
  let c0_i32_620 : BitVec 32 := 0#32
  let v692 : BitVec 1 := Scalar.cmpi .ne v691 c0_i32_620
  v692

def k0_off61 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_dev29 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_753 : BitVec 32 := 1#32
  let v906 : BitVec 32 := Scalar.addi v2 c1_i32_753
  let c1_i32_755 : BitVec 32 := 1#32
  let v907 : BitVec 32 := Scalar.muli v906 c1_i32_755
  let v908 : BitVec 32 := Scalar.addi c0_i32_756 v907
  v908.toNat
def k0_cond61 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_621 : BitVec 32 := 2#32
  let v693 : BitVec 1 := Scalar.cmpi .sge v2 c2_i32_621
  let v694 : BitVec 32 := Scalar.extui v693
  let c0_i32_622 : BitVec 32 := 0#32
  let v695 : BitVec 1 := Scalar.cmpi .ne v694 c0_i32_622
  v695

def k0_off62 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  let v906 : BitVec 32 := Scalar.addi v905 c0_i32_753
  ![0, v906.toNat]
def k0_cond62 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_623 : BitVec 32 := 1#32
  let v696 : BitVec 1 := Scalar.cmpi .sle v2 c1_i32_623
  let v697 : BitVec 32 := Scalar.extui v696
  let c0_i32_624 : BitVec 32 := 0#32
  let v698 : BitVec 1 := Scalar.cmpi .ne v697 c0_i32_624
  v698

def k0_off63 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond63 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_625 : BitVec 32 := 1#32
  let v699 : BitVec 1 := Scalar.cmpi .sge v2 c1_i32_625
  let c1_i32_626 : BitVec 32 := 1#32
  let v700 : BitVec 1 := Scalar.cmpi .sle v2 c1_i32_626
  let v701 : BitVec 1 := Scalar.andi v699 v700
  let v702 : BitVec 32 := Scalar.extui v701
  let c0_i32_627 : BitVec 32 := 0#32
  let v703 : BitVec 1 := Scalar.cmpi .ne v702 c0_i32_627
  v703

def k0_off64 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_dev30 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v906 : BitVec 32 := Scalar.addi v2 c_m1_i32
  let c1_i32_754 : BitVec 32 := 1#32
  let v907 : BitVec 32 := Scalar.muli v906 c1_i32_754
  let v908 : BitVec 32 := Scalar.addi c0_i32_755 v907
  v908.toNat
def k0_cond64 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_628 : BitVec 32 := 1#32
  let v704 : BitVec 1 := Scalar.cmpi .sle v2 c1_i32_628
  let v705 : BitVec 32 := Scalar.extui v704
  let c0_i32_629 : BitVec 32 := 0#32
  let v706 : BitVec 1 := Scalar.cmpi .ne v705 c0_i32_629
  v706

def k0_off65 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  let v906 : BitVec 32 := Scalar.addi v905 c0_i32_753
  ![0, v906.toNat]
def k0_cond65 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_630 : BitVec 32 := 2#32
  let v707 : BitVec 1 := Scalar.cmpi .sge v2 c2_i32_630
  let v708 : BitVec 32 := Scalar.extui v707
  let c0_i32_631 : BitVec 32 := 0#32
  let v709 : BitVec 1 := Scalar.cmpi .ne v708 c0_i32_631
  v709

def k0_off66 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond66 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_632 : BitVec 32 := 2#32
  let v710 : BitVec 1 := Scalar.cmpi .sge v2 c2_i32_632
  let c2_i32_633 : BitVec 32 := 2#32
  let v711 : BitVec 1 := Scalar.cmpi .sle v2 c2_i32_633
  let v712 : BitVec 1 := Scalar.andi v710 v711
  let v713 : BitVec 32 := Scalar.extui v712
  let c0_i32_634 : BitVec 32 := 0#32
  let v714 : BitVec 1 := Scalar.cmpi .ne v713 c0_i32_634
  v714

def k0_off67 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_dev31 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_753 : BitVec 32 := 1#32
  let v906 : BitVec 32 := Scalar.addi v2 c1_i32_753
  let c1_i32_755 : BitVec 32 := 1#32
  let v907 : BitVec 32 := Scalar.muli v906 c1_i32_755
  let v908 : BitVec 32 := Scalar.addi c0_i32_756 v907
  v908.toNat
def k0_cond67 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_635 : BitVec 32 := 2#32
  let v715 : BitVec 1 := Scalar.cmpi .sge v2 c2_i32_635
  let v716 : BitVec 32 := Scalar.extui v715
  let c0_i32_636 : BitVec 32 := 0#32
  let v717 : BitVec 1 := Scalar.cmpi .ne v716 c0_i32_636
  v717

def k0_off68 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  let v906 : BitVec 32 := Scalar.addi v905 c0_i32_753
  ![0, v906.toNat]
def k0_cond68 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_637 : BitVec 32 := 1#32
  let v718 : BitVec 1 := Scalar.cmpi .sle v2 c1_i32_637
  let v719 : BitVec 32 := Scalar.extui v718
  let c0_i32_638 : BitVec 32 := 0#32
  let v720 : BitVec 1 := Scalar.cmpi .ne v719 c0_i32_638
  v720

def k0_off69 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond69 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_639 : BitVec 32 := 1#32
  let v721 : BitVec 1 := Scalar.cmpi .sge v2 c1_i32_639
  let c1_i32_640 : BitVec 32 := 1#32
  let v722 : BitVec 1 := Scalar.cmpi .sle v2 c1_i32_640
  let v723 : BitVec 1 := Scalar.andi v721 v722
  let v724 : BitVec 32 := Scalar.extui v723
  let c0_i32_641 : BitVec 32 := 0#32
  let v725 : BitVec 1 := Scalar.cmpi .ne v724 c0_i32_641
  v725

def k0_off70 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_dev32 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v906 : BitVec 32 := Scalar.addi v2 c_m1_i32
  let c1_i32_754 : BitVec 32 := 1#32
  let v907 : BitVec 32 := Scalar.muli v906 c1_i32_754
  let v908 : BitVec 32 := Scalar.addi c0_i32_755 v907
  v908.toNat
def k0_cond70 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_642 : BitVec 32 := 1#32
  let v726 : BitVec 1 := Scalar.cmpi .sle v2 c1_i32_642
  let v727 : BitVec 32 := Scalar.extui v726
  let c0_i32_643 : BitVec 32 := 0#32
  let v728 : BitVec 1 := Scalar.cmpi .ne v727 c0_i32_643
  v728

def k0_off71 (d0 : Dev nD) (c0_i32_753 : BitVec 32) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  let v906 : BitVec 32 := Scalar.addi v905 c0_i32_753
  ![0, v906.toNat]
def k0_cond71 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_644 : BitVec 32 := 3#32
  let v729 : BitVec 1 := Scalar.cmpi .sge v2 c3_i32_644
  let v730 : BitVec 32 := Scalar.extui v729
  let c0_i32_645 : BitVec 32 := 0#32
  let v731 : BitVec 1 := Scalar.cmpi .ne v730 c0_i32_645
  v731

def k0_off72 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.subi v2 c3_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_off73 (d0 : Dev nD) (c0_i32_761 : BitVec 32) : Fin 2 → Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_758 : BitVec 32 := 3#32
  let v913 : BitVec 32 := Scalar.subi v2 c3_i32_758
  let c8192_i32_759 : BitVec 32 := 8192#32
  let v914 : BitVec 32 := Scalar.muli v913 c8192_i32_759
  let c0_i32_760 : BitVec 32 := 0#32
  let v915 : BitVec 32 := Scalar.addi v914 c0_i32_760
  let v916 : BitVec 32 := Scalar.addi v915 c0_i32_761
  ![0, v916.toNat]
def k0_cond72 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_646 : BitVec 32 := 0#32
  let v732 : BitVec 1 := Scalar.cmpi .sle v2 c0_i32_646
  let v733 : BitVec 32 := Scalar.extui v732
  let c0_i32_647 : BitVec 32 := 0#32
  let v734 : BitVec 1 := Scalar.cmpi .ne v733 c0_i32_647
  v734

def k0_off74 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.addi v2 c3_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_off75 (d0 : Dev nD) (c0_i32_762 : BitVec 32) : Fin 2 → Nat :=
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_759 : BitVec 32 := 3#32
  let v913 : BitVec 32 := Scalar.addi v2 c3_i32_759
  let c8192_i32_760 : BitVec 32 := 8192#32
  let v914 : BitVec 32 := Scalar.muli v913 c8192_i32_760
  let c0_i32_761 : BitVec 32 := 0#32
  let v915 : BitVec 32 := Scalar.addi v914 c0_i32_761
  let v916 : BitVec 32 := Scalar.addi v915 c0_i32_762
  ![0, v916.toNat]
def k0_cond73 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_648 : BitVec 32 := 3#32
  let v735 : BitVec 1 := Scalar.cmpi .sge v2 c3_i32_648
  let v736 : BitVec 32 := Scalar.extui v735
  let c0_i32_649 : BitVec 32 := 0#32
  let v737 : BitVec 1 := Scalar.cmpi .ne v736 c0_i32_649
  v737

def k0_off76 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.subi v2 c3_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_off77 (d0 : Dev nD) (c0_i32_761 : BitVec 32) : Fin 2 → Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_758 : BitVec 32 := 3#32
  let v913 : BitVec 32 := Scalar.subi v2 c3_i32_758
  let c8192_i32_759 : BitVec 32 := 8192#32
  let v914 : BitVec 32 := Scalar.muli v913 c8192_i32_759
  let c2048_i32_760 : BitVec 32 := 2048#32
  let v915 : BitVec 32 := Scalar.addi v914 c2048_i32_760
  let v916 : BitVec 32 := Scalar.addi v915 c0_i32_761
  ![0, v916.toNat]
def k0_cond74 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_650 : BitVec 32 := 0#32
  let v738 : BitVec 1 := Scalar.cmpi .sle v2 c0_i32_650
  let v739 : BitVec 32 := Scalar.extui v738
  let c0_i32_651 : BitVec 32 := 0#32
  let v740 : BitVec 1 := Scalar.cmpi .ne v739 c0_i32_651
  v740

def k0_off78 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.addi v2 c3_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_off79 (d0 : Dev nD) (c0_i32_762 : BitVec 32) : Fin 2 → Nat :=
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_759 : BitVec 32 := 3#32
  let v913 : BitVec 32 := Scalar.addi v2 c3_i32_759
  let c8192_i32_760 : BitVec 32 := 8192#32
  let v914 : BitVec 32 := Scalar.muli v913 c8192_i32_760
  let c2048_i32_761 : BitVec 32 := 2048#32
  let v915 : BitVec 32 := Scalar.addi v914 c2048_i32_761
  let v916 : BitVec 32 := Scalar.addi v915 c0_i32_762
  ![0, v916.toNat]
def k0_cond75 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_652 : BitVec 32 := 3#32
  let v741 : BitVec 1 := Scalar.cmpi .sge v2 c3_i32_652
  let v742 : BitVec 32 := Scalar.extui v741
  let c0_i32_653 : BitVec 32 := 0#32
  let v743 : BitVec 1 := Scalar.cmpi .ne v742 c0_i32_653
  v743

def k0_off80 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.subi v2 c3_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_off81 (d0 : Dev nD) (c0_i32_761 : BitVec 32) : Fin 2 → Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_758 : BitVec 32 := 3#32
  let v913 : BitVec 32 := Scalar.subi v2 c3_i32_758
  let c8192_i32_759 : BitVec 32 := 8192#32
  let v914 : BitVec 32 := Scalar.muli v913 c8192_i32_759
  let c4096_i32_760 : BitVec 32 := 4096#32
  let v915 : BitVec 32 := Scalar.addi v914 c4096_i32_760
  let v916 : BitVec 32 := Scalar.addi v915 c0_i32_761
  ![0, v916.toNat]
def k0_cond76 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_654 : BitVec 32 := 0#32
  let v744 : BitVec 1 := Scalar.cmpi .sle v2 c0_i32_654
  let v745 : BitVec 32 := Scalar.extui v744
  let c0_i32_655 : BitVec 32 := 0#32
  let v746 : BitVec 1 := Scalar.cmpi .ne v745 c0_i32_655
  v746

def k0_off82 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.addi v2 c3_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_off83 (d0 : Dev nD) (c0_i32_762 : BitVec 32) : Fin 2 → Nat :=
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_759 : BitVec 32 := 3#32
  let v913 : BitVec 32 := Scalar.addi v2 c3_i32_759
  let c8192_i32_760 : BitVec 32 := 8192#32
  let v914 : BitVec 32 := Scalar.muli v913 c8192_i32_760
  let c4096_i32_761 : BitVec 32 := 4096#32
  let v915 : BitVec 32 := Scalar.addi v914 c4096_i32_761
  let v916 : BitVec 32 := Scalar.addi v915 c0_i32_762
  ![0, v916.toNat]
def k0_cond77 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_656 : BitVec 32 := 3#32
  let v747 : BitVec 1 := Scalar.cmpi .sge v2 c3_i32_656
  let v748 : BitVec 32 := Scalar.extui v747
  let c0_i32_657 : BitVec 32 := 0#32
  let v749 : BitVec 1 := Scalar.cmpi .ne v748 c0_i32_657
  v749

def k0_off84 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.subi v2 c3_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_off85 (d0 : Dev nD) (c0_i32_761 : BitVec 32) : Fin 2 → Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_758 : BitVec 32 := 3#32
  let v913 : BitVec 32 := Scalar.subi v2 c3_i32_758
  let c8192_i32_759 : BitVec 32 := 8192#32
  let v914 : BitVec 32 := Scalar.muli v913 c8192_i32_759
  let c6144_i32_760 : BitVec 32 := 6144#32
  let v915 : BitVec 32 := Scalar.addi v914 c6144_i32_760
  let v916 : BitVec 32 := Scalar.addi v915 c0_i32_761
  ![0, v916.toNat]
def k0_cond78 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_658 : BitVec 32 := 0#32
  let v750 : BitVec 1 := Scalar.cmpi .sle v2 c0_i32_658
  let v751 : BitVec 32 := Scalar.extui v750
  let c0_i32_659 : BitVec 32 := 0#32
  let v752 : BitVec 1 := Scalar.cmpi .ne v751 c0_i32_659
  v752

def k0_off86 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_750 : BitVec 32 := 3#32
  let v903 : BitVec 32 := Scalar.addi v2 c3_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_off87 (d0 : Dev nD) (c0_i32_762 : BitVec 32) : Fin 2 → Nat :=
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_759 : BitVec 32 := 3#32
  let v913 : BitVec 32 := Scalar.addi v2 c3_i32_759
  let c8192_i32_760 : BitVec 32 := 8192#32
  let v914 : BitVec 32 := Scalar.muli v913 c8192_i32_760
  let c6144_i32_761 : BitVec 32 := 6144#32
  let v915 : BitVec 32 := Scalar.addi v914 c6144_i32_761
  let v916 : BitVec 32 := Scalar.addi v915 c0_i32_762
  ![0, v916.toNat]
def k0_cond79 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_660 : BitVec 32 := 0#32
  let v753 : BitVec 1 := Scalar.cmpi .sge v2 c0_i32_660
  let c2_i32_661 : BitVec 32 := 2#32
  let v754 : BitVec 1 := Scalar.cmpi .sle v2 c2_i32_661
  let v755 : BitVec 1 := Scalar.andi v753 v754
  let v756 : BitVec 32 := Scalar.extui v755
  let c0_i32_662 : BitVec 32 := 0#32
  let v757 : BitVec 1 := Scalar.cmpi .ne v756 c0_i32_662
  v757

def k0_off88 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.subi v2 c0_i32_750
  let c0_i32_755 : BitVec 32 := 0#32
  ![v903.toNat, 0]
def k0_cond80 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_663 : BitVec 32 := 1#32
  let v758 : BitVec 1 := Scalar.cmpi .sge v2 c1_i32_663
  let c3_i32_664 : BitVec 32 := 3#32
  let v759 : BitVec 1 := Scalar.cmpi .sle v2 c3_i32_664
  let v760 : BitVec 1 := Scalar.andi v758 v759
  let v761 : BitVec 32 := Scalar.extui v760
  let c0_i32_665 : BitVec 32 := 0#32
  let v762 : BitVec 1 := Scalar.cmpi .ne v761 c0_i32_665
  v762

def k0_off89 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.addi v2 c0_i32_750
  let c0_i32_754 : BitVec 32 := 0#32
  ![v903.toNat, 0]
def k0_cond81 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_666 : BitVec 32 := 0#32
  let v763 : BitVec 1 := Scalar.cmpi .sge v2 c0_i32_666
  let c2_i32_667 : BitVec 32 := 2#32
  let v764 : BitVec 1 := Scalar.cmpi .sle v2 c2_i32_667
  let v765 : BitVec 1 := Scalar.andi v763 v764
  let v766 : BitVec 32 := Scalar.extui v765
  let c0_i32_668 : BitVec 32 := 0#32
  let v767 : BitVec 1 := Scalar.cmpi .ne v766 c0_i32_668
  v767

def k0_off90 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.subi v2 c0_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond82 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_669 : BitVec 32 := 1#32
  let v768 : BitVec 1 := Scalar.cmpi .sge v2 c1_i32_669
  let c3_i32_670 : BitVec 32 := 3#32
  let v769 : BitVec 1 := Scalar.cmpi .sle v2 c3_i32_670
  let v770 : BitVec 1 := Scalar.andi v768 v769
  let v771 : BitVec 32 := Scalar.extui v770
  let c0_i32_671 : BitVec 32 := 0#32
  let v772 : BitVec 1 := Scalar.cmpi .ne v771 c0_i32_671
  v772

def k0_off91 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.addi v2 c0_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond83 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_672 : BitVec 32 := 0#32
  let v773 : BitVec 1 := Scalar.cmpi .sge v2 c0_i32_672
  let c2_i32_673 : BitVec 32 := 2#32
  let v774 : BitVec 1 := Scalar.cmpi .sle v2 c2_i32_673
  let v775 : BitVec 1 := Scalar.andi v773 v774
  let v776 : BitVec 32 := Scalar.extui v775
  let c0_i32_674 : BitVec 32 := 0#32
  let v777 : BitVec 1 := Scalar.cmpi .ne v776 c0_i32_674
  v777

def k0_off92 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.subi v2 c0_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond84 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_675 : BitVec 32 := 1#32
  let v778 : BitVec 1 := Scalar.cmpi .sge v2 c1_i32_675
  let c3_i32_676 : BitVec 32 := 3#32
  let v779 : BitVec 1 := Scalar.cmpi .sle v2 c3_i32_676
  let v780 : BitVec 1 := Scalar.andi v778 v779
  let v781 : BitVec 32 := Scalar.extui v780
  let c0_i32_677 : BitVec 32 := 0#32
  let v782 : BitVec 1 := Scalar.cmpi .ne v781 c0_i32_677
  v782

def k0_off93 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.addi v2 c0_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond85 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_678 : BitVec 32 := 0#32
  let v783 : BitVec 1 := Scalar.cmpi .sge v2 c0_i32_678
  let c2_i32_679 : BitVec 32 := 2#32
  let v784 : BitVec 1 := Scalar.cmpi .sle v2 c2_i32_679
  let v785 : BitVec 1 := Scalar.andi v783 v784
  let v786 : BitVec 32 := Scalar.extui v785
  let c0_i32_680 : BitVec 32 := 0#32
  let v787 : BitVec 1 := Scalar.cmpi .ne v786 c0_i32_680
  v787

def k0_off94 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.subi v2 c0_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond86 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_681 : BitVec 32 := 1#32
  let v788 : BitVec 1 := Scalar.cmpi .sge v2 c1_i32_681
  let c3_i32_682 : BitVec 32 := 3#32
  let v789 : BitVec 1 := Scalar.cmpi .sle v2 c3_i32_682
  let v790 : BitVec 1 := Scalar.andi v788 v789
  let v791 : BitVec 32 := Scalar.extui v790
  let c0_i32_683 : BitVec 32 := 0#32
  let v792 : BitVec 1 := Scalar.cmpi .ne v791 c0_i32_683
  v792

def k0_off95 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.addi v2 c0_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond87 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_684 : BitVec 32 := 0#32
  let v793 : BitVec 1 := Scalar.cmpi .sge v2 c0_i32_684
  let c2_i32_685 : BitVec 32 := 2#32
  let v794 : BitVec 1 := Scalar.cmpi .sle v2 c2_i32_685
  let v795 : BitVec 1 := Scalar.andi v793 v794
  let v796 : BitVec 32 := Scalar.extui v795
  let c0_i32_686 : BitVec 32 := 0#32
  let v797 : BitVec 1 := Scalar.cmpi .ne v796 c0_i32_686
  v797

def k0_off96 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.subi v2 c0_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond88 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_687 : BitVec 32 := 1#32
  let v798 : BitVec 1 := Scalar.cmpi .sge v2 c1_i32_687
  let c3_i32_688 : BitVec 32 := 3#32
  let v799 : BitVec 1 := Scalar.cmpi .sle v2 c3_i32_688
  let v800 : BitVec 1 := Scalar.andi v798 v799
  let v801 : BitVec 32 := Scalar.extui v800
  let c0_i32_689 : BitVec 32 := 0#32
  let v802 : BitVec 1 := Scalar.cmpi .ne v801 c0_i32_689
  v802

def k0_off97 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_750 : BitVec 32 := 0#32
  let v903 : BitVec 32 := Scalar.addi v2 c0_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond89 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_690 : BitVec 32 := 1#32
  let v803 : BitVec 1 := Scalar.cmpi .sge v2 c1_i32_690
  let c2_i32_691 : BitVec 32 := 2#32
  let v804 : BitVec 1 := Scalar.cmpi .sle v2 c2_i32_691
  let v805 : BitVec 1 := Scalar.andi v803 v804
  let v806 : BitVec 32 := Scalar.extui v805
  let c0_i32_692 : BitVec 32 := 0#32
  let v807 : BitVec 1 := Scalar.cmpi .ne v806 c0_i32_692
  v807

def k0_off98 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c0_i32_755 : BitVec 32 := 0#32
  ![v903.toNat, 0]
def k0_cond90 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_693 : BitVec 32 := 1#32
  let v808 : BitVec 1 := Scalar.cmpi .sge v2 c1_i32_693
  let c2_i32_694 : BitVec 32 := 2#32
  let v809 : BitVec 1 := Scalar.cmpi .sle v2 c2_i32_694
  let v810 : BitVec 1 := Scalar.andi v808 v809
  let v811 : BitVec 32 := Scalar.extui v810
  let c0_i32_695 : BitVec 32 := 0#32
  let v812 : BitVec 1 := Scalar.cmpi .ne v811 c0_i32_695
  v812

def k0_off99 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c0_i32_754 : BitVec 32 := 0#32
  ![v903.toNat, 0]
def k0_cond91 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_696 : BitVec 32 := 1#32
  let v813 : BitVec 1 := Scalar.cmpi .sge v2 c1_i32_696
  let c2_i32_697 : BitVec 32 := 2#32
  let v814 : BitVec 1 := Scalar.cmpi .sle v2 c2_i32_697
  let v815 : BitVec 1 := Scalar.andi v813 v814
  let v816 : BitVec 32 := Scalar.extui v815
  let c0_i32_698 : BitVec 32 := 0#32
  let v817 : BitVec 1 := Scalar.cmpi .ne v816 c0_i32_698
  v817

def k0_off100 (d0 : Dev nD) : Fin 2 → Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond92 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_699 : BitVec 32 := 1#32
  let v818 : BitVec 1 := Scalar.cmpi .sge v2 c1_i32_699
  let c2_i32_700 : BitVec 32 := 2#32
  let v819 : BitVec 1 := Scalar.cmpi .sle v2 c2_i32_700
  let v820 : BitVec 1 := Scalar.andi v818 v819
  let v821 : BitVec 32 := Scalar.extui v820
  let c0_i32_701 : BitVec 32 := 0#32
  let v822 : BitVec 1 := Scalar.cmpi .ne v821 c0_i32_701
  v822

def k0_off101 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond93 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_702 : BitVec 32 := 1#32
  let v823 : BitVec 1 := Scalar.cmpi .sge v2 c1_i32_702
  let c2_i32_703 : BitVec 32 := 2#32
  let v824 : BitVec 1 := Scalar.cmpi .sle v2 c2_i32_703
  let v825 : BitVec 1 := Scalar.andi v823 v824
  let v826 : BitVec 32 := Scalar.extui v825
  let c0_i32_704 : BitVec 32 := 0#32
  let v827 : BitVec 1 := Scalar.cmpi .ne v826 c0_i32_704
  v827

def k0_off102 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond94 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_705 : BitVec 32 := 1#32
  let v828 : BitVec 1 := Scalar.cmpi .sge v2 c1_i32_705
  let c2_i32_706 : BitVec 32 := 2#32
  let v829 : BitVec 1 := Scalar.cmpi .sle v2 c2_i32_706
  let v830 : BitVec 1 := Scalar.andi v828 v829
  let v831 : BitVec 32 := Scalar.extui v830
  let c0_i32_707 : BitVec 32 := 0#32
  let v832 : BitVec 1 := Scalar.cmpi .ne v831 c0_i32_707
  v832

def k0_off103 (d0 : Dev nD) : Fin 2 → Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond95 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_708 : BitVec 32 := 1#32
  let v833 : BitVec 1 := Scalar.cmpi .sge v2 c1_i32_708
  let c2_i32_709 : BitVec 32 := 2#32
  let v834 : BitVec 1 := Scalar.cmpi .sle v2 c2_i32_709
  let v835 : BitVec 1 := Scalar.andi v833 v834
  let v836 : BitVec 32 := Scalar.extui v835
  let c0_i32_710 : BitVec 32 := 0#32
  let v837 : BitVec 1 := Scalar.cmpi .ne v836 c0_i32_710
  v837

def k0_off104 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond96 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_711 : BitVec 32 := 1#32
  let v838 : BitVec 1 := Scalar.cmpi .sge v2 c1_i32_711
  let c2_i32_712 : BitVec 32 := 2#32
  let v839 : BitVec 1 := Scalar.cmpi .sle v2 c2_i32_712
  let v840 : BitVec 1 := Scalar.andi v838 v839
  let v841 : BitVec 32 := Scalar.extui v840
  let c0_i32_713 : BitVec 32 := 0#32
  let v842 : BitVec 1 := Scalar.cmpi .ne v841 c0_i32_713
  v842

def k0_off105 (d0 : Dev nD) : Fin 2 → Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond97 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_714 : BitVec 32 := 1#32
  let v843 : BitVec 1 := Scalar.cmpi .sge v2 c1_i32_714
  let c2_i32_715 : BitVec 32 := 2#32
  let v844 : BitVec 1 := Scalar.cmpi .sle v2 c2_i32_715
  let v845 : BitVec 1 := Scalar.andi v843 v844
  let v846 : BitVec 32 := Scalar.extui v845
  let c0_i32_716 : BitVec 32 := 0#32
  let v847 : BitVec 1 := Scalar.cmpi .ne v846 c0_i32_716
  v847

def k0_off106 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.subi v2 c1_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond98 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_717 : BitVec 32 := 1#32
  let v848 : BitVec 1 := Scalar.cmpi .sge v2 c1_i32_717
  let c2_i32_718 : BitVec 32 := 2#32
  let v849 : BitVec 1 := Scalar.cmpi .sle v2 c2_i32_718
  let v850 : BitVec 1 := Scalar.andi v848 v849
  let v851 : BitVec 32 := Scalar.extui v850
  let c0_i32_719 : BitVec 32 := 0#32
  let v852 : BitVec 1 := Scalar.cmpi .ne v851 c0_i32_719
  v852

def k0_off107 (d0 : Dev nD) : Fin 2 → Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_750 : BitVec 32 := 1#32
  let v903 : BitVec 32 := Scalar.addi v2 c1_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond99 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_720 : BitVec 32 := 2#32
  let v853 : BitVec 1 := Scalar.cmpi .sge v2 c2_i32_720
  let c2_i32_721 : BitVec 32 := 2#32
  let v854 : BitVec 1 := Scalar.cmpi .sle v2 c2_i32_721
  let v855 : BitVec 1 := Scalar.andi v853 v854
  let v856 : BitVec 32 := Scalar.extui v855
  let c0_i32_722 : BitVec 32 := 0#32
  let v857 : BitVec 1 := Scalar.cmpi .ne v856 c0_i32_722
  v857

def k0_off108 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c0_i32_755 : BitVec 32 := 0#32
  ![v903.toNat, 0]
def k0_cond100 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_723 : BitVec 32 := 1#32
  let v858 : BitVec 1 := Scalar.cmpi .sge v2 c1_i32_723
  let c1_i32_724 : BitVec 32 := 1#32
  let v859 : BitVec 1 := Scalar.cmpi .sle v2 c1_i32_724
  let v860 : BitVec 1 := Scalar.andi v858 v859
  let v861 : BitVec 32 := Scalar.extui v860
  let c0_i32_725 : BitVec 32 := 0#32
  let v862 : BitVec 1 := Scalar.cmpi .ne v861 c0_i32_725
  v862

def k0_off109 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c0_i32_754 : BitVec 32 := 0#32
  ![v903.toNat, 0]
def k0_cond101 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_726 : BitVec 32 := 2#32
  let v863 : BitVec 1 := Scalar.cmpi .sge v2 c2_i32_726
  let c2_i32_727 : BitVec 32 := 2#32
  let v864 : BitVec 1 := Scalar.cmpi .sle v2 c2_i32_727
  let v865 : BitVec 1 := Scalar.andi v863 v864
  let v866 : BitVec 32 := Scalar.extui v865
  let c0_i32_728 : BitVec 32 := 0#32
  let v867 : BitVec 1 := Scalar.cmpi .ne v866 c0_i32_728
  v867

def k0_off110 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond102 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_729 : BitVec 32 := 1#32
  let v868 : BitVec 1 := Scalar.cmpi .sge v2 c1_i32_729
  let c1_i32_730 : BitVec 32 := 1#32
  let v869 : BitVec 1 := Scalar.cmpi .sle v2 c1_i32_730
  let v870 : BitVec 1 := Scalar.andi v868 v869
  let v871 : BitVec 32 := Scalar.extui v870
  let c0_i32_731 : BitVec 32 := 0#32
  let v872 : BitVec 1 := Scalar.cmpi .ne v871 c0_i32_731
  v872

def k0_off111 (d0 : Dev nD) : Fin 2 → Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c0_i32_752 : BitVec 32 := 0#32
  let v905 : BitVec 32 := Scalar.addi v904 c0_i32_752
  ![0, v905.toNat]
def k0_cond103 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_732 : BitVec 32 := 2#32
  let v873 : BitVec 1 := Scalar.cmpi .sge v2 c2_i32_732
  let c2_i32_733 : BitVec 32 := 2#32
  let v874 : BitVec 1 := Scalar.cmpi .sle v2 c2_i32_733
  let v875 : BitVec 1 := Scalar.andi v873 v874
  let v876 : BitVec 32 := Scalar.extui v875
  let c0_i32_734 : BitVec 32 := 0#32
  let v877 : BitVec 1 := Scalar.cmpi .ne v876 c0_i32_734
  v877

def k0_off112 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond104 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_735 : BitVec 32 := 1#32
  let v878 : BitVec 1 := Scalar.cmpi .sge v2 c1_i32_735
  let c1_i32_736 : BitVec 32 := 1#32
  let v879 : BitVec 1 := Scalar.cmpi .sle v2 c1_i32_736
  let v880 : BitVec 1 := Scalar.andi v878 v879
  let v881 : BitVec 32 := Scalar.extui v880
  let c0_i32_737 : BitVec 32 := 0#32
  let v882 : BitVec 1 := Scalar.cmpi .ne v881 c0_i32_737
  v882

def k0_off113 (d0 : Dev nD) : Fin 2 → Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c2048_i32_752 : BitVec 32 := 2048#32
  let v905 : BitVec 32 := Scalar.addi v904 c2048_i32_752
  ![0, v905.toNat]
def k0_cond105 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_738 : BitVec 32 := 2#32
  let v883 : BitVec 1 := Scalar.cmpi .sge v2 c2_i32_738
  let c2_i32_739 : BitVec 32 := 2#32
  let v884 : BitVec 1 := Scalar.cmpi .sle v2 c2_i32_739
  let v885 : BitVec 1 := Scalar.andi v883 v884
  let v886 : BitVec 32 := Scalar.extui v885
  let c0_i32_740 : BitVec 32 := 0#32
  let v887 : BitVec 1 := Scalar.cmpi .ne v886 c0_i32_740
  v887

def k0_off114 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond106 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_741 : BitVec 32 := 1#32
  let v888 : BitVec 1 := Scalar.cmpi .sge v2 c1_i32_741
  let c1_i32_742 : BitVec 32 := 1#32
  let v889 : BitVec 1 := Scalar.cmpi .sle v2 c1_i32_742
  let v890 : BitVec 1 := Scalar.andi v888 v889
  let v891 : BitVec 32 := Scalar.extui v890
  let c0_i32_743 : BitVec 32 := 0#32
  let v892 : BitVec 1 := Scalar.cmpi .ne v891 c0_i32_743
  v892

def k0_off115 (d0 : Dev nD) : Fin 2 → Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c4096_i32_752 : BitVec 32 := 4096#32
  let v905 : BitVec 32 := Scalar.addi v904 c4096_i32_752
  ![0, v905.toNat]
def k0_cond107 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_744 : BitVec 32 := 2#32
  let v893 : BitVec 1 := Scalar.cmpi .sge v2 c2_i32_744
  let c2_i32_745 : BitVec 32 := 2#32
  let v894 : BitVec 1 := Scalar.cmpi .sle v2 c2_i32_745
  let v895 : BitVec 1 := Scalar.andi v893 v894
  let v896 : BitVec 32 := Scalar.extui v895
  let c0_i32_746 : BitVec 32 := 0#32
  let v897 : BitVec 1 := Scalar.cmpi .ne v896 c0_i32_746
  v897

def k0_off116 (d0 : Dev nD) : Fin 2 → Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.subi v2 c2_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
def k0_cond108 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_747 : BitVec 32 := 1#32
  let v898 : BitVec 1 := Scalar.cmpi .sge v2 c1_i32_747
  let c1_i32_748 : BitVec 32 := 1#32
  let v899 : BitVec 1 := Scalar.cmpi .sle v2 c1_i32_748
  let v900 : BitVec 1 := Scalar.andi v898 v899
  let v901 : BitVec 32 := Scalar.extui v900
  let c0_i32_749 : BitVec 32 := 0#32
  let v902 : BitVec 1 := Scalar.cmpi .ne v901 c0_i32_749
  v902

def k0_off117 (d0 : Dev nD) : Fin 2 → Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_750 : BitVec 32 := 2#32
  let v903 : BitVec 32 := Scalar.addi v2 c2_i32_750
  let c8192_i32_751 : BitVec 32 := 8192#32
  let v904 : BitVec 32 := Scalar.muli v903 c8192_i32_751
  let c6144_i32_752 : BitVec 32 := 6144#32
  let v905 : BitVec 32 := Scalar.addi v904 c6144_i32_752
  ![0, v905.toNat]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x32768 : Shape := ⟨2, ![1024, 32768]⟩
abbrev S512x32768 : Shape := ⟨2, ![512, 32768]⟩
abbrev S_ : Shape := ⟨0, ![]⟩
abbrev S512 : Shape := ⟨1, ![512]⟩
abbrev S512x1 : Shape := ⟨2, ![512, 1]⟩

abbrev nBuf : Space → Nat
  | .hbm => 14
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S512x32768, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x32768, .f32⟩
  | .hbm, ⟨7, _⟩ => ⟨S512x32768, .f32⟩
  | .hbm, ⟨8, _⟩ => ⟨S512x32768, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x32768, .f32⟩
  | .hbm, ⟨13, _⟩ => ⟨S512x32768, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Base.lean ====
/-
The contents the run of the kernel goes through, the pieces its buffers are cut into, and its semaphores.

A device of the mesh is its place on the axis `z`. A transfer to another device is named by a direction
(`false` to the device after, `true` to the device before), a hop, and a part: parts 0 to 3 are the four
groups of 2048 columns of a device's block of the exponentials, part 4 is its row of the statistics.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Indices -/

/-- The index of a two-dimensional shape at two coordinates, each taken below its extent. -/
def ix2 {a b : ℕ} (i j : ℕ) (ha : 0 < a := by decide) (hb : 0 < b := by decide) : (⟨2, ![a, b]⟩ : Shape).Idx :=
  fun k => match k with
    | ⟨0, _⟩ => ⟨i % a, Nat.mod_lt _ ha⟩
    | ⟨1, _⟩ => ⟨j % b, Nat.mod_lt _ hb⟩

/-- The columns `lo` to `lo + n` of a `512 × 32768` array. -/
def gcol (lo n : ℕ) : Finset S512x32768.Idx := Finset.univ.filter fun i => lo ≤ (i 1).val ∧ (i 1).val < lo + n
/-- Row `j` of the statistics. -/
def srow (j : ℕ) : Finset S4x512.Idx := Finset.univ.filter fun i => (i 0).val = j
/-- Slot `s` of the two weight buffers. -/
def wslot (s : ℕ) : Finset S2x1024x1024.Idx := Finset.univ.filter fun i => (i 0).val = s
/-- Slot `s` of the two exponential buffers. -/
def eslot (s : ℕ) : Finset S2x512x1024.Idx := Finset.univ.filter fun i => (i 0).val = s

/-! ## The buffers -/

/-- The staged copy of `x`, as the body sees it. -/
abbrev xM : Memref sig .tc .vmem S512x1024 .f32 := Memref.whole cc0_stg0_0
/-- A device's columns of `W`. -/
abbrev wM : Memref sig .tc .hbm S1024x8192 .f32 := Memref.whole main_arg1
/-- The result array. -/
abbrev oM : Memref sig .tc .hbm S512x32768 .f32 := Memref.whole main_v1_0
/-- The array the exponentials are gathered in. -/
abbrev gM : Memref sig .tc .hbm S512x32768 .f32 := Memref.whole main_v1_1
/-- The two buffers of weight tiles. -/
abbrev wbM : Memref sig .tc .vmem S2x1024x1024 .f32 := Memref.whole cc0_scratch0
/-- The two buffers of tiles of exponentials. -/
abbrev ebM : Memref sig .tc .vmem S2x512x1024 .f32 := Memref.whole cc0_scratch1
/-- The statistics: one row of sums for every device. -/
abbrev stM : Memref sig .tc .vmem S4x512 .f32 := Memref.whole cc0_scratch2

/-- The place of device `c`'s staged `x`. -/
abbrev xL (c : Dev nD) : Loc nD τ sig := (c : Thread nD τ).loc cc0_stg0_0
/-- The place of its columns of `W`. -/
abbrev wL (c : Dev nD) : Loc nD τ sig := (c : Thread nD τ).loc main_arg1
/-- The place of its result. -/
abbrev oL (c : Dev nD) : Loc nD τ sig := (c : Thread nD τ).loc main_v1_0
/-- The place of its gathered exponentials. -/
abbrev gL (c : Dev nD) : Loc nD τ sig := (c : Thread nD τ).loc main_v1_1
/-- The place of its weight buffers. -/
abbrev wbL (c : Dev nD) : Loc nD τ sig := (c : Thread nD τ).loc cc0_scratch0
/-- The place of its buffers of exponentials. -/
abbrev ebL (c : Dev nD) : Loc nD τ sig := (c : Thread nD τ).loc cc0_scratch1
/-- The place of its statistics. -/
abbrev stL (c : Dev nD) : Loc nD τ sig := (c : Thread nD τ).loc cc0_scratch2

/-! ## Contents -/

variable (m : (ℓ : Loc nD τ sig) → Buf (Elt F) ℓ)

/-- The block of `x` a device works on. -/
def xstg (c : Dev nD) : Vec F S512x1024 .f32 :=
  (win0_0.blk (0 : Fin 1)).view.read (Elt F) (m ((c : Thread nD τ).loc main_arg0))
/-- The block of `W` a device holds. -/
def wblk (c : Dev nD) : Vec F S1024x8192 .f32 := m (wL c)
/-- Tile `t` of that block: 1024 of its columns. -/
def wT (c : Dev nD) (t : ℕ) : Vec F S1024x1024 .f32 := fun x => wblk m c (ix2 (x 0).val (1024 * t + (x 1).val))
/-- The tile as a slot of the weight buffers holds it. -/
def w3 (c : Dev nD) (t : ℕ) : Vec F S1x1024x1024 .f32 := shapeCast S1x1024x1024 (wT m c t) (by decide)
/-- The exponentials of the tile of `x @ W`. -/
def eT (c : Dev nD) (t : ℕ) : FVec F S512x1024 .f32 := k0_pay34 (xstg m c) (w3 m c t)
/-- A device's row sums after `t` tiles. -/
def sAcc (c : Dev nD) : ℕ → FVec F S512 .f32
  | 0 => k0_pay33
  | t + 1 => k0_pay36 (sAcc c t) (xstg m c) (w3 m c t)

/-- The device at place `n`. -/
def dev (n : ℕ) : Dev nD := ⟨n % 4, Nat.mod_lt _ (by decide)⟩

/-- The exponentials of the whole product. -/
def gAll : Vec F S512x32768 .f32 := fun i => eT m (dev ((i 1).val / 8192)) ((i 1).val % 8192 / 1024) (ix2 (i 0).val ((i 1).val % 1024))
/-- The statistics: row `j` device `j`'s sums. -/
def sAll : Vec F S4x512 .f32 := fun i => k0_pay62 (sAcc m (dev (i 0).val) 8) (ix2 (a := 1) 0 (i 1).val)
/-- The reciprocals of the total sums. -/
def rV : FVec F S512x1 .f32 := k0_pay63 (sAll m)
/-- The result. -/
def outAll : Vec F S512x32768 .f32 := fun i => FloatOps.mulf (gAll m i) (rV m (ix2 (b := 1) (i 0).val 0))
/-- 1024 columns of the exponentials from column `lo`. -/
def gBlk (lo : ℕ) : FVec F S512x1024 .f32 := fun x => gAll m (ix2 (x 0).val (lo + (x 1).val))

/-! ## Transfers between devices -/

/-- Direction, hop and part. -/
abbrev TK : Type := Bool × Fin 3 × Fin 5
/-- A direction's hop and part. -/
abbrev TI : Type := Fin 3 × Fin 5

/-- A device holds, after `h` hops in direction `b`, the block that started `h` places back. -/
def ex (d : Dev nD) (b : Bool) (h : ℕ) : Bool := bif b then decide (d.val + h ≤ 3) else decide (h ≤ d.val)
/-- Which block that is. -/
def slot (d : Dev nD) (b : Bool) (h : ℕ) : ℕ := bif b then d.val + h else d.val - h
/-- Whether a device has a neighbour in direction `b`. -/
def nbr (d : Dev nD) (b : Bool) : Bool := bif b then decide (1 ≤ d.val) else decide (d.val ≤ 2)
/-- The neighbour. -/
def peer (d : Dev nD) (b : Bool) : Dev nD := bif b then dev (d.val - 1) else dev (d.val + 1)
/-- Whether a device sends transfer `k`. -/
def act (d : Dev nD) (k : TK) : Bool := ex d k.1 k.2.1.val && nbr d k.1
/-- Whether it receives transfer `k`. -/
def ract (d : Dev nD) (k : TK) : Bool := ex d k.1 (k.2.1.val + 1)

/-- The DMA semaphore on which the sender of transfer `k` sees it done. -/
def sS (k : TK) : DmaSem sig :=
  if k.2.2.val = 4 then bif k.1 then ⟨12 + k.2.1.val, by show _ < 66; omega⟩ else ⟨6 + k.2.1.val, by show _ < 66; omega⟩
  else bif k.1 then ⟨42 + 4 * k.2.1.val + k.2.2.val, by show _ < 66; omega⟩ else ⟨18 + 4 * k.2.1.val + k.2.2.val, by show _ < 66; omega⟩
/-- The DMA semaphore on which its receiver sees it arrived. -/
def rS (k : TK) : DmaSem sig :=
  if k.2.2.val = 4 then bif k.1 then ⟨15 + k.2.1.val, by show _ < 66; omega⟩ else ⟨9 + k.2.1.val, by show _ < 66; omega⟩
  else bif k.1 then ⟨54 + (4 * k.2.1.val + k.2.2.val) % 12, by show _ < 66; omega⟩ else ⟨30 + 4 * k.2.1.val + k.2.2.val, by show _ < 66; omega⟩
/-- The semaphore of a transfer: of its receiver if `b`, of its sender otherwise. -/
def xS (bk : Bool × TK) : DmaSem sig := bif bk.1 then rS bk.2 else sS bk.2

/-- Which transfer a DMA semaphore serves. -/
def dec (i : DmaSem sig) : Option (Bool × TK) :=
  if i.val < 6 then none
  else if i.val < 18 then
    some (decide ((i.val - 6) / 3 % 2 = 1), decide (2 ≤ (i.val - 6) / 3), ⟨(i.val - 6) % 3, Nat.mod_lt _ (by decide)⟩, 4)
  else
    some (decide ((i.val - 18) / 12 % 2 = 1), decide (2 ≤ (i.val - 18) / 12), ⟨(i.val - 18) % 12 / 4, by omega⟩,
      ⟨(i.val - 18) % 4, by omega⟩)

/-- A transfer's semaphore serves that transfer, on its side. -/
theorem dec_xS : ∀ bk : Bool × TK, dec (xS bk) = some bk := by decide
/-- The semaphore of a transfer's sender serves it. -/
theorem dec_sS (k : TK) : dec (sS k) = some (false, k) := dec_xS (false, k)
/-- The semaphore of a transfer's receiver serves it. -/
theorem dec_rS (k : TK) : dec (rS k) = some (true, k) := dec_xS (true, k)

/-- The runtime's barrier semaphore of collective id 0. -/
abbrev barS : Sem sig := (SemArray.scalar (sig.barrier 0 rfl) : Sems sig S_).sem

end Cert.KernelProof

end
-- ==== Proof.Sched.lean ====
/-
The protocol of the exchange: the cells, the schedule of their one round, what each device owes, and the
families of what a device holds of its transfers before and after each step.

A device's barrier cell has a duty for each of its neighbours, paid by the neighbour's entry signal, which
hands over the places the device will write there. The receive cell of a transfer has one duty, paid by the
transfer itself, which hands over the landed piece at its contents; the send cell of a transfer has one duty,
which gives a row of the statistics back to its sender.
-/
module

public import proofs.«01_k».proof.Proof.Base

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ghost state of the rounds of the cells. -/
abbrev UB : Type := URounds (GSem nD τ sig) Bool
/-- All the ghost state: the pipeline's, the rounds', the counters of the local copies. -/
abbrev UU : Type := UR sig nD τ × (UB × Counters)

local notation "𝕄" => MT nD τ sig Unit (Elt F) ℕ UU ℕ

/-- The pipeline's part of it. -/
abbrev EP : Emb (UR sig nD τ) (MT nD τ sig Unit (Elt F) ℕ UU ℕ) := embL
/-- The rounds' part. -/
abbrev ER : Emb UB (MT nD τ sig Unit (Elt F) ℕ UU ℕ) := (Emb.inl : Emb UB (UB × Counters)).trans embR
/-- The counters' part. -/
abbrev EC : UEmb Counters (MT nD τ sig Unit (Elt F) ℕ UU ℕ) := countersEmb (U := UU)

/-- The rounds' part lies within the ghost state. -/
instance ER_landsIn : (ER : Emb UB 𝕄).LandsIn (upEmb : UEmb _ 𝕄) := by infer_instance
/-- The counters' part lies within it. -/
instance EC_landsIn : (EC : UEmb Counters 𝕄).LandsIn (upEmb : UEmb _ 𝕄) := by infer_instance

/-- No loop needs a variant. -/
abbrev 𝒱₀ : Variants := Variants.none

/-! ## Cells -/

/-- A device's cells: its barrier, and a send and a receive cell per transfer. -/
abbrev CI : Type := Option (Bool × TK)

/-- The semaphore of a cell. -/
def csem : CI → SemLoc sig
  | none => .reg barS
  | some bk => .dma (xS bk)

/-- A cell: a device and one of its semaphores. -/
abbrev kcell (x : Dev nD × CI) : GSem nD τ sig := ((x.1 : Thread nD τ), csem x.2)
/-- A device's barrier. -/
abbrev barCell (d : Dev nD) : GSem nD τ sig := kcell (d, none)
/-- The cell on which device `d` sees that its transfer `k` is done. -/
abbrev sCell (d : Dev nD) (k : TK) : GSem nD τ sig := kcell (d, some (false, k))
/-- The cell on which device `d` sees that transfer `k` has arrived. -/
abbrev rCell (d : Dev nD) (k : TK) : GSem nD τ sig := kcell (d, some (true, k))

/-- Which of a device's cells a semaphore is. -/
def decS : SemLoc sig → Option CI
  | .reg s => if s = barS then some none else none
  | .dma i => (dec i).map some

/-- A cell's semaphore serves that cell. -/
theorem decS_csem (i : CI) : decS (csem i) = some i := by
  rcases i with _ | bk
  · show (if barS = barS then some none else none) = _; exact if_pos rfl
  · show (dec (xS bk)).map some = _; rw [dec_xS]; rfl

/-- Different cells of a device have different semaphores. -/
theorem csem_injective : Function.Injective csem := fun i j h =>
  Option.some.inj ((decS_csem i).symm.trans ((congrArg decS h).trans (decS_csem j)))

/-- Different cells are different semaphores. -/
theorem kcell_injective : Function.Injective kcell := by
  rintro ⟨c, i⟩ ⟨c', i'⟩ h
  have h1 : c = c' := congrArg (fun g : GSem nD τ sig => g.1.1) h
  have h2 : csem i = csem i' := congrArg Prod.snd h
  rw [h1, csem_injective h2]

/-! ## Amounts and pieces -/

/-- What a row of the statistics counts. -/
abbrev Nst : ℕ := ((stM.slice (Rect.unit (s := S4x512) ![0, 0] S1x512.size (by decide)) (fun _ => rfl)).squeeze S512 squeezes_S1x512_S512).view.dmaCredit
/-- What a group of 2048 columns of the exponentials counts. -/
abbrev Nd : ℕ := (gM.slice (Rect.unit (s := S512x32768) ![0, 0] S512x2048.size (by decide)) (fun _ => rfl)).view.dmaCredit

/-- What a transfer of part `u` counts. -/
def NN (u : Fin 5) : ℕ := if u = 4 then Nst else Nd

/-- It counts something. -/
theorem NN_pos (u : Fin 5) : 0 < NN u := by
  unfold NN; split
  · exact View.dmaCredit_pos _ (by decide)
  · exact View.dmaCredit_pos _ (by decide)

variable (m : (ℓ : Loc nD τ sig) → Buf (Elt F) ℓ)

/-- Part `u` of block `j` on device `d`, at its contents and share `q`. -/
def pt (d : Dev nD) (j : ℕ) (u : Fin 5) (q : PosShare TreeShare) : sProp 𝕄 :=
  if u = 4 then (stL d ↦[srow j]{q} sAll m) else (gL d ↦[gcol (8192 * j + 2048 * u.val) 2048]{q} gAll m)

/-- The place of that part, at whatever contents. -/
def junk (d : Dev nD) (j : ℕ) (u : Fin 5) : sProp 𝕄 :=
  if u = 4 then iprop(∃ f, stL d ↦[srow j]{fullShare} f) else iprop(∃ f, gL d ↦[gcol (8192 * j + 2048 * u.val) 2048]{fullShare} f)

/-- The share of a piece the transfer in direction `b` at hop `h` reads through. -/
def qS (b : Bool) (h : ℕ) : PosShare TreeShare := if h = 0 then (bif b then fullShare.right.right else fullShare.right.left) else fullShare.right

/-- The share of a piece that transfer reads through, if the device holds the piece. -/
def pS (d : Dev nD) (b : Bool) (h : ℕ) (u : Fin 5) : sProp 𝕄 := if ex d b h then pt m d (slot d b h) u (qS b h) else iprop(emp)
/-- The share of a piece that stays for the device's own reading. -/
def pK (d : Dev nD) (b : Bool) (h : ℕ) (u : Fin 5) : sProp 𝕄 := if ex d b h then pt m d (slot d b h) u fullShare.left else iprop(emp)

/-- A part may be handed over by an invariant. -/
instance pt_storable (d : Dev nD) (j : ℕ) (u : Fin 5) (q) : BI.Storable (upEmb : UEmb _ 𝕄) (pt m d j u q) := by
  unfold pt; split <;> infer_instance
/-- So may a landing place. -/
instance junk_storable (d : Dev nD) (j : ℕ) (u : Fin 5) : BI.Storable (upEmb : UEmb _ 𝕄) (junk (F := F) d j u) := by
  unfold junk; split <;> infer_instance
/-- So may the share that a transfer reads through. -/
instance pS_storable (d : Dev nD) (b : Bool) (h : ℕ) (u : Fin 5) : BI.Storable (upEmb : UEmb _ 𝕄) (pS m d b h u) := by
  unfold pS; split <;> infer_instance

/-! ## The schedule -/

/-- What the entry signal of the neighbour in direction `b` hands a device: the places it will write there. -/
def barPay (c : Dev nD) (b : Bool) : sProp 𝕄 :=
  bigSep Finset.univ fun i : TI => if act c (b, i) then junk (peer c b) (slot c b i.1.val) i.2 else iprop(emp)
/-- So may what an entry signal hands over. -/
instance barPay_storable (c : Dev nD) (b : Bool) : BI.Storable (upEmb : UEmb _ 𝕄) (barPay (F := F) c b) := by
  unfold barPay
  haveI : ∀ i : TI, BI.Storable (upEmb : UEmb _ 𝕄) (if act c (b, i) then junk (F := F) (peer c b) (slot c b i.1.val) i.2 else iprop(emp)) := fun i => by
    split <;> infer_instance
  infer_instance
/-- What an arrival hands the receiver: the part, at its contents. -/
def recvPay (c : Dev nD) (k : TK) : sProp 𝕄 := pt m c (slot c k.1 (k.2.1.val + 1)) k.2.2 fullShare
/-- What a transfer that is done hands back to its sender: the row of the statistics that it read. -/
def sendPay (c : Dev nD) (k : TK) : sProp 𝕄 := if k.2.2 = 4 then pS m c k.1 k.2.1.val k.2.2 else iprop(emp)

/-- Who pays into a cell: each neighbour into the barrier, one sender into a cell in use, nobody else. -/
def dutiesOf (d : Dev nD) : Option CI → Finset Bool
  | some none => Finset.univ.filter fun b => nbr d b = true
  | some (some (true, k)) => if ract d k then {false} else ∅
  | some (some (false, k)) => if act d k then {false} else ∅
  | none => ∅

/-- How much is paid in. -/
def amountOfCell : Option CI → ℕ
  | some (some (_, k)) => NN k.2.2
  | _ => 1

/-- What is handed over with it. -/
def payOf (d : Dev nD) (b : Bool) : Option CI → sProp 𝕄
  | some none => barPay d b
  | some (some (true, k)) => recvPay m d k
  | some (some (false, k)) => sendPay m d k
  | none => iprop(emp)

/-- The schedule: every cell in use has one round. -/
def rd : Rounds.Schedule (GSem nD τ sig) Bool 𝕄 where
  duties g r := if r = 0 ∧ g.1.2 = .tc then dutiesOf g.1.1 (decS g.2) else ∅
  unitless _ := False
  amount g _ _ := amountOfCell (decS g.2)
  payload g _ b := payOf m g.1.1 b (decS g.2)
  amount_pos g _ _ _ := by
    rcases decS g.2 with _ | _ | ⟨b, k⟩
    · exact Nat.one_pos
    · exact Nat.one_pos
    · exact NN_pos _

/-- What the schedule hands over may be handed over by an invariant. -/
instance rd_payload_storable (g : GSem nD τ sig) (r : ℕ) (d : Bool) : BI.Storable (upEmb : UEmb _ 𝕄) ((rd (F := F) m).payload g r d) := by
  show BI.Storable upEmb (payOf m g.1.1 d (decS g.2))
  rcases decS g.2 with _ | _ | ⟨_ | _, k⟩
  · show BI.Storable upEmb iprop(emp); infer_instance
  · show BI.Storable upEmb (barPay g.1.1 d); infer_instance
  · show BI.Storable upEmb (sendPay m g.1.1 k); unfold sendPay; split <;> infer_instance
  · show BI.Storable upEmb (recvPay m g.1.1 k); unfold recvPay; infer_instance

section Facts
variable (c : Dev nD) (k : TK)

/-- After round 0 nobody pays. -/
theorem duties_later (g : GSem nD τ sig) : ∀ r, 1 ≤ r → (rd (F := F) m).duties g r = ∅ := fun r hr => by
  dsimp only [rd]; exact if_neg fun h => by omega
/-- The duties of a cell. -/
theorem duties_at (i : CI) : (rd (F := F) m).duties (kcell (c, i)) 0 = dutiesOf c (some i) := by
  dsimp only [rd]; rw [if_pos ⟨rfl, rfl⟩, decS_csem]
/-- A send cell in use has one duty. -/
theorem duties_send (h : act c k = true) : (rd (F := F) m).duties (sCell c k) 0 = {false} := by
  rw [duties_at]; exact if_pos h
/-- A receive cell in use has one duty. -/
theorem duties_recv (h : ract c k = true) : (rd (F := F) m).duties (rCell c k) 0 = {false} := by
  rw [duties_at]; exact if_pos h
/-- The send cell of a transfer that is not made closes at once. -/
theorem duties_send_none (h : ¬ act c k = true) : ∀ r, 0 ≤ r → (rd (F := F) m).duties (sCell c k) r = ∅ := fun r _ => by
  rcases r with _ | r
  · rw [duties_at]; exact if_neg h
  · exact duties_later m _ _ (Nat.succ_le_succ (Nat.zero_le r))
/-- A receive cell that is not in use has none. -/
theorem duties_recv_none (h : ¬ ract c k = true) : ∀ r, 0 ≤ r → (rd (F := F) m).duties (rCell c k) r = ∅ := fun r _ => by
  rcases r with _ | r
  · rw [duties_at]; exact if_neg h
  · exact duties_later m _ _ (Nat.succ_le_succ (Nat.zero_le r))
/-- A barrier's duties are the neighbours'. -/
theorem mem_duties_bar (b : Bool) : b ∈ (rd (F := F) m).duties (barCell c) 0 ↔ nbr c b = true := by
  rw [duties_at]; show b ∈ Finset.univ.filter _ ↔ _; simp
/-- A neighbour pays one unit into a barrier. -/
theorem amount_bar (b : Bool) : (rd (F := F) m).amount (barCell c) 0 b = 1 := by
  dsimp only [rd]; rw [decS_csem]; rfl
/-- A transfer pays its words into its cells. -/
theorem amount_x (a b : Bool) : (rd (F := F) m).amount (kcell (c, some (a, k))) 0 b = NN k.2.2 := by
  dsimp only [rd]; rw [decS_csem]; rfl
/-- A send cell in use expects the transfer's words. -/
theorem expect_send (h : act c k = true) : (rd (F := F) m).expect (sCell c k) 0 = NN k.2.2 := by
  unfold Schedule.expect Schedule.amountOf; rw [duties_send m c k h, Finset.sum_singleton, amount_x]
/-- A receive cell in use expects the transfer's words. -/
theorem expect_recv (h : ract c k = true) : (rd (F := F) m).expect (rCell c k) 0 = NN k.2.2 := by
  unfold Schedule.expect Schedule.amountOf; rw [duties_recv m c k h, Finset.sum_singleton, amount_x]
/-- How many neighbours a device has. -/
def nNbr : ℕ := (Finset.univ.filter fun b => nbr c b = true).card
/-- A barrier expects as many units as there are neighbours. -/
theorem expect_bar : (rd (F := F) m).expect (barCell c) 0 = nNbr c := by
  unfold Schedule.expect Schedule.amountOf
  rw [Finset.sum_congr rfl fun b _ => amount_bar m c b, Finset.sum_const, smul_eq_mul, Nat.mul_one, duties_at]; rfl
/-- What a barrier's duty hands over. -/
theorem payload_bar (b : Bool) : (rd (F := F) m).payload (barCell c) 0 b = barPay c b := by
  dsimp only [rd]; rw [decS_csem]; rfl
/-- What a send cell's duty hands over. -/
theorem payload_send (b : Bool) : (rd (F := F) m).payload (sCell c k) 0 b = sendPay m c k := by
  dsimp only [rd]; rw [decS_csem]; rfl
/-- What a receive cell's duty hands over. -/
theorem payload_recv (b : Bool) : (rd (F := F) m).payload (rCell c k) 0 b = recvPay m c k := by
  dsimp only [rd]; rw [decS_csem]; rfl
/-- What the wait on a send cell brings. -/
theorem rest_send (h : act c k = true) :
    bigSep ((rd (F := F) m).duties (sCell c k) 0 \ ∅) (fun b => (rd (F := F) m).payload (sCell c k) 0 b) = sendPay m c k := by
  rw [Finset.sdiff_empty, duties_send m c k h, bigSep_singleton, payload_send]
/-- What the wait on a receive cell brings. -/
theorem rest_recv (h : ract c k = true) :
    bigSep ((rd (F := F) m).duties (rCell c k) 0 \ ∅) (fun b => (rd (F := F) m).payload (rCell c k) 0 b) = recvPay m c k := by
  rw [Finset.sdiff_empty, duties_recv m c k h, bigSep_singleton, payload_recv]
/-- What the barrier wait brings: the places a device's transfers land in. -/
theorem rest_bar :
    bigSep ((rd (F := F) m).duties (barCell c) 0 \ ∅) (fun b => (rd (F := F) m).payload (barCell c) 0 b)
      ⊢ bigSep Finset.univ fun k : TK => if act c k then junk (F := F) (peer c k.1) (slot c k.1 k.2.1.val) k.2.2 else iprop(emp) := by
  rw [Finset.sdiff_empty, duties_at, bigSep_congr (s := dutiesOf c (some none)) fun b _ => payload_bar m c b]
  show bigSep (Finset.univ.filter fun b => nbr c b = true) (fun b => barPay c b) ⊢ _
  rw [bigSep_filter, bigSep_univ_prod]
  refine bigSep_mono fun b _ => ?_
  by_cases h : nbr c b = true
  · rw [if_pos h]; exact BI.Entails.refl _
  · rw [if_neg h]
    refine BI.Entails.trans ?_ (Entails.of_eq (bigSep_congr (s := Finset.univ) (Φ := fun _ : TI => (iprop(emp) : sProp 𝕄)) fun i _ => ?_))
    · exact Entails.of_eq (bigSep_emp_const Finset.univ).symm
    · rw [if_neg]; intro h'; exact h (by unfold act at h'; simp only [Bool.and_eq_true] at h'; exact h'.2)
end Facts

/-! ## What a device owes; the levels -/

/-- The order in which a device starts its transfers: its own four groups, the three hops of the statistics,
    then the two later hops of the groups. -/
def sOrd (k : TK) : ℕ :=
  if k.2.2.val = 4 then 8 + 2 * k.2.1.val + k.1.toNat
  else if k.2.1.val = 0 then 2 * k.2.2.val + k.1.toNat
  else 14 + 8 * (k.2.1.val - 1) + 2 * k.2.2.val + k.1.toNat
/-- The order in which it waits for arrivals. -/
def rOrd (k : TK) : ℕ := if k.2.2.val = 4 then 2 * k.2.1.val + k.1.toNat else 6 + 8 * k.2.1.val + 2 * k.2.2.val + k.1.toNat
/-- The order in which it waits for its own transfers to be done. -/
def dOrd (k : TK) : ℕ := if k.2.2.val = 4 then 10 * k.2.1.val + k.1.toNat else 10 * k.2.1.val + 2 + 2 * k.2.2.val + k.1.toNat

/-- Different transfers start at different places of the order. -/
theorem sOrd_inj : Function.Injective sOrd := by decide +kernel
/-- Different arrivals are waited for at different places of the order. -/
theorem rOrd_inj : Function.Injective rOrd := by decide +kernel
/-- Different transfers are waited out at different places of the order. -/
theorem dOrd_inj : Function.Injective dOrd := by decide +kernel
/-- There are thirty places to start at. -/
theorem sOrd_lt : ∀ k, sOrd k < 30 := by decide +kernel
/-- There are thirty places to wait for an arrival at. -/
theorem rOrd_lt : ∀ k, rOrd k < 30 := by decide +kernel
/-- There are thirty places to wait a transfer out at. -/
theorem dOrd_lt : ∀ k, dOrd k < 30 := by decide +kernel

/-- The credit device `d` owes the receiver of transfer `k`. -/
def owedOf (d : Dev nD) (k : TK) : CellTallies nD τ sig Unit := if act d k then tallyAt (rCell (peer d k.1) k) () (NN k.2.2) else 0
/-- What it owes before its `n`-th transfer: that one and the later ones. -/
def obl (d : Dev nD) (n : ℕ) : CellTallies nD τ sig Unit := ∑ k : TK, if n ≤ sOrd k then owedOf d k else 0
/-- The entry signal it owes its neighbour in direction `b`. -/
def owedSig (d : Dev nD) (b : Bool) : CellTallies nD τ sig Unit := if nbr d b then tallyAt (barCell (peer d b)) () 1 else 0
/-- What it owes for all its transfers and its signal in the first direction. -/
def O₁ (d : Dev nD) : CellTallies nD τ sig Unit := obl d 0 + owedSig d false
/-- What it owes at launch. -/
def O₀ (d : Dev nD) : CellTallies nD τ sig Unit := O₁ d + owedSig d true

/-- Before a transfer a device owes that transfer and what it owes after it. -/
theorem obl_step (d : Dev nD) (k : TK) : obl d (sOrd k) = obl d (sOrd k + 1) + owedOf d k := by
  unfold obl
  rw [← Finset.add_sum_erase Finset.univ _ (Finset.mem_univ k), ← Finset.add_sum_erase Finset.univ (fun k' => if sOrd k + 1 ≤ sOrd k' then owedOf d k' else 0) (Finset.mem_univ k),
    if_pos (le_refl _), if_neg (by omega), zero_add, add_comm]
  congr 1
  refine Finset.sum_congr rfl fun k' hk' => ?_
  have hne : sOrd k' ≠ sOrd k := fun h => (Finset.mem_erase.mp hk').1 (sOrd_inj h)
  by_cases h : sOrd k ≤ sOrd k'
  · rw [if_pos h, if_pos (by omega)]
  · rw [if_neg h, if_neg (by omega)]

/-- After the last transfer it owes nothing. -/
theorem obl_end (d : Dev nD) : obl d 30 = 0 := by
  unfold obl; exact Finset.sum_eq_zero fun k _ => if_neg (by have := sOrd_lt k; omega)

/-- What is owed for a transfer is owed to its receiver's cell. -/
theorem owedOf_pos {d : Dev nD} {k : TK} {g : GSem nD τ sig} {u : Unit} (h : 0 < owedOf d k g u) : g = rCell (peer d k.1) k := by
  unfold owedOf at h; split at h
  · rw [tallyAt_apply] at h; by_contra hn; rw [if_neg fun h' => hn h'.1] at h; exact Nat.lt_irrefl 0 h
  · exact absurd h (Nat.lt_irrefl 0)

/-- What is owed before the `n`-th transfer is owed to the receiver of that or a later one. -/
theorem obl_pos {d : Dev nD} {n : ℕ} {g : GSem nD τ sig} {u : Unit} (h : 0 < obl d n g u) : ∃ k, n ≤ sOrd k ∧ g = rCell (peer d k.1) k := by
  unfold obl at h
  rw [Finset.sum_apply, Finsupp.finset_sum_apply] at h
  obtain ⟨k, -, hk⟩ := Finset.exists_ne_zero_of_sum_ne_zero (Nat.pos_iff_ne_zero.mp h)
  by_cases hn : n ≤ sOrd k
  · rw [if_pos hn] at hk; exact ⟨k, hn, owedOf_pos (Nat.pos_of_ne_zero hk)⟩
  · rw [if_neg hn] at hk; exact absurd rfl hk

/-- What is owed for a signal is owed to the neighbour's barrier. -/
theorem owedSig_pos {d : Dev nD} {b : Bool} {g : GSem nD τ sig} {u : Unit} (h : 0 < owedSig d b g u) : g = barCell (peer d b) := by
  unfold owedSig at h; split at h
  · rw [tallyAt_apply] at h; by_contra hn; rw [if_neg fun h' => hn h'.1] at h; exact Nat.lt_irrefl 0 h
  · exact absurd h (Nat.lt_irrefl 0)

/-- What is owed at launch is owed to a receive cell or a barrier. -/
theorem O₀_pos {d : Dev nD} {g : GSem nD τ sig} {u : Unit} (h : 0 < O₀ d g u) :
    (∃ k, g = rCell (peer d k.1) k) ∨ ∃ b, g = barCell (peer d b) := by
  unfold O₀ O₁ at h
  rw [Pi.add_apply, Finsupp.add_apply, Pi.add_apply, Finsupp.add_apply] at h
  rcases Nat.eq_zero_or_pos (obl d 0 g u) with h1 | h1
  · rcases Nat.eq_zero_or_pos (owedSig d false g u) with h2 | h2
    · exact .inr ⟨true, owedSig_pos (by rw [h1, h2] at h; simpa using h)⟩
    · exact .inr ⟨false, owedSig_pos h2⟩
  · obtain ⟨k, -, hk⟩ := obl_pos h1; exact .inl ⟨k, hk⟩

/-- The cells with levels: those of the kernel's threads. -/
def L (g : GSem nD τ sig) : Finset Unit := if g.1.2 = .tc then {()} else ∅
/-- The level of a receive cell: the statistics below the groups, a hop below the next, a part below the next. -/
def lvlK (k : TK) : ℕ := if k.2.2.val = 4 then 2 + k.2.1.val else 10 + 4 * k.2.1.val + k.2.2.val
/-- The level of a cell: the local copies and the send cells lowest, then the barriers, then the receive cells. -/
def lvlOf : Option CI → ℕ
  | some none => 1
  | some (some (true, k)) => lvlK k
  | _ => 0
/-- The level of a semaphore. -/
def lv (g : GSem nD τ sig) (_ : Unit) : ℕ := lvlOf (decS g.2)

/-- Other threads have no levels. -/
theorem L_of_ne (g : GSem nD τ sig) (h : g.1.2 ≠ .tc) : L g = ∅ := if_neg h
/-- A kernel's thread has one level for each semaphore. -/
theorem L_tc (c : Dev nD) (sm : SemLoc sig) : L ((c : Thread nD τ), sm) = {()} := if_pos rfl
/-- The level of a cell's semaphore is the cell's. -/
theorem lv_cell (c : Dev nD) (i : CI) : lv (kcell (c, i)) () = lvlOf (some i) := by unfold lv; rw [decS_csem]
/-- A receive cell is above the barriers. -/
theorem lvlK_pos (k : TK) : 2 ≤ lvlK k := by unfold lvlK; split <;> omega

omit [FloatOps F] in
/-- A device may wait on a cell below everything it still owes. -/
theorem mayWait_obl (c : Dev nD) (sm : SemLoc sig) (n : ℕ) (h : ∀ k, n ≤ sOrd k → lvlOf (decS sm) < lvlK k) :
    (levAts L lv : sProp 𝕄) ⊢ MayWait (c : Thread nD τ) sm () (obl c n) :=
  MayOwe.of_cut (L := L) (lev := lv) (lvlOf (decS sm)) (fun p hp => by rw [Finset.mem_singleton.mp hp, L_tc]; exact Finset.mem_singleton_self _)
    (fun g u hg => by obtain ⟨k, -, rfl⟩ := obl_pos hg; exact Finset.mem_singleton_self _)
    (fun p hp => by rw [Finset.mem_singleton.mp hp]; exact le_refl _)
    (fun g u hg => by obtain ⟨k, hk, rfl⟩ := obl_pos hg; rw [lv_cell]; exact h k hk)

omit [FloatOps F] in
/-- At launch a device may wait on a cell of the lowest level. -/
theorem mayWait_O₀ (c : Dev nD) (sm : SemLoc sig) (h : lvlOf (decS sm) = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨k, rfl⟩ | ⟨b, rfl⟩ <;> exact Finset.mem_singleton_self _)
    (fun p hp => by rw [Finset.mem_singleton.mp hp]; exact le_of_eq h)
    (fun g u hg => by
      rcases O₀_pos hg with ⟨k, rfl⟩ | ⟨b, rfl⟩
      · rw [lv_cell]; exact lt_of_lt_of_le (by decide) (lvlK_pos k)
      · rw [lv_cell]; exact Nat.one_pos)

/-! ## Families -/

/-- Over the transfers in an order: those before the `n`-th at `B`, the others at `A`. -/
def fam (ord : TK → ℕ) (A B : TK → sProp 𝕄) (n : ℕ) : sProp 𝕄 := bigSep Finset.univ fun k => if ord k < n then B k else A k

omit [FloatOps F] in
/-- A step of a family in its order: the member at that place is taken out and put back changed. -/
theorem fam_step {ord : TK → ℕ} (hi : Function.Injective ord) (A B : TK → sProp 𝕄) (k : TK) :
    fam ord A B (ord k) ⊢ iprop(A k ∗ (B k -∗ fam ord A B (ord k + 1))) := by
  unfold fam
  rw [bigSep_univ_at _ k, bigSep_univ_at (fun k' => if ord k' < ord k + 1 then B k' else A k') k, if_neg (Nat.lt_irrefl _), if_pos (Nat.lt_succ_self _),
    bigSep_congr (s := Finset.univ.erase k) (Φ := fun k' => if ord k' < ord k then B k' else A k') (Ψ := fun k' => if ord k' < ord k + 1 then B k' else A k')
      (fun k' hk' => by
        have hne : ord k' ≠ ord k := fun h => (Finset.mem_erase.mp hk').1 (hi h)
        by_cases h : ord k' < ord k
        · rw [if_pos h, if_pos (by omega)]
        · rw [if_neg h, if_neg (by omega)])]
  iintro ⟨H, Hr⟩
  isplitl [H]; · iexact H
  iintro HB
  isplitl [HB] <;> iassumption

omit [FloatOps F] in
/-- Before the first step no member is changed. -/
theorem fam_zero (ord : TK → ℕ) (A B : TK → sProp 𝕄) : fam ord A B 0 = bigSep Finset.univ A :=
  bigSep_congr fun k _ => if_neg (Nat.not_lt_zero _)
omit [FloatOps F] in
/-- After the last step all are. -/
theorem fam_all {ord : TK → ℕ} {n : ℕ} (h : ∀ k, ord k < n) (A B : TK → sProp 𝕄) : fam ord A B n = bigSep Finset.univ B :=
  bigSep_congr fun k _ => if_pos (h k)

/-- What a device holds of transfer `k` before it starts it, -/
def SB (c : Dev nD) (k : TK) : sProp 𝕄 :=
  iprop(atPos ER (sCell c k) 0 ∅ 0 ∗ if act c k then iprop(dutyTok ER (sCell c k) 0 false ∗ dutyTok ER (rCell (peer c k.1) k) 0 false
    ∗ junk (F := F) (peer c k.1) (slot c k.1 k.2.1.val) k.2.2) else iprop(emp))
/-- before it waits for it to be done, -/
def SA (c : Dev nD) (k : TK) : sProp 𝕄 :=
  iprop(atPos ER (sCell c k) 0 ∅ 0 ∗ if act c k then cred (tallyAt (sCell c k) () (NN k.2.2)) else sendPay m c k)
/-- and after. -/
def SD (c : Dev nD) (k : TK) : sProp 𝕄 := iprop(semVal (sCell c k) 0 ∗ sendPay m c k)
/-- What it holds of the arrival of transfer `k` before it waits for it, -/
def RB (c : Dev nD) (k : TK) : sProp 𝕄 :=
  iprop(atPos ER (rCell c k) 0 ∅ 0 ∗ if ract c k then cred (tallyAt (rCell c k) () (NN k.2.2)) else iprop(emp))
/-- and after. -/
def RD (c : Dev nD) (k : TK) : sProp 𝕄 := semVal (rCell c k) 0

end Cert.KernelProof

end
-- ==== Proof.Views.lean ====
/-
The pieces the kernel's transfers, loads and stores name: which elements each covers, and what reading or
writing through it gives.
-/
module

public import proofs.«01_k».proof.Proof.Base

@[expose] public section

noncomputable section

namespace Cert.KernelProof

open Cert.KernelIdeal Cert.KernelIdeal.Gen
open Idealize.ShloMosaic
open Idealize.ShloMosaic.TcCoe

variable {F : FTy → Type} [FloatOps F]

/-- Rewriting a view with what it reads off `G` leaves `G` on the view's elements. -/
theorem write_read_on {κ : Kind} {sp : Space} {s : Shape} {e : EltTy} (v : View sig κ sp s e) (f G : v.ty.Contents (Elt F)) (w : s.Idx → Elt F e)
    (h : w = v.read (Elt F) G) : ∀ i ∈ v.set, v.write (Elt F) f w Finset.univ i = G i := by
  subst h
  intro i hi
  rw [View.write_read_eq_piecewise, View.setOn_univ]
  exact Finset.piecewise_eq_of_mem _ _ _ hi

/-- Writing through a reshaped view and reading through the view itself gives the vector reshaped back. -/
theorem read_write_reshape {κ : Kind} {sp : Space} {s s' : Shape} {e : EltTy} (v : View sig κ sp s e) (h : s'.numel = s.numel) (h' : s'.ShapeCasts s)
    (f : v.ty.Contents (Elt F)) (w : s'.Idx → Elt F e) :
    v.read (Elt F) ((v.reshape s' h).write (Elt F) f w Finset.univ) = shapeCast s w h' := by
  funext y
  have hy : v.emb y = (v.reshape s' h).emb ((Shape.reshapeEquiv h).symm y) := by
    rw [View.emb_reshape]; exact congrArg v.emb ((Shape.reshapeEquiv h).apply_symm_apply y).symm
  rw [View.read_apply, hy]
  refine (congrArg (_root_.cast _) (View.write_emb_of_mem (v := v.reshape s' h) f w (Finset.mem_univ _))).trans ?_
  rw [cast_cast, cast_eq]
  rfl

/-! ## Columns of the exponentials and of the result -/

section Cols
variable {off sz : Fin 2 → ℕ} {inb : ∀ a, off a + sz a ≤ S512x32768.size a} {lo n : ℕ}

/-- A rectangle of `n` columns from `lo` is those columns. -/
theorem set_col (ho : off = ![0, lo]) (hs : sz = ![512, n]) : (Rect.unit (s := S512x32768) off sz inb).set = gcol lo n := by
  subst ho hs
  ext i
  rw [Rect.mem_set_unit, Fin.forall_fin_two]
  have h0 : (i 0).val < 512 := (i 0).isLt
  simp only [gcol, Finset.mem_filter, Finset.mem_univ, true_and, Matrix.cons_val_zero, Matrix.cons_val_one]
  omega

/-- The same of a slice of the gathered exponentials. -/
theorem set_g (ho : off = ![0, lo]) (hs : sz = ![512, n]) : (gM.view.slice (Rect.unit (s := S512x32768) off sz inb)).set = gcol lo n :=
  (View.set_slice_whole main_v1_1 _).trans (set_col ho hs)
/-- The same of a slice of the result. -/
theorem set_o (ho : off = ![0, lo]) (hs : sz = ![512, n]) : (oM.view.slice (Rect.unit (s := S512x32768) off sz inb)).set = gcol lo n :=
  (View.set_slice_whole main_v1_0 _).trans (set_col ho hs)
end Cols

/-- The first coordinate of an index from two numbers. -/
theorem ix2_val0 {a b : ℕ} (i j : ℕ) (ha : 0 < a) (hb : 0 < b) (hi : i < a) : ((ix2 i j ha hb : (⟨2, ![a, b]⟩ : Shape).Idx) 0).val = i := Nat.mod_eq_of_lt hi
/-- Its second coordinate. -/
theorem ix2_val1 {a b : ℕ} (i j : ℕ) (ha : 0 < a) (hb : 0 < b) (hj : j < b) : ((ix2 i j ha hb : (⟨2, ![a, b]⟩ : Shape).Idx) 1).val = j := Nat.mod_eq_of_lt hj
/-- An index is made of its two coordinates. -/
theorem ix2_eta {a b : ℕ} (i : (⟨2, ![a, b]⟩ : Shape).Idx) (ha : 0 < a) (hb : 0 < b) : ix2 (i 0).val (i 1).val ha hb = i := by
  funext k; refine Fin.cases ?_ (fun k => ?_) k
  · exact Fin.ext (Nat.mod_eq_of_lt (i 0).isLt)
  · refine Fin.cases ?_ (fun k => k.elim0) k
    exact Fin.ext (Nat.mod_eq_of_lt (i 1).isLt)

section Cols2
variable {off : Fin 2 → ℕ} {inb : ∀ a, off a + S512x1024.size a ≤ S512x32768.size a} {lo : ℕ}

/-- Where an entry of a tile lies in the whole array. -/
theorem emb_col (ho : off = ![0, lo]) (x : S512x1024.Idx) :
    (Rect.unit (s := S512x32768) off S512x1024.size inb).emb x = ix2 (x 0).val (lo + (x 1).val) := by
  subst ho
  have h1 := inb 1
  have hx0 : (x 0).val < 512 := (x 0).isLt
  have hx1 : (x 1).val < 1024 := (x 1).isLt
  have hlo : lo + 1024 ≤ 32768 := h1
  funext k; refine Fin.cases ?_ (fun k => ?_) k
  · refine Fin.ext ?_
    show 0 + 1 * (x 0).val = (x 0).val % 512
    omega
  · refine Fin.cases ?_ (fun k => k.elim0) k
    refine Fin.ext ?_
    show lo + 1 * (x 1).val = (lo + (x 1).val) % 32768
    omega

/-- What a tile of the gathered exponentials reads. -/
theorem read_g (ho : off = ![0, lo]) (G : Vec F S512x32768 .f32) :
    (gM.view.slice (Rect.unit (s := S512x32768) off S512x1024.size inb)).read (Elt F) G = fun x => G (ix2 (x 0).val (lo + (x 1).val)) := by
  funext x; exact congrArg G (emb_col ho x)
/-- What a tile of the result reads. -/
theorem read_o (ho : off = ![0, lo]) (G : Vec F S512x32768 .f32) :
    (oM.view.slice (Rect.unit (s := S512x32768) off S512x1024.size inb)).read (Elt F) G = fun x => G (ix2 (x 0).val (lo + (x 1).val)) := by
  funext x; exact congrArg G (emb_col ho x)
end Cols2

/-! ## Slots of the weight and exponential buffers -/

/-- Slot `s` of the exponential buffers, as a rectangle. -/
abbrev er (s : Fin 2) : Rect S2x512x1024 := Rect.unit (s := S2x512x1024) ![s.val, 0, 0] S1x512x1024.size (by revert s; decide)
/-- Slot `s` of the weight buffers, as a rectangle. -/
abbrev wr (s : Fin 2) : Rect S2x1024x1024 := Rect.unit (s := S2x1024x1024) ![s.val, 0, 0] S1x1024x1024.size (by revert s; decide)

/-- The words of a slot of the exponential buffers. -/
theorem set_e (s : Fin 2) : (ebM.view.slice (er s)).set = eslot s.val := by
  refine (View.set_slice_whole cc0_scratch1 _).trans (?_ : (er s).set = _)
  ext i
  rw [Rect.mem_set_unit, Fin.forall_fin_succ, Fin.forall_fin_two]
  have h1 : (i 1).val < 512 := (i 1).isLt
  have h2 : (i 2).val < 1024 := (i 2).isLt
  simp only [eslot, Finset.mem_filter, Finset.mem_univ, true_and]
  show (s.val ≤ (i 0).val ∧ (i 0).val < s.val + 1) ∧ (0 ≤ (i 1).val ∧ (i 1).val < 0 + 512) ∧ (0 ≤ (i 2).val ∧ (i 2).val < 0 + 1024) ↔ _
  omega
/-- The words of a slot of the weight buffers. -/
theorem set_w (s : Fin 2) : (wbM.view.slice (wr s)).set = wslot s.val := by
  refine (View.set_slice_whole cc0_scratch0 _).trans (?_ : (wr s).set = _)
  ext i
  rw [Rect.mem_set_unit, Fin.forall_fin_succ, Fin.forall_fin_two]
  have h1 : (i 1).val < 1024 := (i 1).isLt
  have h2 : (i 2).val < 1024 := (i 2).isLt
  simp only [wslot, Finset.mem_filter, Finset.mem_univ, true_and]
  show (s.val ≤ (i 0).val ∧ (i 0).val < s.val + 1) ∧ (0 ≤ (i 1).val ∧ (i 1).val < 0 + 1024) ∧ (0 ≤ (i 2).val ∧ (i 2).val < 0 + 1024) ↔ _
  omega

/-! ## Rows of the statistics -/

section Rows
variable {off sz : Fin 2 → ℕ} {inb : ∀ a, off a + sz a ≤ S4x512.size a} {j : ℕ}

/-- The words of a row of the statistics. -/
theorem set_row (ho : off = ![j, 0]) (hs : sz = ![1, 512]) : (stM.view.slice (Rect.unit (s := S4x512) off sz inb)).set = srow j := by
  subst ho hs
  refine (View.set_slice_whole cc0_scratch2 _).trans (?_ : (Rect.unit (s := S4x512) ![j, 0] ![1, 512] inb).set = _)
  ext i
  rw [Rect.mem_set_unit, Fin.forall_fin_two]
  have h0 : (i 1).val < 512 := (i 1).isLt
  simp only [srow, Finset.mem_filter, Finset.mem_univ, true_and, Matrix.cons_val_zero, Matrix.cons_val_one]
  omega
end Rows

/-! ## Tiles of `W` -/

variable (m : (ℓ : Loc nD τ sig) → Buf (Elt F) ℓ)

section Tiles
variable {off : Fin 2 → ℕ} {inb : ∀ a, off a + S1024x1024.size a ≤ S1024x8192.size a} {t : ℕ}

/-- What a weight tile reads. -/
theorem read_w (c : Dev nD) (ho : off = ![0, 1024 * t]) :
    (wM.view.slice (Rect.unit (s := S1024x8192) off S1024x1024.size inb)).read (Elt F) (wblk m c) = wT m c t := by
  subst ho
  have h1 : 1024 * t + 1024 ≤ 8192 := inb 1
  funext x
  have hx0 : (x 0).val < 1024 := (x 0).isLt
  have hx1 : (x 1).val < 1024 := (x 1).isLt
  refine congrArg (wblk m c) ?_
  funext k; refine Fin.cases ?_ (fun k => ?_) k
  · refine Fin.ext ?_
    show 0 + 1 * (x 0).val = (x 0).val % 1024
    omega
  · refine Fin.cases ?_ (fun k => k.elim0) k
    refine Fin.ext ?_
    show 1024 * t + 1 * (x 1).val = (1024 * t + (x 1).val) % 8192
    omega
end Tiles

/-! ## Contents -/

/-- A device's own tile of the whole array of exponentials is the tile that it computes. -/
theorem gBlk_own (c : Dev nD) (t : ℕ) (ht : t < 8) : gBlk m (8192 * c.val + 1024 * t) = eT m c t := by
  funext x
  have hx0 : (x 0).val < 512 := (x 0).isLt
  have hx1 : (x 1).val < 1024 := (x 1).isLt
  have hc : c.val < 4 := c.isLt
  show eT m (dev ((8192 * c.val + 1024 * t + (x 1).val) % 32768 / 8192)) ((8192 * c.val + 1024 * t + (x 1).val) % 32768 % 8192 / 1024)
    (ix2 ((x 0).val % 512) ((8192 * c.val + 1024 * t + (x 1).val) % 32768 % 1024)) = _
  have h1 : (8192 * c.val + 1024 * t + (x 1).val) % 32768 / 8192 = c.val := by omega
  have h2 : (8192 * c.val + 1024 * t + (x 1).val) % 32768 % 8192 / 1024 = t := by omega
  have h3 : (8192 * c.val + 1024 * t + (x 1).val) % 32768 % 1024 = (x 1).val := by omega
  have h4 : (x 0).val % 512 = (x 0).val := Nat.mod_eq_of_lt hx0
  have h5 : dev c.val = c := Fin.ext (Nat.mod_eq_of_lt hc)
  rw [h1, h2, h3, h4, h5]
  exact congrArg _ (ix2_eta x _ _)

/-- The reciprocals, spread over a tile's columns. -/
theorem bcast_rV (x : S512x1024.Idx) : broadcastTo S512x1024 (rV m) broadcasts_S512x1_S512x1024 x = rV m (ix2 (b := 1) (x 0).val 0) := by
  refine congrArg (rV m) ?_
  have hx0 : (x 0).val < 512 := (x 0).isLt
  funext k; refine Fin.cases ?_ (fun k => ?_) k
  · refine Fin.ext ?_
    show _ = (x 0).val % 512
    rw [Nat.mod_eq_of_lt hx0]; rfl
  · refine Fin.cases ?_ (fun k => k.elim0) k
    exact Fin.ext rfl

/-- A scaled tile is the result's. -/
theorem scaled (lo : ℕ) (hlo : lo + 1024 ≤ 32768) :
    (mulf (gBlk m lo) (broadcastTo S512x1024 (rV m) broadcasts_S512x1_S512x1024) : FVec F S512x1024 .f32) = fun x => outAll m (ix2 (x 0).val (lo + (x 1).val)) := by
  funext x
  have hx0 : (x 0).val < 512 := (x 0).isLt
  show FloatOps.mulf (gBlk m lo x) (broadcastTo S512x1024 (rV m) broadcasts_S512x1_S512x1024 x) = FloatOps.mulf (gAll m (ix2 (x 0).val (lo + (x 1).val))) (rV m (ix2 (b := 1) ((x 0).val % 512) 0))
  rw [bcast_rV, Nat.mod_eq_of_lt hx0]
  rfl

end Cert.KernelProof

end
-- ==== Proof.Xfer.lean ====
/-
The steps of the protocol, stated at any buffer: the entry signals and the barrier wait, a transfer to a
neighbour, the wait for an arrival and the wait for a transfer to be done.
-/
module

public import proofs.«01_k».proof.Proof.Sched
public import proofs.«01_k».proof.Proof.Views

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The weakest precondition of a piece of device `c`'s program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant and that its round 0 is reached, and the levels. -/
def Recs (K : Dev nD × CI → ℕ) : sProp 𝕄 :=
  iprop((bigSep Finset.univ fun x : Dev nD × CI => cellInv ER (rd m) (K x) (kcell x))
    ∗ (bigSep Finset.univ fun x : Dev nD × CI => reached ER (kcell x) 0) ∗ levAts L lv)

/-- What all the devices know may be copied. -/
instance Recs_persistent (K : Dev nD × CI → ℕ) : BI.Persistent (Recs m K) := by unfold Recs; infer_instance

/-- It has each cell's invariant. -/
theorem Recs_inv (K : Dev nD × CI → ℕ) (x : Dev nD × CI) : Recs m K ⊢ cellInv ER (rd m) (K x) (kcell x) := by
  unfold Recs; iintro ⟨H, -, -⟩
  iapply (show (bigSep Finset.univ fun x : Dev nD × CI => (cellInv ER (rd m) (K x) (kcell x) : sProp 𝕄)) ⊢ cellInv ER (rd m) (K x) (kcell x) from
    bigSep_elim (Finset.mem_univ x))
  iexact H
/-- It says that each cell's round 0 has begun. -/
theorem Recs_reached (K : Dev nD × CI → ℕ) (x : Dev nD × CI) : Recs m K ⊢ reached ER (kcell x) 0 := by
  unfold Recs; iintro ⟨-, H, -⟩
  iapply (show (bigSep Finset.univ fun x : Dev nD × CI => (reached ER (kcell x) 0 : sProp 𝕄)) ⊢ reached ER (kcell x) 0 from bigSep_elim (Finset.mem_univ x))
  iexact H
/-- It has the levels. -/
theorem Recs_lev (K : Dev nD × CI → ℕ) : Recs m K ⊢ levAts L lv := by
  unfold Recs; iintro ⟨-, -, H⟩; iexact H

/-- What a device owes before its `n`-th transfer, whatever it has waited for. -/
def Owe (c : Dev nD) (n : ℕ) : sProp 𝕄 := iprop(∃ W, owes (c : Thread nD τ) (obl c n) W)

variable (K : Dev nD × CI → ℕ)

/-- A transfer that a device sends is received by its neighbour. -/
theorem act_ract : ∀ (c : Dev nD) (k : TK), act c k = true → ract (peer c k.1) k = true := by decide +kernel

section Send
variable {α : Type} {Q : α → sProp (MT nD τ sig Unit (Elt F) ℕ UU ℕ)} {kk : PUnit.{1} → Prog (TpuEff nD τ sig (Elt F) Λ₀ .tc) α}

/-- A transfer to a neighbour, of a piece the sender reads at `G`. -/
theorem core_send (c : Dev nD) (k : TK) (n' : Dev nD) {sp : Space} {s : Shape} (M : Memref sig .tc sp s .f32) {s1 s2 : DmaSem sig}
    {hsc : (M : Memref sig (Dev.tc n' : Thread nD τ).2.kind sp s .f32).view.ref.isScScratch = false} {hsrc hdst : M.view.WordExact}
    {hsem : DmaTarget.Typed sp (.dma s2) (.remote (Dev.tc n' : Thread nD τ) (M : Memref sig (Dev.tc n' : Thread nD τ).2.kind sp s .f32) (.dma s1) hsc)}
    (hact : act c k = true) (hn : n' = peer c k.1) (h1 : s1 = sS k) (h2 : s2 = rS k) (hN : M.view.dmaCredit = NN k.2.2)
    (G : M.view.ty.Contents (Elt F))
    (hS : pS m c k.1 k.2.1.val k.2.2 = (M.view.loc (c : Thread nD τ) ↦[M.view.set]{qS k.1 k.2.1.val} G))
    (hJ : junk (F := F) (peer c k.1) (slot c k.1 k.2.1.val) k.2.2 ⊢ iprop(∃ f, M.view.loc (peer c k.1 : Thread nD τ) ↦[M.view.set]{fullShare} f))
    (hR : recvPay m (peer c k.1) k = (M.view.loc (peer c k.1 : Thread nD τ) ↦[M.view.set]{fullShare} G)) :
    iprop(Recs m K ∗ Owe c (sOrd k) ∗ fam sOrd (SB c) (SA m c) (sOrd k) ∗ pS m c k.1 k.2.1.val k.2.2)
      ⊢ iprop((iprop(Owe c (sOrd k + 1) ∗ fam sOrd (SB c) (SA m c) (sOrd k + 1)) -∗ WP c (kk ⟨⟩) Q)
          -∗ WP c (Prog.lift (.enqueueDma M (.remote (Dev.tc n' : Thread nD τ) M (.dma s1) hsc) (.dma s2) hsrc hdst hsem) >>= kk) Q) := by
  subst hn h1 h2
  unfold Owe
  iintro ⟨#HR, ⟨%W, HO⟩, HF, Hp⟩ Hk
  ihave HF' := (fam_step sOrd_inj (SB (F := F) c) (SA m c) k) $$ HF
  unfold SB SA
  rw [if_pos hact]
  icases HF' with ⟨⟨Hat, HtS, HtR, Hj⟩, HF⟩
  ihave Hj := hJ $$ Hj
  icases Hj with ⟨%fd, Hj⟩
  ihave Hp := (Entails.of_eq hS) $$ Hp
  have hO : obl c (sOrd k) = obl c (sOrd k + 1) + tallyAt (rCell (peer c k.1) k) () (NN k.2.2) := by
    rw [obl_step c k, show owedOf c k = tallyAt (rCell (peer c k.1) k) () (NN k.2.2) from if_pos hact]
  ihave #HI1 := (Recs_inv m K (c, some (false, k))) $$ HR
  ihave #HI2 := (Recs_inv m K (peer c k.1, some (true, k))) $$ HR
  ihave #Hr1 := (Recs_reached m K (c, some (false, k))) $$ HR
  ihave #Hr2 := (Recs_reached m K (peer c k.1, some (true, k))) $$ HR
  have hd1 : false ∈ (rd (F := F) m).duties (sCell c k) 0 := by rw [duties_send m c k hact]; exact Finset.mem_singleton_self _
  have hd2 : false ∈ (rd (F := F) m).duties (rCell (peer c k.1) k) 0 := by rw [duties_recv m _ k (act_ract c k hact)]; exact Finset.mem_singleton_self _
  have hp1 : (M.view.loc (c : Thread nD τ) ↦[M.view.set]{qS k.1 k.2.1.val} G) ⊢ (rd m).payload (sCell c k) 0 false := by
    rw [payload_send]; unfold sendPay; split
    · rw [hS]
    · iintro -; iempintro
  have hp2 : (M.view.loc (peer c k.1 : Thread nD τ) ↦[M.view.set]{fullShare} (M.view.write (Elt F) fd (M.view.read (Elt F) G) Finset.univ))
      ⊢ (rd m).payload (rCell (peer c k.1) k) 0 false := by
    rw [payload_recv, hR]
    exact Entails.of_eq (pointsTo_congr (write_read_on M.view fd G _ rfl))
  iapply (Rounds.wp_send_pointsTo 𝒱₀ ER (rd m) (c : Thread nD τ) none (κ₁ := K (c, some (false, k))) (κ₂ := K (peer c k.1, some (true, k)))
    (r₁ := 0) (r₂ := 0) (d₁ := false) (d₂ := false) (fd := fd) (q := qS k.1 k.2.1.val) (fs := G)
    hd1 hd2
    () () (NN k.2.2) hN (amount_x m c k false false) (amount_x m (peer c k.1) k true false) (obl c (sOrd k + 1)) hO (W := W)
    hp1 hp2) $$ [HO Hp Hj HtS HtR]
  · isplitr; · iexact HI1
    isplitr; · iexact HI2
    isplitl [Hp]; · iexact Hp
    isplitl [Hj]; · iexact Hj
    isplitl [HO]; · iexact HO
    isplitl [HtS]; · iexact HtS
    isplitr; · iexact Hr1
    isplitl [HtR]; · iexact HtR
    iexact Hr2
  iintro ⟨Hc, HO⟩
  iapply Hk
  isplitl [HO]; · iexists W; iexact HO
  iapply HF
  isplitl [Hat]; · iexact Hat
  rw [if_pos hact]
  iexact Hc

/-- A transfer a device does not make: it keeps what it holds. -/
theorem skip_send (c : Dev nD) (k : TK) (hact : ¬ act c k = true) :
    iprop(Owe (F := F) c (sOrd k) ∗ fam sOrd (SB c) (SA m c) (sOrd k) ∗ pS m c k.1 k.2.1.val k.2.2)
      ⊢ iprop(Owe c (sOrd k + 1) ∗ fam sOrd (SB c) (SA m c) (sOrd k + 1)) := by
  unfold Owe
  iintro ⟨⟨%W, HO⟩, HF, Hp⟩
  ihave HF' := (fam_step sOrd_inj (SB (F := F) c) (SA m c) k) $$ HF
  icases HF' with ⟨Hs, HF⟩
  rw [obl_step c k, show owedOf c k = 0 from if_neg hact, add_zero]
  isplitl [HO]; · iexists W; iexact HO
  iapply HF
  iapply (show iprop(SB (F := F) c k ∗ pS m c k.1 k.2.1.val k.2.2) ⊢ SA m c k from by
    unfold SB SA sendPay
    rw [if_neg hact, if_neg hact]
    iintro ⟨⟨Hat, -⟩, Hp⟩
    isplitl [Hat]; · iexact Hat
    split
    · iexact Hp
    · iclear Hp; iempintro)
  isplitl [Hs] <;> iassumption

/-- The wait for an arrival: the piece landed there. -/
theorem core_recv (c : Dev nD) (k : TK) (n : ℕ) {sp sp' : Space} {s s' : Shape} {e e' : EltTy} {src : Memref sig .tc sp s e} {dst : Memref sig .tc sp' s' e'} {s2 : DmaSem sig}
    {hsrc : src.view.WordExact} {hdst : dst.view.WordExact}
    (hact : ract c k = true) (h2 : s2 = rS k) (hN : dst.view.dmaCredit = NN k.2.2) (hlv : ∀ k', n ≤ sOrd k' → lvlK k < lvlK k') :
    iprop(Recs m K ∗ Owe c n ∗ fam rOrd (RB c) (RD c) (rOrd k))
      ⊢ iprop((iprop(Owe c n ∗ fam rOrd (RB c) (RD c) (rOrd k + 1) ∗ recvPay m c k) -∗ WP c (kk ⟨⟩) Q)
          -∗ WP c (Prog.lift (.waitDma2 s2 src dst hsrc hdst) >>= kk) Q) := by
  subst h2
  unfold Owe
  iintro ⟨#HR, ⟨%W, HO⟩, HF⟩ Hk
  ihave HF' := (fam_step rOrd_inj (RB (F := F) c) (RD c) k) $$ HF
  unfold RB RD
  rw [if_pos hact]
  icases HF' with ⟨⟨Hat, Hc⟩, HF⟩
  have hx : 0 + dst.view.dmaCredit = (rd (F := F) m).expect (rCell c k) 0 := by rw [Nat.zero_add]; exact hN.trans (expect_recv m c k hact).symm
  ihave #HI := (Recs_inv m K (c, some (true, k))) $$ HR
  iapply (Rounds.wp_wait_rest_token 𝒱₀ ER (rd m) (c : Thread nD τ) none (κ := K (c, some (true, k)))
      (wpE_waitDma2_eq 𝒱₀ (c : Thread nD τ) none Set.univ) (Set.mem_univ _) () (O := obl c n) (W := W) (R := 0) (m := 0) (T := ∅)
      hx) $$ [Hc HO Hat]
  · isplitr; · iexact HI
    isplitl [Hc]; · rw [hN]; iexact Hc
    isplitl [HO]; · iexact HO
    isplitr
    · iapply (mayWait_obl c (.dma (rS k)) n (fun k' hk' => by
        rw [show SemLoc.dma (rS k) = csem (some (true, k)) from rfl, decS_csem]; exact hlv k' hk'))
      iapply (Recs_lev m K); iexact HR
    iexact Hat
  iintro ⟨HO, Hat, -, Hpay⟩
  ihave Hp := (Entails.of_eq (rest_recv m c k hact)) $$ [Hpay]
  · iexact Hpay
  imod (Rounds.cell_close ER (rd m) (Set.mem_univ (K (c, some (true, k)))) (fun h => h) (R := 0 + 1) (duties_later m (rCell c k))) $$ [Hat] with Hz
  · isplitr; · iexact HI
    iexact Hat
  iapply Hk
  isplitl [HO]; · iexists _; iexact HO
  isplitl [HF Hz]; · iapply HF; iexact Hz
  iexact Hp

/-- An arrival a device does not get: its cell closes. -/
theorem skip_recv (c : Dev nD) (k : TK) (hact : ¬ ract c k = true) :
    iprop(Recs m K ∗ fam rOrd (RB c) (RD c) (rOrd k)) ⊢ |={Set.univ}=> (fam rOrd (RB c) (RD c) (rOrd k + 1) : sProp 𝕄) := by
  iintro ⟨#HR, HF⟩
  ihave HF' := (fam_step rOrd_inj (RB (F := F) c) (RD c) k) $$ HF
  unfold RB RD
  icases HF' with ⟨⟨Hat, -⟩, HF⟩
  ihave #HI := (Recs_inv m K (c, some (true, k))) $$ HR
  imod (Rounds.cell_close ER (rd m) (Set.mem_univ (K (c, some (true, k)))) (fun h => h) (R := 0) (duties_recv_none m c k hact)) $$ [Hat] with Hz
  · isplitr; · iexact HI
    iexact Hat
  imodintro
  iapply HF; iexact Hz

/-- The wait for a transfer to be done. -/
theorem core_drain (c : Dev nD) (k : TK) {sp sp' : Space} {s s' : Shape} {e e' : EltTy} {src : Memref sig .tc sp s e} {dst : Memref sig .tc sp' s' e'} {s1 : DmaSem sig}
    {hsrc : src.view.WordExact} {hdst : dst.view.WordExact}
    (hact : act c k = true) (h1 : s1 = sS k) (hN : dst.view.dmaCredit = NN k.2.2) :
    iprop(Recs m K ∗ Owe c 30 ∗ fam dOrd (SA m c) (SD m c) (dOrd k))
      ⊢ iprop((iprop(Owe c 30 ∗ fam dOrd (SA m c) (SD m c) (dOrd k + 1)) -∗ WP c (kk ⟨⟩) Q)
          -∗ WP c (Prog.lift (.waitDma2 s1 src dst hsrc hdst) >>= kk) Q) := by
  subst h1
  unfold Owe
  iintro ⟨#HR, ⟨%W, HO⟩, HF⟩ Hk
  ihave HF' := (fam_step dOrd_inj (SA m c) (SD m c) k) $$ HF
  unfold SA SD
  rw [if_pos hact]
  icases HF' with ⟨⟨Hat, Hc⟩, HF⟩
  have hx : 0 + dst.view.dmaCredit = (rd (F := F) m).expect (sCell c k) 0 := by rw [Nat.zero_add]; exact hN.trans (expect_send m c k hact).symm
  ihave #HI := (Recs_inv m K (c, some (false, k))) $$ HR
  iapply (Rounds.wp_wait_rest_token 𝒱₀ ER (rd m) (c : Thread nD τ) none (κ := K (c, some (false, k)))
      (wpE_waitDma2_eq 𝒱₀ (c : Thread nD τ) none Set.univ) (Set.mem_univ _) () (O := obl c 30) (W := W) (R := 0) (m := 0) (T := ∅)
      hx) $$ [Hc HO Hat]
  · isplitr; · iexact HI
    isplitl [Hc]; · rw [hN]; iexact Hc
    isplitl [HO]; · iexact HO
    isplitr
    · rw [obl_end, MayWait_zero]; iempintro
    iexact Hat
  iintro ⟨HO, Hat, -, Hpay⟩
  ihave Hp := (Entails.of_eq (rest_send m c k hact)) $$ [Hpay]
  · iexact Hpay
  imod (Rounds.cell_close ER (rd m) (Set.mem_univ (K (c, some (false, k)))) (fun h => h) (R := 0 + 1) (duties_later m (sCell c k))) $$ [Hat] with Hz
  · isplitr; · iexact HI
    iexact Hat
  iapply Hk
  isplitl [HO]; · iexists _; iexact HO
  iapply HF
  isplitl [Hz] <;> iassumption

/-- A transfer that a device does not send needs no waiting out. -/
theorem skip_drain (c : Dev nD) (k : TK) (hact : ¬ act c k = true) :
    iprop(Recs m K ∗ fam dOrd (SA m c) (SD m c) (dOrd k)) ⊢ |={Set.univ}=> (fam dOrd (SA m c) (SD m c) (dOrd k + 1) : sProp 𝕄) := by
  iintro ⟨#HR, HF⟩
  ihave HF' := (fam_step dOrd_inj (SA m c) (SD m c) k) $$ HF
  unfold SA SD
  rw [if_neg hact]
  icases HF' with ⟨⟨Hat, Hp⟩, HF⟩
  ihave #HI := (Recs_inv m K (c, some (false, k))) $$ HR
  imod (Rounds.cell_close ER (rd m) (Set.mem_univ (K (c, some (false, k)))) (fun h => h) (R := 0) (duties_send_none m c k hact)) $$ [Hat] with Hz
  · isplitr; · iexact HI
    iexact Hat
  imodintro
  iapply HF
  isplitl [Hz] <;> iassumption

/-- A neighbour's neighbour in the other direction is there. -/
theorem nbr_peer : ∀ (c : Dev nD) (b : Bool), nbr c b = true → nbr (peer c b) (!b) = true := by decide +kernel

/-- What the entry signal in direction `b` takes: its duty's token, and the places the neighbour will write. -/
def sigRes (c : Dev nD) (b : Bool) : sProp 𝕄 :=
  if nbr c b then iprop(dutyTok ER (barCell (peer c b)) 0 (!b) ∗ barPay (F := F) (peer c b) (!b)) else iprop(emp)

/-- An entry signal. -/
theorem blk_signal (c : Dev nD) (b : Bool) {cond : Prop} [Decidable cond] {n : ℕ} {hlt : cond → n < nD} (O : CellTallies nD τ sig Unit) (W : Waits sig Unit)
    (hx : (cond ↔ nbr c b = true) ∧ (cond → n = (peer c b).val)) :
    iprop(Recs m K ∗ owes (c : Thread nD τ) (O + owedSig c b) W ∗ sigRes c b)
      ⊢ iprop((owes (c : Thread nD τ) O W -∗ WP c (kk ⟨⟩) Q)
          -∗ WP c (if h : cond then semSignalWord (⟨n, hlt h⟩ : Dev nD) barS 1#32 >>= kk else kk ⟨⟩) Q) := by
  unfold sigRes owedSig
  by_cases h : cond
  · have hb := hx.1.mp h
    rw [dif_pos h, if_pos hb, if_pos hb]
    obtain rfl : n = (peer c b).val := hx.2 h
    iintro ⟨#HR, HO, Ht, Hp⟩ Hk
    ihave #HI := (Recs_inv m K (peer c b, none)) $$ HR
    ihave #Hr := (Recs_reached m K (peer c b, none)) $$ HR
    iapply (Rounds.wp_signal 𝒱₀ ER (rd m) (c : Thread nD τ) none (dst := (peer c b : Thread nD τ)) (sem := barS) (κ := K (peer c b, none)) (r := 0)
      (d := !b) (k' := 1) ((mem_duties_bar m (peer c b) (!b)).mpr (nbr_peer c b hb)) (amount_bar m (peer c b) (!b)) () O rfl) $$ [HO Ht Hp]
    · isplitr; · iexact HI
      isplitl [HO]; · iexact HO
      isplitl [Ht]; · iexact Ht
      isplitl [Hp]; · rw [show ((peer c b : Thread nD τ), SemLoc.reg barS) = barCell (peer c b) from rfl, payload_bar]; iexact Hp
      iexact Hr
    iintro HO
    iapply Hk; iexact HO
  · have hb : ¬ nbr c b = true := fun hb => h (hx.1.mpr hb)
    rw [dif_neg h, if_neg hb, if_neg hb, add_zero]
    iintro ⟨-, HO, -⟩ Hk
    iapply Hk; iexact HO

/-- The barrier wait: the places the neighbours let the device write. -/
theorem core_bar (c : Dev nD) (W : Waits sig Unit) {n : BitVec 32} (hn : n.toInt = (nNbr c : ℤ)) :
    iprop(Recs m K ∗ owes (c : Thread nD τ) (obl c 0) W ∗ cred (tallyAt (barCell c) () (nNbr c)) ∗ atPos ER (barCell c) 0 ∅ 0)
      ⊢ iprop((iprop(Owe c 0 ∗ semVal (barCell c) 0
              ∗ bigSep Finset.univ fun k : TK => if act c k then junk (F := F) (peer c k.1) (slot c k.1 k.2.1.val) k.2.2 else iprop(emp)) -∗ WP c (kk ⟨⟩) Q)
          -∗ WP c (semWaitWord barS n >>= kk) Q) := by
  unfold Owe
  iintro ⟨#HR, HO, Hc, Hat⟩ Hk
  have hx : 0 + nNbr c = (rd (F := F) m).expect (barCell c) 0 := by rw [Nat.zero_add]; exact (expect_bar m c).symm
  ihave #HI := (Recs_inv m K (c, none)) $$ HR
  rw [show (semWaitWord barS n >>= kk : Prog (TpuEff nD τ sig (Elt F) Λ₀ .tc) α) = .op (.semWait barS (nNbr c : ℤ)) kk from by rw [← hn]; rfl]
  iapply (Rounds.wp_wait_rest_token 𝒱₀ ER (rd m) (c : Thread nD τ) none (κ := K (c, none))
      (wpE_semWait_eq 𝒱₀ (c : Thread nD τ) none Set.univ) (Set.mem_univ _) () (O := obl c 0) (W := W) (R := 0) (m := 0) (T := ∅)
      hx) $$ [Hc HO Hat]
  · isplitr; · iexact HI
    isplitl [Hc]; · iexact Hc
    isplitl [HO]; · iexact HO
    isplitr
    · iapply (mayWait_obl c (.reg barS) 0 (fun k' _ => lt_of_lt_of_le (by
        rw [show SemLoc.reg barS = csem none from rfl, decS_csem]; decide) (lvlK_pos k')))
      iapply (Recs_lev m K); iexact HR
    iexact Hat
  iintro ⟨HO, Hat, -, Hpay⟩
  ihave Hp := (rest_bar m c) $$ [Hpay]
  · iexact Hpay
  imod (Rounds.cell_close ER (rd m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

end Send

end Cert.KernelProof

end
-- ==== Proof.Local.lean ====
/-
The steps a device makes inside itself: copies into and out of the weight and exponential buffers, the waits for them,
loads and stores, and what each buffer slot holds meanwhile.
-/
module

public import proofs.«01_k».proof.Proof.Xfer

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- What a copy of 512 by 1024 words counts. -/
abbrev NE : ℕ := (gM.slice (Rect.unit (s := S512x32768) ![0, 0] S512x1024.size (by decide)) (fun _ => rfl)).view.dmaCredit
/-- What a copy of 1024 by 1024 words counts. -/
abbrev NWt : ℕ := (wM.slice (Rect.unit (s := S1024x8192) ![0, 0] S1024x1024.size (by decide)) (fun _ => rfl)).view.dmaCredit

/-- A copy under way on semaphore `sm` that delivers `D`. -/
abbrev Fl (c : Dev nD) (sm : DmaSem sig) (N : ℕ) (D : sProp 𝕄) : sProp 𝕄 := Transfers.Flight EC (c : Thread nD τ) (.dma sm) () N D
/-- A semaphore of the device at zero. -/
abbrev Z0 (c : Dev nD) (sm : DmaSem sig) : sProp 𝕄 := semVal ((c : Thread nD τ), SemLoc.dma sm) 0

/-- Slot `s` of the exponential buffers holds `w`. -/
def EB (c : Dev nD) (s : Fin 2) (w : Vec F S1x512x1024 .f32) : sProp 𝕄 :=
  iprop(∃ f, ⌜(ebM.view.slice (er s)).read (Elt F) f = w⌝ ∗ ebL c ↦[eslot s.val]{fullShare} f)
/-- Slot `s` of the exponential buffers holds something. -/
def EBany (c : Dev nD) (s : Fin 2) : sProp 𝕄 := iprop(∃ f, ebL c ↦[eslot s.val]{fullShare} f)
/-- Slot `s` of the weight buffers holds `w`. -/
def WB (c : Dev nD) (s : Fin 2) (w : Vec F S1x1024x1024 .f32) : sProp 𝕄 :=
  iprop(∃ f, ⌜(wbM.view.slice (wr s)).read (Elt F) f = w⌝ ∗ wbL c ↦[wslot s.val]{fullShare} f)
/-- Slot `s` of the weight buffers holds something. -/
def WBany (c : Dev nD) (s : Fin 2) : sProp 𝕄 := iprop(∃ f, wbL c ↦[wslot s.val]{fullShare} f)

/-- A slot of the exponential buffers that holds `w` holds something. -/
theorem EB_any (c : Dev nD) (s : Fin 2) (w) : EB (F := F) c s w ⊢ EBany c s := by
  unfold EB EBany; iintro ⟨%f, -, H⟩; iexists f; iexact H
/-- A slot of the weight buffers that holds `w` holds something. -/
theorem WB_any (c : Dev nD) (s : Fin 2) (w) : WB (F := F) c s w ⊢ WBany c s := by
  unfold WB WBany; iintro ⟨%f, -, H⟩; iexists f; iexact H

/-- The columns `lo` to `lo + n` of the exponentials, at their final contents. -/
abbrev gP (c : Dev nD) (lo n : ℕ) (q : PosShare TreeShare) : sProp 𝕄 := gL c ↦[gcol lo n]{q} gAll m
/-- Those columns, at whatever contents. -/
def gJ (c : Dev nD) (lo n : ℕ) : sProp 𝕄 := iprop(∃ f, gL c ↦[gcol lo n]{fullShare} f)
/-- The result's buffer, final where `D` says so. -/
def OutP (c : Dev nD) (D : ℕ → Prop) : sProp 𝕄 := iprop(∃ f : Buf (Elt F) (oL c), ⌜∀ i : S512x32768.Idx, D (i 1).val → f i = outAll m i⌝ ∗ oL c ↦{fullShare} f)

/-- With fewer columns known to be done the result's state is weaker. -/
theorem OutP_mono (c : Dev nD) {D D' : ℕ → Prop} (h : ∀ j, j < 32768 → D' j → D j) : OutP m c D ⊢ OutP m c D' := by
  unfold OutP; iintro ⟨%f, %hf, H⟩; iexists f
  isplitr
  · ipureintro; exact fun i hi => hf i (h _ (i 1).isLt hi)
  iexact H

/-- The share of the weights that copies into slot `s` read through. -/
def qW (s : Fin 2) : PosShare TreeShare := if s = 0 then fullShare.left else fullShare.right
/-- The columns of tile `t` of the weights. -/
def wcol (t : ℕ) : Finset S1024x8192.Idx := Finset.univ.filter fun i => 1024 * t ≤ (i 1).val ∧ (i 1).val < 1024 * t + 1024
/-- The words of weight tile `t`. -/
theorem set_wcol {t : ℕ} {off : Fin 2 → ℕ} {inb : ∀ a, off a + S1024x1024.size a ≤ S1024x8192.size a} (ho : off = ![0, 1024 * t]) :
    (wM.view.slice (Rect.unit (s := S1024x8192) off S1024x1024.size inb)).set = wcol t := by
  subst ho
  refine (View.set_slice_whole main_arg1 _).trans (?_ : (Rect.unit (s := S1024x8192) ![0, 1024 * t] S1024x1024.size inb).set = _)
  ext i
  rw [Rect.mem_set_unit, Fin.forall_fin_two]
  have h0 : (i 0).val < 1024 := (i 0).isLt
  simp only [wcol, Finset.mem_filter, Finset.mem_univ, true_and]
  show (0 ≤ (i 0).val ∧ (i 0).val < 0 + 1024) ∧ (1024 * t ≤ (i 1).val ∧ (i 1).val < 1024 * t + 1024) ↔ _
  omega

/-- The semaphores of the copies inside the device. -/
def wS (s : Fin 2) : DmaSem sig := if s = 0 then 1 else 2
/-- The semaphores of the copies out of the exponential buffers. -/
def eS (s : Fin 2) : DmaSem sig := if s = 0 then 3 else 4
/-- The semaphore of the copies in and out while a tile is finished. -/
abbrev lS : DmaSem sig := 5

/-- A slot of the weight buffers ready for a copy, -/
def WRdy (c : Dev nD) (s : Fin 2) : sProp 𝕄 := iprop(WBany c s ∗ (wL c ↦{qW s} wblk m c) ∗ Z0 c (wS s))
/-- being filled with tile `t` -/
def WFl (c : Dev nD) (s : Fin 2) (t : ℕ) : sProp 𝕄 :=
  iprop(Fl c (wS s) NWt iprop(WB c s (w3 m c t) ∗ (wL c ↦[wcol t]{qW s} wblk m c)) ∗ (wL c ↦[Finset.univ \ wcol t]{qW s} wblk m c))
/-- and holding it. -/
def WGot (c : Dev nD) (s : Fin 2) (t : ℕ) : sProp 𝕄 := iprop(WB c s (w3 m c t) ∗ (wL c ↦{qW s} wblk m c) ∗ Z0 c (wS s))
/-- A slot that holds a tile is ready for the next copy. -/
theorem WGot_rdy (c : Dev nD) (s : Fin 2) (t : ℕ) : WGot m c s t ⊢ WRdy m c s := by
  unfold WGot WRdy
  iintro ⟨H, Hr⟩
  isplitl [H]
  · iapply (WB_any c s _); iexact H
  iexact Hr

/-- A slot of the exponential buffers free for use, -/
def ERdy (c : Dev nD) (s : Fin 2) : sProp 𝕄 := iprop(EBany (F := F) c s ∗ Z0 c (eS s))
/-- holding tile `t` of the device's own exponentials -/
def EHas (c : Dev nD) (s : Fin 2) (t : ℕ) : sProp 𝕄 := iprop(EB c s (shapeCast S1x512x1024 (eT m c t) shapeCasts_S512x1024_S1x512x1024) ∗ Z0 c (eS s))
/-- and being copied out. -/
def EFl (c : Dev nD) (s : Fin 2) (t : ℕ) : sProp 𝕄 :=
  Fl c (eS s) NE iprop(EBany c s ∗ gP m c (8192 * c.val + 1024 * t) 1024 fullShare)

/-- The waits for weight tiles are at the lowest level. -/
theorem lvl_wS : ∀ s, lvlOf (decS (.dma (wS s))) = 0 := by decide +kernel
/-- So are the waits for the copies out of the exponential buffers. -/
theorem lvl_eS : ∀ s, lvlOf (decS (.dma (eS s))) = 0 := by decide +kernel

section Steps
variable {α : Type} {Q : α → sProp (MT nD τ sig Unit (Elt F) ℕ UU ℕ)}
variable {kk : PUnit.{1} → Prog (TpuEff nD τ sig (Elt F) Λ₀ .tc) α}

/-- The wait for a copy inside the device. -/
theorem l_wait (c : Dev nD) (n : ℕ) (sm : DmaSem sig) (N : ℕ) (D : sProp 𝕄) {s1 : DmaSem sig} {sp sp' : Space} {s s' : Shape} {e e' : EltTy}
    {src : Memref sig .tc sp s e} {dst : Memref sig .tc sp' s' e'} {hsrc : src.view.WordExact} {hdst : dst.view.WordExact}
    (h1 : s1 = sm) (hl : lvlOf (decS (.dma sm)) = 0) (hN : dst.view.dmaCredit = N) :
    iprop(Recs m K ∗ Fl c sm N D ∗ Owe c n)
      ⊢ iprop((iprop(D ∗ Z0 c sm ∗ Owe c n) -∗ WP c (kk ⟨⟩) Q) -∗ WP c (Prog.lift (.waitDma2 s1 src dst hsrc hdst) >>= kk) Q) := by
  subst h1
  unfold Owe
  iintro ⟨#HR, HF, ⟨%W, HO⟩⟩ Hk
  iapply (Transfers.wp_waitLocalO EC 𝒱₀ (c : Thread nD τ) none () (N := N) hN (D := D) (O := obl c n) (W := W)) $$ [HF HO]
  · isplitl [HF]; · iexact HF
    isplitl [HO]; · iexact HO
    iapply (mayWait_obl c (.dma s1) n (fun k' _ => by rw [hl]; exact lt_of_lt_of_le (by decide) (lvlK_pos k')))
    iapply (Recs_lev m K); iexact HR
  iintro ⟨HD, Hz, HO⟩
  iapply Hk
  isplitl [HD]; · iexact HD
  isplitl [Hz]; · iexact Hz
  iexists _; iexact HO

section E
variable {o : Fin 3 → ℕ} {inb : ∀ a, o a + S1x512x1024.size a ≤ S2x512x1024.size a} (s : Fin 2)

/-- A store into a slot of the exponential buffers. -/
theorem e_store (c : Dev nD) (ho : o = ![s.val, 0, 0]) (w : Vec F S1x512x1024 .f32) {hx} {hm} :
    EBany (F := F) c s ⊢ iprop((EB c s w -∗ WP c (kk ⟨⟩) Q)
      -∗ WP c (Prog.lift (.store ebM (Rect.unit (s := S2x512x1024) o S1x512x1024.size inb) w Finset.univ hx hm) >>= kk) Q) := by
  subst ho
  unfold EBany EB
  iintro ⟨%f, H⟩ Hk
  iapply (wp_store 𝒱₀ (c : Thread nD τ) none Set.univ (m := ebM) (r := er s) (w := w) (Mk := Finset.univ) (f := f) (S := eslot s.val) (by
    rw [View.setOn_univ]; exact (set_e s).subset)) $$ H
  iintro H
  iapply Hk
  iexists _
  isplitr
  · ipureintro; exact View.read_write_univ (v := ebM.view.slice (er s)) (Val := Elt F) f w
  iexact H

variable {kv : Vec F S1x512x1024 .f32 → Prog (TpuEff nD τ sig (Elt F) Λ₀ .tc) α}

/-- A load of a slot of the exponential buffers. -/
theorem e_load (c : Dev nD) (ho : o = ![s.val, 0, 0]) (w : Vec F S1x512x1024 .f32) {hl} :
    EB (F := F) c s w ⊢ iprop((EB c s w -∗ WP c (kv w) Q)
      -∗ WP c (Prog.lift (.load ebM (Rect.unit (s := S2x512x1024) o S1x512x1024.size inb).toLoadRect hl) >>= kv) Q) := by
  subst ho
  unfold EB
  iintro ⟨%f, %hf, H⟩ Hk
  iapply (wp_load_rect 𝒱₀ (c : Thread nD τ) none Set.univ (m := ebM) (r := er s) (q := fullShare) (f := f) (S := eslot s.val) (set_e s).subset) $$ H
  iintro H
  rw [show (ebM.access (er s)).read (Elt F) f = w from hf]
  iapply Hk
  iexists f
  isplitr
  · ipureintro; exact hf
  iexact H

/-- A load of a slot whose contents do not matter. -/
theorem e_load_any (c : Dev nD) (ho : o = ![s.val, 0, 0]) {hl} :
    EBany (F := F) c s ⊢ iprop((∀ w, EBany c s -∗ WP c (kv w) Q)
      -∗ WP c (Prog.lift (.load ebM (Rect.unit (s := S2x512x1024) o S1x512x1024.size inb).toLoadRect hl) >>= kv) Q) := by
  subst ho
  unfold EBany
  iintro ⟨%f, H⟩ Hk
  iapply (wp_load_rect 𝒱₀ (c : Thread nD τ) none Set.univ (m := ebM) (r := er s) (q := fullShare) (f := f) (S := eslot s.val) (set_e s).subset) $$ H
  iintro H
  ispecialize Hk $$ %((ebM.access (er s)).read (Elt F) f)
  iapply Hk
  iexists f
  iexact H

variable {og : Fin 2 → ℕ} {inbg : ∀ a, og a + S512x1024.size a ≤ S512x32768.size a} {sm : DmaSem sig}

/-- A copy of a slot into the exponentials' columns from `lo` on. -/
theorem e_start (c : Dev nD) (lo : ℕ) (s0 : DmaSem sig) (h1 : sm = s0) (ho : o = ![s.val, 0, 0]) (hg : og = ![0, lo]) (w : Vec F S1x512x1024 .f32)
    (hw : shapeCast S512x1024 w shapeCasts_S1x512x1024_S512x1024 = gBlk m lo) {hsrc hdst ht} :
    iprop(EB c s w ∗ gJ (F := F) c lo 1024 ∗ Z0 c s0)
      ⊢ iprop((Fl c s0 NE iprop(EBany c s ∗ gP m c lo 1024 fullShare) -∗ WP c (kk ⟨⟩) Q)
      -∗ WP c (Prog.lift (.enqueueDma ((ebM.slice (Rect.unit (s := S2x512x1024) o S1x512x1024.size inb) (fun _ => rfl)).squeeze S512x1024 squeezes_S1x512x1024_S512x1024)
          (.here (gM.slice (Rect.unit (s := S512x32768) og S512x1024.size inbg) (fun _ => rfl))) (.dma sm) hsrc hdst ht) >>= kk) Q) := by
  subst h1 ho hg
  unfold EB EBany gJ
  iintro ⟨⟨%f, %hf, H⟩, ⟨%g, Hg⟩, Hz⟩ Hk
  iapply (Transfers.wp_dmaLocal EC 𝒱₀ (c : Thread nD τ) none
    (src := (ebM.slice (er s) (fun _ => rfl)).squeeze S512x1024 squeezes_S1x512x1024_S512x1024)
    (dst := gM.slice (Rect.unit (s := S512x32768) ![0, lo] S512x1024.size inbg) (fun _ => rfl)) (q := fullShare) (fs := f) (fd := g) (Sd := gcol lo 1024)
    () NE rfl (View.dmaCredit_pos _ (by decide)) (set_g rfl rfl).subset) $$ [H Hg Hz]
  · isplitl [H]
    · rw [show ((ebM.slice (er s) (fun _ => rfl)).squeeze S512x1024 squeezes_S1x512x1024_S512x1024).view.set = eslot s.val from (View.set_reshape _ _).trans (set_e s)]
      iexact H
    isplitl [Hg]; · iexact Hg
    iexact Hz
  iintro HF
  iapply Hk
  iapply (Transfers.Flight_mono EC (c : Thread nD τ) (D' := iprop(EBany (F := F) c s ∗ gP m c lo 1024 fullShare)) _) $$ HF
  unfold EBany
  rw [show ((ebM.slice (er s) (fun _ => rfl)).squeeze S512x1024 squeezes_S1x512x1024_S512x1024).view.set = eslot s.val from (View.set_reshape _ _).trans (set_e s)]
  iintro ⟨Hg, H⟩
  isplitl [H]; · iexists f; iexact H
  have e : ReadAs.same.apply (((ebM.slice (er s) (fun _ => rfl)).squeeze S512x1024 squeezes_S1x512x1024_S512x1024).view.read (Elt F) f)
      = (gM.view.slice (Rect.unit (s := S512x32768) ![0, lo] S512x1024.size inbg)).read (Elt F) (gAll m) := by
    refine Eq.trans ?_ (read_g rfl (gAll m)).symm
    refine Eq.trans ?_ hw
    rw [← hf]; rfl
  rw [e]
  have e2 : (gL c ↦[gcol lo 1024]{fullShare} ((gM.view.slice (Rect.unit (s := S512x32768) ![0, lo] S512x1024.size inbg)).write (Elt F) g
      ((gM.view.slice (Rect.unit (s := S512x32768) ![0, lo] S512x1024.size inbg)).read (Elt F) (gAll m)) Finset.univ) : sProp 𝕄) = gP m c lo 1024 fullShare :=
    pointsTo_congr fun i hi => write_read_on (gM.view.slice (Rect.unit (s := S512x32768) ![0, lo] S512x1024.size inbg)) g (gAll m) _ rfl i (by rw [set_g rfl rfl]; exact hi)
  ihave Hg := (Entails.of_eq e2) $$ Hg
  iexact Hg

/-- A copy of the exponentials' columns from `lo` on into a slot. -/
theorem g_start (c : Dev nD) (lo : ℕ) (q : PosShare TreeShare) (s0 : DmaSem sig) (h1 : sm = s0) (ho : o = ![s.val, 0, 0]) (hg : og = ![0, lo]) {hsrc hdst ht} :
    iprop(EBany c s ∗ gP m c lo 1024 q ∗ Z0 c s0)
      ⊢ iprop((Fl c s0 NE iprop(EB c s (shapeCast S1x512x1024 (gBlk m lo) shapeCasts_S512x1024_S1x512x1024)) -∗ WP c (kk ⟨⟩) Q)
      -∗ WP c (Prog.lift (.enqueueDma (gM.slice (Rect.unit (s := S512x32768) og S512x1024.size inbg) (fun _ => rfl))
          (.here ((ebM.slice (Rect.unit (s := S2x512x1024) o S1x512x1024.size inb) (fun _ => rfl)).squeeze S512x1024 squeezes_S1x512x1024_S512x1024)) (.dma sm) hsrc hdst ht) >>= kk) Q) := by
  subst h1 ho hg
  unfold EB EBany
  iintro ⟨⟨%f, H⟩, Hg, Hz⟩ Hk
  iapply (Transfers.wp_dmaLocal EC 𝒱₀ (c : Thread nD τ) none
    (dst := (ebM.slice (er s) (fun _ => rfl)).squeeze S512x1024 squeezes_S1x512x1024_S512x1024)
    (src := gM.slice (Rect.unit (s := S512x32768) ![0, lo] S512x1024.size inbg) (fun _ => rfl)) (q := q) (fs := gAll m) (fd := f) (Sd := eslot s.val)
    () NE rfl (View.dmaCredit_pos _ (by decide)) ((View.set_reshape _ _).trans (set_e s)).subset) $$ [H Hg Hz]
  · isplitl [Hg]
    · rw [show (gM.slice (Rect.unit (s := S512x32768) ![0, lo] S512x1024.size inbg) (fun _ => rfl)).view.set = gcol lo 1024 from set_g rfl rfl]
      iexact Hg
    isplitl [H]; · iexact H
    iexact Hz
  iintro HF
  iapply Hk
  iapply (Transfers.Flight_mono EC (c : Thread nD τ) (D' := iprop(EB (F := F) c s (shapeCast S1x512x1024 (gBlk m lo) shapeCasts_S512x1024_S1x512x1024))) _) $$ HF
  unfold EB
  iintro ⟨H, -⟩
  iexists _
  isplitr
  rotate_left
  · iexact H
  · ipureintro
    refine (read_write_reshape (ebM.view.slice (er s)) (show S512x1024.numel = S1x512x1024.numel by decide) shapeCasts_S512x1024_S1x512x1024 f _).trans ?_
    exact congrArg (fun w => shapeCast S1x512x1024 w shapeCasts_S512x1024_S1x512x1024) (read_g rfl (gAll m))

/-- A copy of a slot into the result's columns from `lo` on. -/
theorem o_start (c : Dev nD) (lo : ℕ) (D : ℕ → Prop) (s0 : DmaSem sig) (h1 : sm = s0) (ho : o = ![s.val, 0, 0]) (hg : og = ![0, lo]) (w : Vec F S1x512x1024 .f32)
    (hw : shapeCast S512x1024 w shapeCasts_S1x512x1024_S512x1024 = fun x => outAll m (ix2 (x 0).val (lo + (x 1).val))) {hsrc hdst ht} :
    iprop(EB c s w ∗ OutP m c D ∗ Z0 c s0)
      ⊢ iprop((Fl c s0 NE iprop(EBany c s ∗ OutP m c (fun j => D j ∨ (lo ≤ j ∧ j < lo + 1024))) -∗ WP c (kk ⟨⟩) Q)
      -∗ WP c (Prog.lift (.enqueueDma ((ebM.slice (Rect.unit (s := S2x512x1024) o S1x512x1024.size inb) (fun _ => rfl)).squeeze S512x1024 squeezes_S1x512x1024_S512x1024)
          (.here (oM.slice (Rect.unit (s := S512x32768) og S512x1024.size inbg) (fun _ => rfl))) (.dma sm) hsrc hdst ht) >>= kk) Q) := by
  subst h1 ho hg
  unfold EB OutP
  iintro ⟨⟨%f, %hf, H⟩, ⟨%g, %hg, Hg⟩, Hz⟩ Hk
  iapply (Transfers.wp_dmaLocal EC 𝒱₀ (c : Thread nD τ) none
    (src := (ebM.slice (er s) (fun _ => rfl)).squeeze S512x1024 squeezes_S1x512x1024_S512x1024)
    (dst := oM.slice (Rect.unit (s := S512x32768) ![0, lo] S512x1024.size inbg) (fun _ => rfl)) (q := fullShare) (fs := f) (fd := g) (Sd := Finset.univ)
    () NE rfl (View.dmaCredit_pos _ (by decide)) (Finset.subset_univ _)) $$ [H Hg Hz]
  · isplitl [H]
    · rw [show ((ebM.slice (er s) (fun _ => rfl)).squeeze S512x1024 squeezes_S1x512x1024_S512x1024).view.set = eslot s.val from (View.set_reshape _ _).trans (set_e s)]
      iexact H
    isplitl [Hg]; · iexact Hg
    iexact Hz
  iintro HF
  iapply Hk
  iapply (Transfers.Flight_mono EC (c : Thread nD τ) (D' := iprop(EBany (F := F) c s ∗ OutP m c (fun j => D j ∨ (lo ≤ j ∧ j < lo + 1024)))) _) $$ HF
  unfold EBany OutP
  rw [show ((ebM.slice (er s) (fun _ => rfl)).squeeze S512x1024 squeezes_S1x512x1024_S512x1024).view.set = eslot s.val from (View.set_reshape _ _).trans (set_e s)]
  iintro ⟨Hg, H⟩
  isplitl [H]; · iexists f; iexact H
  iexists _
  isplitr
  rotate_left
  · iexact Hg
  · ipureintro
    intro i hi
    have e : ReadAs.same.apply (((ebM.slice (er s) (fun _ => rfl)).squeeze S512x1024 squeezes_S1x512x1024_S512x1024).view.read (Elt F) f)
        = (oM.view.slice (Rect.unit (s := S512x32768) ![0, lo] S512x1024.size inbg)).read (Elt F) (outAll m) := by
      refine Eq.trans ?_ (read_o rfl (outAll m)).symm
      refine Eq.trans ?_ hw
      rw [← hf]; rfl
    rw [e]
    refine (congrFun (View.write_read_eq_piecewise (v := oM.view.slice (Rect.unit (s := S512x32768) ![0, lo] S512x1024.size inbg)) g (outAll m) Finset.univ) i).trans ?_
    rw [View.setOn_univ, set_o rfl rfl]
    by_cases hm : i ∈ gcol lo 1024
    · exact Finset.piecewise_eq_of_mem _ _ _ hm
    · rw [Finset.piecewise_eq_of_notMem _ _ _ hm]
      refine hg i (hi.resolve_right fun h => hm ?_)
      exact Finset.mem_filter.mpr ⟨Finset.mem_univ _, h⟩
end E

section W
variable {o : Fin 3 → ℕ} {inb : ∀ a, o a + S1x1024x1024.size a ≤ S2x1024x1024.size a} (s : Fin 2)
variable {kv : Vec F S1x1024x1024 .f32 → Prog (TpuEff nD τ sig (Elt F) Λ₀ .tc) α}

/-- A load of a slot of the weight buffers. -/
theorem w_load (c : Dev nD) (ho : o = ![s.val, 0, 0]) (w : Vec F S1x1024x1024 .f32) {hl} :
    WB (F := F) c s w ⊢ iprop((WB c s w -∗ WP c (kv w) Q)
      -∗ WP c (Prog.lift (.load wbM (Rect.unit (s := S2x1024x1024) o S1x1024x1024.size inb).toLoadRect hl) >>= kv) Q) := by
  subst ho
  unfold WB
  iintro ⟨%f, %hf, H⟩ Hk
  iapply (wp_load_rect 𝒱₀ (c : Thread nD τ) none Set.univ (m := wbM) (r := wr s) (q := fullShare) (f := f) (S := wslot s.val) (set_w s).subset) $$ H
  iintro H
  rw [show (wbM.access (wr s)).read (Elt F) f = w from hf]
  iapply Hk
  iexists f
  isplitr
  · ipureintro; exact hf
  iexact H

variable {og : Fin 2 → ℕ} {inbg : ∀ a, og a + S1024x1024.size a ≤ S1024x8192.size a} {sm : DmaSem sig}

/-- A copy of tile `t` of the weights into a slot. -/
theorem w_start (c : Dev nD) (t : ℕ) (h1 : sm = wS s) (ho : o = ![s.val, 0, 0]) (hg : og = ![0, 1024 * t]) {hsrc hdst ht} :
    WRdy m c s
      ⊢ iprop((WFl m c s t -∗ WP c (kk ⟨⟩) Q)
      -∗ WP c (Prog.lift (.enqueueDma (wM.slice (Rect.unit (s := S1024x8192) og S1024x1024.size inbg) (fun _ => rfl))
          (.here ((wbM.slice (Rect.unit (s := S2x1024x1024) o S1x1024x1024.size inb) (fun _ => rfl)).squeeze S1024x1024 squeezes_S1x1024x1024_S1024x1024)) (.dma sm) hsrc hdst ht) >>= kk) Q) := by
  subst h1 ho hg
  unfold WRdy WFl WB WBany
  iintro ⟨⟨%f, H⟩, Hg, Hz⟩ Hk
  ihave Hg := ((pointsTo_split_subset (Finset.subset_univ (wcol t))).1) $$ Hg
  icases Hg with ⟨Hg, Hrest⟩
  iapply (Transfers.wp_dmaLocal EC 𝒱₀ (c : Thread nD τ) none
    (dst := (wbM.slice (wr s) (fun _ => rfl)).squeeze S1024x1024 squeezes_S1x1024x1024_S1024x1024)
    (src := wM.slice (Rect.unit (s := S1024x8192) ![0, 1024 * t] S1024x1024.size inbg) (fun _ => rfl)) (q := qW s) (fs := wblk m c) (fd := f) (Sd := wslot s.val)
    () NWt rfl (View.dmaCredit_pos _ (by decide)) ((View.set_reshape _ _).trans (set_w s)).subset) $$ [H Hg Hz]
  · isplitl [Hg]
    · rw [show (wM.slice (Rect.unit (s := S1024x8192) ![0, 1024 * t] S1024x1024.size inbg) (fun _ => rfl)).view.set = wcol t from set_wcol rfl]
      iexact Hg
    isplitl [H]; · iexact H
    iexact Hz
  iintro HF
  iapply Hk
  isplitl [HF]
  rotate_left
  · iexact Hrest
  iapply (Transfers.Flight_mono EC (c : Thread nD τ) (D' := iprop((∃ f, ⌜(wbM.view.slice (wr s)).read (Elt F) f = w3 m c t⌝ ∗ wbL c ↦[wslot s.val]{fullShare} f)
      ∗ (wL c ↦[wcol t]{qW s} wblk m c))) _) $$ HF
  iintro ⟨H, Hg⟩
  isplitl [H]
  · iexists _
    isplitr
    rotate_left
    · iexact H
    · ipureintro
      refine (read_write_reshape (wbM.view.slice (wr s)) (show S1024x1024.numel = S1x1024x1024.numel by decide) (show S1024x1024.ShapeCasts S1x1024x1024 by decide) f _).trans ?_
      exact congrArg (fun w => shapeCast S1x1024x1024 w (by decide)) (read_w m c rfl)
  · rw [show (wM.slice (Rect.unit (s := S1024x8192) ![0, 1024 * t] S1024x1024.size inbg) (fun _ => rfl)).view.set = wcol t from set_wcol rfl]
    iexact Hg

/-- The wait for it. -/
theorem w_wait (c : Dev nD) (n t : ℕ) {s1 : DmaSem sig} {sp sp' : Space} {s' s'' : Shape} {e e' : EltTy}
    {src : Memref sig .tc sp s' e} {dst : Memref sig .tc sp' s'' e'} {hsrc : src.view.WordExact} {hdst : dst.view.WordExact}
    (h1 : s1 = wS s) (hN : dst.view.dmaCredit = NWt) :
    iprop(Recs m K ∗ WFl m c s t ∗ Owe c n)
      ⊢ iprop((iprop(WGot m c s t ∗ Owe c n) -∗ WP c (kk ⟨⟩) Q) -∗ WP c (Prog.lift (.waitDma2 s1 src dst hsrc hdst) >>= kk) Q) := by
  unfold WFl WGot
  iintro ⟨#HR, ⟨HF, Hr⟩, HO⟩ Hk
  iapply (l_wait m K c n (wS s) NWt _ h1 (lvl_wS s) hN) $$ [HF HO]
  · isplitr; · iexact HR
    isplitl [HF] <;> iassumption
  iintro ⟨⟨HW, Hg⟩, Hz, HO⟩
  iapply Hk
  isplitr [HO]
  rotate_left
  · iexact HO
  isplitl [HW]; · iexact HW
  isplitr [Hz]
  rotate_left
  · iexact Hz
  iapply ((pointsTo_split_subset (Finset.subset_univ (wcol t))).2)
  isplitl [Hg] <;> iassumption
end W

/-- The tile's computation, stored: the slot holds the tile. -/
theorem t_store {o : Fin 3 → ℕ} {inb : ∀ a, o a + S1x512x1024.size a ≤ S2x512x1024.size a} (s : Fin 2) (c : Dev nD) (t : ℕ) (ho : o = ![s.val, 0, 0])
    {w : Vec F S1x512x1024 .f32} (hw : w = k0_pay35 (xstg m c) (w3 m c t)) {hx} {hm} :
    ERdy (F := F) c s ⊢ iprop((EHas m c s t -∗ WP c (kk ⟨⟩) Q)
      -∗ WP c (Prog.lift (.store ebM (Rect.unit (s := S2x512x1024) o S1x512x1024.size inb) w Finset.univ hx hm) >>= kk) Q) := by
  subst hw
  unfold ERdy EHas
  iintro ⟨H, Hz⟩ Hk
  iapply (e_store s c ho _) $$ H
  iintro H
  iapply Hk
  isplitl [H]; · iexact H
  iexact Hz

/-- Its copy into the device's own columns. -/
theorem t_start {o : Fin 3 → ℕ} {inb : ∀ a, o a + S1x512x1024.size a ≤ S2x512x1024.size a} {og : Fin 2 → ℕ} {inbg : ∀ a, og a + S512x1024.size a ≤ S512x32768.size a} {sm : DmaSem sig}
    (s : Fin 2) (c : Dev nD) (t : ℕ) (ht8 : t < 8) (h1 : sm = eS s) (ho : o = ![s.val, 0, 0]) (hg : og = ![0, 8192 * c.val + 1024 * t]) {hsrc hdst ht} :
    iprop(EHas m c s t ∗ gJ (F := F) c (8192 * c.val + 1024 * t) 1024)
      ⊢ iprop((EFl m c s t -∗ WP c (kk ⟨⟩) Q)
      -∗ WP c (Prog.lift (.enqueueDma ((ebM.slice (Rect.unit (s := S2x512x1024) o S1x512x1024.size inb) (fun _ => rfl)).squeeze S512x1024 squeezes_S1x512x1024_S512x1024)
          (.here (gM.slice (Rect.unit (s := S512x32768) og S512x1024.size inbg) (fun _ => rfl))) (.dma sm) hsrc hdst ht) >>= kk) Q) := by
  unfold EHas EFl
  iintro ⟨⟨HE, Hz⟩, Hg⟩ Hk
  iapply (e_start m s c (8192 * c.val + 1024 * t) (eS s) h1 ho hg _ (by rw [gBlk_own m c t ht8]; exact shapeCast_shapeCast _ shapeCasts_S512x1024_S1x512x1024 _)) $$ [HE Hz Hg]
  · isplitl [HE]; · iexact HE
    isplitl [Hg] <;> iassumption
  iintro H
  iapply Hk; iexact H

/-- The wait for it. -/
theorem t_wait (s : Fin 2) (c : Dev nD) (n t : ℕ) {s1 : DmaSem sig} {sp sp' : Space} {s' s'' : Shape} {e e' : EltTy}
    {src : Memref sig .tc sp s' e} {dst : Memref sig .tc sp' s'' e'} {hsrc : src.view.WordExact} {hdst : dst.view.WordExact}
    (h1 : s1 = eS s) (hN : dst.view.dmaCredit = NE) :
    iprop(Recs m K ∗ EFl m c s t ∗ Owe c n)
      ⊢ iprop((iprop(ERdy c s ∗ gP m c (8192 * c.val + 1024 * t) 1024 fullShare ∗ Owe c n) -∗ WP c (kk ⟨⟩) Q) -∗ WP c (Prog.lift (.waitDma2 s1 src dst hsrc hdst) >>= kk) Q) := by
  unfold EFl ERdy
  iintro ⟨#HR, HF, HO⟩ Hk
  iapply (l_wait m K c n (eS s) NE _ h1 (lvl_eS s) hN) $$ [HF HO]
  · isplitr; · iexact HR
    isplitl [HF] <;> iassumption
  iintro ⟨⟨HE, Hg⟩, Hz, HO⟩
  iapply Hk
  isplitl [HE Hz]
  · isplitl [HE] <;> iassumption
  isplitl [Hg] <;> iassumption

/-- The load of `x`. -/
theorem x_load (c : Dev nD) {o : Fin 2 → ℕ} {inb : ∀ a, o a + S512x1024.size a ≤ S512x1024.size a} (ho : o = ![0, 0])
    {kv : Vec F S512x1024 .f32 → Prog (TpuEff nD τ sig (Elt F) Λ₀ .tc) α} {hl} :
    (xL c ↦{fullShare} xstg m c) ⊢ iprop(((xL c ↦{fullShare} xstg m c) -∗ WP c (kv (xstg m c)) Q)
      -∗ WP c (Prog.lift (.load xM (Rect.unit (s := S512x1024) o S512x1024.size inb).toLoadRect hl) >>= kv) Q) := by
  subst ho
  iintro H Hk
  iapply (wp_load 𝒱₀ (c : Thread nD τ) none Set.univ (m := xM) (q := fullShare) (f := xstg m c) (S := Finset.univ) (Finset.subset_univ _)) $$ H
  iintro H
  rw [show xM.view.readAt (Elt F) (Rect.unit (s := S512x1024) ![0, 0] S512x1024.size inb).toLoadRect (xstg m c) = xstg m c from
    Memref.readAt_unit_zero (Elt F) cc0_stg0_0 (by funext a; revert a; decide) inb (xstg m c)]
  iapply Hk
  iexact H
end Steps

end Cert.KernelProof

end
-- ==== Proof.Blocks.lean ====
/-
Blocks of the kernel's body: a transfer, a wait for an arrival, the finishing of a received piece and a wait for the device's
own transfer, each with the condition under which a device makes it.
-/
module

public import proofs.«01_k».proof.Proof.Local

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-! ## Program texts of the tile computations -/

/-- Slot 0 of the exponential buffers, as the copies see it. -/
abbrev eb0M : Memref sig .tc .vmem S512x1024 .f32 :=
  (ebM.slice (Rect.unit (s := S2x512x1024) ![0, 0, 0] S1x512x1024.size inb_S2x512x1024_S1x512x1024_0_0_0) (fun _ => rfl)).squeeze S512x1024 squeezes_S1x512x1024_S512x1024
/-- A tile of 512 by 1024 words of the gathered exponentials, at offset `o`. -/
abbrev gT (o : Fin 2 → ℕ) (inb : ∀ a, o a + S512x1024.size a ≤ S512x32768.size a) : Memref sig .tc .hbm S512x1024 .f32 :=
  gM.slice (Rect.unit (s := S512x32768) o S512x1024.size inb) (fun _ => rfl)
/-- A tile of 512 by 1024 words of the result, at offset `o`. -/
abbrev oT (o : Fin 2 → ℕ) (inb : ∀ a, o a + S512x1024.size a ≤ S512x32768.size a) : Memref sig .tc .hbm S512x1024 .f32 :=
  oM.slice (Rect.unit (s := S512x32768) o S512x1024.size inb) (fun _ => rfl)
/-- A group of 512 by 2048 words of the gathered exponentials, at offset `o`. -/
abbrev gS (o : Fin 2 → ℕ) (inb : ∀ a, o a + S512x2048.size a ≤ S512x32768.size a) : Memref sig .tc .hbm S512x2048 .f32 :=
  gM.slice (Rect.unit (s := S512x32768) o S512x2048.size inb) (fun _ => rfl)
/-- A row of the statistics, at offset `o`. -/
abbrev sT (o : Fin 2 → ℕ) (inb : ∀ a, o a + S1x512.size a ≤ S4x512.size a) : Memref sig .tc .vmem S512 .f32 :=
  (stM.slice (Rect.unit (s := S4x512) o S1x512.size inb) (fun _ => rfl)).squeeze S512 squeezes_S1x512_S512

section Text
variable {α : Type} (sm : DmaSem sig) (o : Fin 2 → ℕ) (inb : ∀ a, o a + S512x1024.size a ≤ S512x32768.size a)
  (pay : Vec F S1x512x1024 .f32 → FVec F S1x512x1024 .f32) (kk : PUnit.{1} → Prog (TpuEff nD τ sig (Elt F) Λ₀ .tc) α)

/-- A tile of the exponentials is copied in, and a function of it is stored in its place. -/
def tileInP : Prog (TpuEff nD τ sig (Elt F) Λ₀ .tc) α :=
  Prog.lift (.enqueueDma (gT o inb) (.here eb0M) (.dma sm) (View.wordExact_bits rfl) ((View.wordExact_bits rfl).reshape _ _) ⟨Or.inl rfl, trivial⟩) >>= fun _ =>
  Prog.lift (.waitDma2 sm (gT o inb) eb0M (View.wordExact_bits rfl) ((View.wordExact_bits rfl).reshape _ _)) >>= fun _ =>
  Prog.lift (.load ebM (Rect.unit (s := S2x512x1024) ![0, 0, 0] S1x512x1024.size inb_S2x512x1024_S1x512x1024_0_0_0).toLoadRect (View.loadsAt_vmem h_S1x512x1024)) >>= fun v =>
  Prog.lift (.load ebM (Rect.unit (s := S2x512x1024) ![0, 0, 0] S1x512x1024.size inb_S2x512x1024_S1x512x1024_0_0_0).toLoadRect (View.loadsAt_vmem h_S1x512x1024)) >>= fun _ =>
  Prog.lift (.store ebM (Rect.unit (s := S2x512x1024) ![0, 0, 0] S1x512x1024.size inb_S2x512x1024_S1x512x1024_0_0_0) (pay v) Finset.univ (View.stores_vmem_bits_univ h_S1x512x1024 rfl) (.inl rfl)) >>= kk

/-- The stored tile is copied to the result. -/
def tileOutP : Prog (TpuEff nD τ sig (Elt F) Λ₀ .tc) α :=
  Prog.lift (.enqueueDma eb0M (.here (oT o inb)) (.dma sm) ((View.wordExact_bits rfl).reshape _ _) (View.wordExact_bits rfl) ⟨Or.inl rfl, trivial⟩) >>= fun _ =>
  Prog.lift (.waitDma2 sm eb0M (oT o inb) ((View.wordExact_bits rfl).reshape _ _) (View.wordExact_bits rfl)) >>= kk

end Text

/-! ## What the tiles deliver -/

/-- The rows' factor times a tile of the exponentials. -/
def scT (lo : ℕ) : Vec F S1x512x1024 .f32 := k0_pay1 (rV m) (shapeCast S1x512x1024 (gBlk m lo) shapeCasts_S512x1024_S1x512x1024)
/-- A scaled tile, read as a matrix, is the result's columns from `lo`. -/
theorem scT_read (lo : ℕ) (hlo : lo + 1024 ≤ 32768) :
    shapeCast S512x1024 (scT m lo) shapeCasts_S1x512x1024_S512x1024 = fun x => outAll m (ix2 (x 0).val (lo + (x 1).val)) := by
  refine Eq.trans ?_ (scaled m lo hlo)
  unfold scT k0_pay1
  dsimp only
  rw [shapeCast_shapeCast, shapeCast_shapeCast]

/-- A copy out of a buffer of exponentials counts `NE`. -/
theorem eb_cr : (eb0M).view.dmaCredit = NE := by decide +kernel
/-- A copy into a tile of the result counts `NE`. -/
theorem oT_cr (o : Fin 2 → ℕ) (inb : ∀ a, o a + S512x1024.size a ≤ S512x32768.size a) : (oT o inb).view.dmaCredit = NE := rfl

section Tiles
variable {α : Type} {Q : α → sProp (MT nD τ sig Unit (Elt F) ℕ UU ℕ)}
variable {kk : PUnit.{1} → Prog (TpuEff nD τ sig (Elt F) Λ₀ .tc) α}
variable {sm : DmaSem sig} {o : Fin 2 → ℕ} {inb : ∀ a, o a + S512x1024.size a ≤ S512x32768.size a} {pay : Vec F S1x512x1024 .f32 → FVec F S1x512x1024 .f32}

/-- The first half of finishing a tile: copy it in, wait, and scale it by the reciprocals. -/
theorem tile_in (c : Dev nD) (n lo : ℕ) (q : PosShare TreeShare) (h1 : sm = lS) (ho : o = ![0, lo]) (hp : pay = k0_pay1 (rV m)) :
    iprop(Recs m K ∗ Owe c n ∗ (EBany (F := F) c 0 ∗ Z0 c lS) ∗ gP m c lo 1024 q)
      ⊢ iprop((iprop(Owe c n ∗ EB c 0 (scT m lo) ∗ Z0 c lS) -∗ WP c (kk ⟨⟩) Q) -∗ WP c (tileInP sm o inb pay kk) Q) := by
  subst h1 hp
  unfold tileInP
  iintro ⟨#HR, HO, ⟨HE, Hz⟩, Hg⟩ Hk
  iapply (g_start m (0 : Fin 2) c lo q lS rfl rfl ho) $$ [HE Hz Hg]
  · isplitl [HE]; · iexact HE
    isplitl [Hg] <;> iassumption
  iintro HF
  iapply (l_wait m K c n lS NE _ (dst := eb0M) rfl (by decide +kernel) eb_cr) $$ [HF HO]
  · isplitr; · iexact HR
    isplitl [HF] <;> iassumption
  iintro ⟨HE, Hz, HO⟩
  iapply (e_load (0 : Fin 2) c rfl _) $$ HE
  iintro HE
  iapply (e_load (0 : Fin 2) c rfl _) $$ HE
  iintro HE
  ihave HE := (EB_any c 0 _) $$ HE
  iapply (e_store (0 : Fin 2) c rfl (scT m lo)) $$ HE
  iintro HE
  iapply Hk
  isplitl [HO]; · iexact HO
  isplitl [HE] <;> iassumption

/-- The second half: copy the scaled tile to the result and wait; 1024 more columns are then done. -/
theorem tile_out (c : Dev nD) (n lo : ℕ) (hlo : lo + 1024 ≤ 32768) (D : ℕ → Prop) (h1 : sm = lS) (ho : o = ![0, lo]) :
    iprop(Recs m K ∗ Owe c n ∗ (EB c 0 (scT m lo) ∗ Z0 c lS) ∗ OutP m c D)
      ⊢ iprop((iprop(Owe c n ∗ (EBany c 0 ∗ Z0 c lS) ∗ OutP m c (fun j => D j ∨ (lo ≤ j ∧ j < lo + 1024))) -∗ WP c (kk ⟨⟩) Q) -∗ WP c (tileOutP sm o inb kk) Q) := by
  subst h1
  unfold tileOutP
  iintro ⟨#HR, HO, ⟨HE, Hz⟩, Hg⟩ Hk
  iapply (o_start m (0 : Fin 2) c lo D lS rfl rfl ho _ (scT_read m lo hlo)) $$ [HE Hz Hg]
  · isplitl [HE]; · iexact HE
    isplitl [Hg] <;> iassumption
  iintro HF
  iapply (l_wait m K c n lS NE _ (dst := oT o inb) rfl (by decide +kernel) (oT_cr o inb)) $$ [HF HO]
  · isplitr; · iexact HR
    isplitl [HF] <;> iassumption
  iintro ⟨⟨HE, Hg⟩, Hz, HO⟩
  iapply Hk
  isplitl [HO]; · iexact HO
  isplitl [HE Hz]
  · isplitl [HE] <;> iassumption
  iexact Hg

end Tiles

/-! ## The columns finished so far -/

/-- The order in which a device finishes the pieces it received. -/
def zOrd (b : Bool) (i u : ℕ) : ℕ := 8 * i + 2 * u + b.toNat
/-- The columns of the result finished after `n` of them. -/
def Dn (c : Dev nD) (n : ℕ) (j : ℕ) : Prop :=
  (8192 * c.val ≤ j ∧ j < 8192 * c.val + 8192)
    ∨ ∃ b : Bool, ∃ i : Fin 3, ∃ u : Fin 4, zOrd b i.val u.val < n ∧ ex c b (i.val + 1) = true ∧ 8192 * slot c b (i.val + 1) + 2048 * u.val ≤ j ∧ j < 8192 * slot c b (i.val + 1) + 2048 * u.val + 2048

/-- The columns done after a group are those done before it and the group's two tiles. -/
theorem Dn_step (c : Dev nD) (b : Bool) (i : Fin 3) (u : Fin 4) (j : ℕ) (h : Dn c (zOrd b i.val u.val + 1) j) :
    (Dn c (zOrd b i.val u.val) j ∨ (8192 * slot c b (i.val + 1) + 2048 * u.val ≤ j ∧ j < 8192 * slot c b (i.val + 1) + 2048 * u.val + 1024))
      ∨ (8192 * slot c b (i.val + 1) + 2048 * u.val + 1024 ≤ j ∧ j < 8192 * slot c b (i.val + 1) + 2048 * u.val + 1024 + 1024) := by
  rcases h with h | ⟨b', i', u', hlt, he, h1, h2⟩
  · exact Or.inl (Or.inl (Or.inl h))
  · by_cases hq : zOrd b' i'.val u'.val = zOrd b i.val u.val
    · have hu := u.isLt; have hu' := u'.isLt
      have hb : b' = b ∧ i' = i ∧ u' = u := by
        unfold zOrd at hq
        rcases b <;> rcases b' <;> simp only [Bool.toNat_true, Bool.toNat_false] at hq <;>
          first | (exact absurd hq (by omega)) | (exact ⟨rfl, Fin.ext (by omega), Fin.ext (by omega)⟩)
      obtain ⟨rfl, rfl, rfl⟩ := hb
      by_cases h3 : j < 8192 * slot c b' (i'.val + 1) + 2048 * u'.val + 1024
      · exact Or.inl (Or.inr ⟨h1, h3⟩)
      · exact Or.inr ⟨by omega, by omega⟩
    · exact Or.inl (Or.inl (Or.inr ⟨b', i', u', by omega, he, h1, h2⟩))

/-- Where the device has no such block, the columns done stay the same. -/
theorem Dn_skip (c : Dev nD) (b : Bool) (i : Fin 3) (u : Fin 4) (hn : ¬ ex c b (i.val + 1) = true) (j : ℕ) (h : Dn c (zOrd b i.val u.val + 1) j) :
    Dn c (zOrd b i.val u.val) j := by
  rcases h with h | ⟨b', i', u', hlt, he, h1, h2⟩
  · exact Or.inl h
  · refine Or.inr ⟨b', i', u', ?_, he, h1, h2⟩
    refine lt_of_le_of_ne (Nat.lt_succ_iff.mp hlt) fun hq => hn ?_
    have hu := u.isLt; have hu' := u'.isLt
    have hb : b' = b ∧ i'.val = i.val := by
      unfold zOrd at hq
      rcases b <;> rcases b' <;> simp only [Bool.toNat_true, Bool.toNat_false] at hq <;>
        first | (exact absurd hq (by omega)) | (exact ⟨rfl, by omega⟩)
    rw [hb.1, hb.2] at he
    exact he

/-- After all of them every column is. -/
theorem Dn_all (c : Dev nD) (j : ℕ) (hj : j < 32768) : Dn c 24 j := by
  have hc : c.val < 4 := c.isLt
  have e0 : ∀ (c : Dev nD) (q : Fin 4), q.val < c.val → ex c false (c.val - q.val) = true ∧ slot c false (c.val - q.val) = q.val := by decide +kernel
  have e1 : ∀ (c : Dev nD) (q : Fin 4), c.val < q.val → ex c true (q.val - c.val) = true ∧ slot c true (q.val - c.val) = q.val := by decide +kernel
  rcases lt_trichotomy (j / 8192) c.val with hq | hq | hq
  · obtain ⟨h1, h2⟩ := e0 c ⟨j / 8192, by omega⟩ hq
    refine Or.inr ⟨false, ⟨c.val - j / 8192 - 1, by omega⟩, ⟨j % 8192 / 2048, by omega⟩, ?_, ?_⟩
    · show 8 * (c.val - j / 8192 - 1) + 2 * (j % 8192 / 2048) + 0 < 24; omega
    · show ex c false (c.val - j / 8192 - 1 + 1) = true ∧ 8192 * slot c false (c.val - j / 8192 - 1 + 1) + 2048 * (j % 8192 / 2048) ≤ j
        ∧ j < 8192 * slot c false (c.val - j / 8192 - 1 + 1) + 2048 * (j % 8192 / 2048) + 2048
      rw [show c.val - j / 8192 - 1 + 1 = c.val - j / 8192 by omega]
      refine ⟨h1, ?_⟩
      rw [show slot c false (c.val - j / 8192) = j / 8192 from h2]
      omega
  · exact Or.inl (by omega)
  · obtain ⟨h1, h2⟩ := e1 c ⟨j / 8192, by omega⟩ hq
    refine Or.inr ⟨true, ⟨j / 8192 - c.val - 1, by omega⟩, ⟨j % 8192 / 2048, by omega⟩, ?_, ?_⟩
    · show 8 * (j / 8192 - c.val - 1) + 2 * (j % 8192 / 2048) + 1 < 24; omega
    · show ex c true (j / 8192 - c.val - 1 + 1) = true ∧ 8192 * slot c true (j / 8192 - c.val - 1 + 1) + 2048 * (j % 8192 / 2048) ≤ j
        ∧ j < 8192 * slot c true (j / 8192 - c.val - 1 + 1) + 2048 * (j % 8192 / 2048) + 2048
      rw [show j / 8192 - c.val - 1 + 1 = j / 8192 - c.val by omega]
      refine ⟨h1, ?_⟩
      rw [show slot c true (j / 8192 - c.val) = j / 8192 from h2]
      omega

/-- A block that a device holds is one of the four. -/
theorem slot_le : ∀ (c : Dev nD) (b : Bool) (h : Fin 4), ex c b h.val = true → slot c b h.val ≤ 3 := by decide +kernel

/-- The weakest precondition of a program followed by another. -/
theorem WP_bind {α β : Type} (c : Dev nD) (p : Prog (TpuEff nD τ sig (Elt F) Λ₀ .tc) α) (k : α → Prog (TpuEff nD τ sig (Elt F) Λ₀ .tc) β) (Q : β → sProp (MT nD τ sig Unit (Elt F) ℕ UU ℕ)) :
    WP c (p >>= k) Q = WP c p (fun a => WP c (k a) Q) := wp_bind _ _ _ p k Q
/-- The weakest precondition of a program that returns at once. -/
theorem WP_pure {α : Type} (c : Dev nD) (a : α) (Q : α → sProp (MT nD τ sig Unit (Elt F) ℕ UU ℕ)) :
    Q a ⊢ WP (F := F) c (pure a) Q := by
  show Q a ⊢ iprop(|={Set.univ}=> Q a)
  iintro H
  imodintro
  iexact H

/-- A block's lemma applies to a program that unfolds to the block. -/
theorem go {α : Type} {c : Dev nD} {p p' : Prog (TpuEff nD τ sig (Elt F) Λ₀ .tc) α} {Q : α → sProp (MT nD τ sig Unit (Elt F) ℕ UU ℕ)} {H : sProp (MT nD τ sig Unit (Elt F) ℕ UU ℕ)}
    (h : H ⊢ WP c p' Q) (e : p = p') : H ⊢ WP c p Q := e ▸ h

/-! ## Blocks of the body -/

/-- What a device holds between blocks: `a` transfers started, `r` arrivals waited for, and `P`. -/
def Hs (c : Dev nD) (a r : ℕ) (P : sProp 𝕄) : sProp 𝕄 :=
  iprop(Recs m K ∗ Owe c a ∗ fam sOrd (SB c) (SA m c) a ∗ fam rOrd (RB c) (RD c) r ∗ P)
/-- What it holds while it finishes tiles. -/
def TT (c : Dev nD) (n : ℕ) : sProp 𝕄 := iprop((EBany c 0 ∗ Z0 c lS) ∗ OutP m c (Dn c n))
/-- What it holds while it waits for its own transfers. -/
def Dr (c : Dev nD) (e : ℕ) (P : sProp 𝕄) : sProp 𝕄 := iprop(Recs m K ∗ Owe c 30 ∗ fam dOrd (SA m c) (SD m c) e ∗ P)

/-- The rest of what a device holds between blocks may be weakened. -/
theorem Hs_mono (c : Dev nD) (a r : ℕ) {P P' : sProp 𝕄} (h : P ⊢ P') : Hs m K c a r P ⊢ Hs m K c a r P' := by
  unfold Hs
  iintro ⟨HR, HO, Hs, Hr, HP⟩
  isplitl [HR]; · iexact HR
  isplitl [HO]; · iexact HO
  isplitl [Hs]; · iexact Hs
  isplitl [Hr]; · iexact Hr
  iapply (show P ⊢ P' from h); iexact HP

section Blocks
variable {α : Type} {Q : α → sProp (MT nD τ sig Unit (Elt F) ℕ UU ℕ)}
variable {kk : PUnit.{1} → Prog (TpuEff nD τ sig (Elt F) Λ₀ .tc) α}
variable {cond : Prop} {dcd : Decidable cond}

/-- A device that sends a transfer holds the block, and the neighbour knows it by the same number. -/
theorem act_facts : ∀ (c : Dev nD) (k : TK), act c k = true → ex c k.1 k.2.1.val = true ∧ slot (peer c k.1) k.1 (k.2.1.val + 1) = slot c k.1 k.2.1.val := by decide +kernel

/-- A transfer of a piece of the exponentials, if there is one. -/
theorem blk_send (c : Dev nD) (k : TK) (h4 : k.2.2 ≠ 4) {dv : ℕ} {hlt : cond → dv < nD} {o : Fin 2 → ℕ} {inb : cond → ∀ a, o a + S512x2048.size a ≤ S512x32768.size a}
    {s1 s2 : DmaSem sig} (h1 : s1 = sS k) (h2 : s2 = rS k)
    (hx : (cond ↔ act c k = true) ∧ (cond → dv = (peer c k.1).val ∧ o = ![0, 8192 * slot c k.1 k.2.1.val + 2048 * k.2.2.val])) :
    iprop(Recs m K ∗ Owe c (sOrd k) ∗ fam sOrd (SB c) (SA m c) (sOrd k) ∗ pS m c k.1 k.2.1.val k.2.2)
      ⊢ iprop((iprop(Owe c (sOrd k + 1) ∗ fam sOrd (SB c) (SA m c) (sOrd k + 1)) -∗ WP c (kk ⟨⟩) Q)
          -∗ WP c (dite cond (fun h => Prog.lift (.enqueueDma (gS o (inb h)) (.remote (Dev.tc (⟨dv, hlt h⟩ : Dev nD)) (gS o (inb h)) (.dma s1)) (.dma s2)
              (View.wordExact_bits rfl) (View.wordExact_bits rfl) ⟨⟨rfl, Or.inl rfl⟩, trivial⟩) >>= kk) (fun _ => kk ⟨⟩)) Q) := by
  by_cases h : cond
  · rw [dif_pos h]
    have ha := hx.1.mp h
    obtain ⟨hd, ho⟩ := hx.2 h
    obtain ⟨he, hsl⟩ := act_facts c k ha
    have hset : (gS o (inb h)).view.set = gcol (8192 * slot c k.1 k.2.1.val + 2048 * k.2.2.val) 2048 := set_g ho rfl
    refine core_send m K c k ⟨dv, hlt h⟩ (gS o (inb h)) ha (Fin.ext hd) h1 h2 ?_ (gAll m) ?_ ?_ ?_
    · unfold NN; rw [if_neg h4]; rfl
    · unfold pS pt; rw [if_pos he, if_neg h4, hset]
    · unfold junk; rw [if_neg h4, hset]
    · unfold recvPay pt; rw [if_neg h4, hset, hsl]
  · rw [dif_neg h]
    have ha : ¬ act c k = true := fun ha => h (hx.1.mpr ha)
    iintro ⟨-, H⟩ Hk
    iapply Hk
    iapply (skip_send m c k ha); iexact H

/-- A transfer of the row of sums, if there is one. -/
theorem blk_sendS (c : Dev nD) (k : TK) (h4 : k.2.2 = 4) {dv : ℕ} {hlt : cond → dv < nD} {o : Fin 2 → ℕ} {inb : cond → ∀ a, o a + S1x512.size a ≤ S4x512.size a}
    {s1 s2 : DmaSem sig} (h1 : s1 = sS k) (h2 : s2 = rS k)
    (hx : (cond ↔ act c k = true) ∧ (cond → dv = (peer c k.1).val ∧ o = ![slot c k.1 k.2.1.val, 0])) :
    iprop(Recs m K ∗ Owe c (sOrd k) ∗ fam sOrd (SB c) (SA m c) (sOrd k) ∗ pS m c k.1 k.2.1.val k.2.2)
      ⊢ iprop((iprop(Owe c (sOrd k + 1) ∗ fam sOrd (SB c) (SA m c) (sOrd k + 1)) -∗ WP c (kk ⟨⟩) Q)
          -∗ WP c (dite cond (fun h => Prog.lift (.enqueueDma (sT o (inb h)) (.remote (Dev.tc (⟨dv, hlt h⟩ : Dev nD)) (sT o (inb h)) (.dma s1)) (.dma s2)
              ((View.wordExact_bits rfl).reshape _ _) ((View.wordExact_bits rfl).reshape _ _) ⟨⟨rfl, Or.inl rfl⟩, trivial⟩) >>= kk) (fun _ => kk ⟨⟩)) Q) := by
  by_cases h : cond
  · rw [dif_pos h]
    have ha := hx.1.mp h
    obtain ⟨hd, ho⟩ := hx.2 h
    obtain ⟨he, hsl⟩ := act_facts c k ha
    have hset : (sT o (inb h)).view.set = srow (slot c k.1 k.2.1.val) := (View.set_reshape _ _).trans (set_row ho rfl)
    refine core_send m K c k ⟨dv, hlt h⟩ (sT o (inb h)) ha (Fin.ext hd) h1 h2 ?_ (sAll m) ?_ ?_ ?_
    · unfold NN; rw [if_pos h4]
    · unfold pS pt; rw [if_pos he, if_pos h4, hset]
    · unfold junk; rw [if_pos h4, hset]
    · unfold recvPay pt; rw [if_pos h4, hset, hsl]
  · rw [dif_neg h]
    have ha : ¬ act c k = true := fun ha => h (hx.1.mpr ha)
    iintro ⟨-, H⟩ Hk
    iapply Hk
    iapply (skip_send m c k ha); iexact H

/-- Such a transfer between blocks. -/
theorem send_Hs (c : Dev nD) (k : TK) (a r : ℕ) (P : sProp 𝕄) (hk : sOrd k = a) {p : Prog (TpuEff nD τ sig (Elt F) Λ₀ .tc) α}
    (hp : iprop(Recs m K ∗ Owe c (sOrd k) ∗ fam sOrd (SB c) (SA m c) (sOrd k) ∗ pS m c k.1 k.2.1.val k.2.2)
      ⊢ iprop((iprop(Owe c (sOrd k + 1) ∗ fam sOrd (SB c) (SA m c) (sOrd k + 1)) -∗ WP c (kk ⟨⟩) Q) -∗ WP c p Q))
    (hQ : Hs m K c (a + 1) r P ⊢ WP c (kk ⟨⟩) Q) :
    Hs m K c a r iprop(pS m c k.1 k.2.1.val k.2.2 ∗ P) ⊢ WP c p Q := by
  subst hk
  unfold Hs at *
  iintro ⟨#HR, HO, Hs, Hr, Hp, HP⟩
  iapply (show _ ⊢ _ from hp) $$ [HO Hs Hp]
  · isplitr; · iexact HR
    isplitl [HO]; · iexact HO
    isplitl [Hs] <;> iassumption
  iintro ⟨HO, Hs⟩
  iapply (show _ ⊢ WP c (kk ⟨⟩) Q from hQ)
  isplitr; · iexact HR
  isplitl [HO]; · iexact HO
  isplitl [Hs]; · iexact Hs
  isplitl [Hr] <;> iassumption

/-- The whole share is its two halves. -/
theorem full_split : fullShare ∈ PCS.op fullShare.left fullShare.right := by
  rw [PosShare.left_op_right fullShare]; exact Part.mem_some _
/-- The right half is its two halves. -/
theorem right_split : fullShare.right ∈ PCS.op fullShare.right.left fullShare.right.right := by
  rw [PosShare.left_op_right fullShare.right]; exact Part.mem_some _

/-- A piece splits along the share. -/
theorem pt_share (d : Dev nD) (j : ℕ) (u : Fin 5) {q q₁ q₂ : PosShare TreeShare} (h : q ∈ PCS.op q₁ q₂) :
    pt m d j u q ⊢ iprop(pt m d j u q₁ ∗ pt m d j u q₂) := by
  unfold pt; split
  · exact (pointsTo_share h).1
  · exact (pointsTo_share h).1
/-- Two shares of a part join to one. -/
theorem pt_share' (d : Dev nD) (j : ℕ) (u : Fin 5) {q q₁ q₂ : PosShare TreeShare} (h : q ∈ PCS.op q₁ q₂) :
    iprop(pt m d j u q₁ ∗ pt m d j u q₂) ⊢ pt m d j u q := by
  unfold pt; split
  · exact (pointsTo_share h).2
  · exact (pointsTo_share h).2

/-- What arrives is cut into the share for sending on and the share for the device's own reading. -/
theorem recv_split (c : Dev nD) (k : TK) (h : ract c k = true) :
    recvPay m c k ⊢ iprop(pS m c k.1 (k.2.1.val + 1) k.2.2 ∗ pK m c k.1 (k.2.1.val + 1) k.2.2) := by
  have he : ex c k.1 (k.2.1.val + 1) = true := h
  unfold recvPay pS pK
  rw [if_pos he, if_pos he, show qS k.1 (k.2.1.val + 1) = fullShare.right from rfl]
  iintro H
  ihave H := (pt_share m c _ _ full_split) $$ H
  icases H with ⟨H1, H2⟩
  isplitl [H2] <;> iassumption

/-- A wait for an arrival, if there is one. -/
theorem blk_recv (c : Dev nD) (k : TK) (a r : ℕ) (P : sProp 𝕄) (hk : rOrd k = r) (hlv : ∀ k', a ≤ sOrd k' → lvlK k < lvlK k')
    {sp sp' : Space} {s s' : Shape} {e e' : EltTy} {src : cond → Memref sig .tc sp s e} {dst : cond → Memref sig .tc sp' s' e'} {s2 : DmaSem sig}
    {hsrc : ∀ h, (src h).view.WordExact} {hdst : ∀ h, (dst h).view.WordExact}
    (h2 : s2 = rS k) (hN : ∀ h, (dst h).view.dmaCredit = NN k.2.2) (hx : cond ↔ ract c k = true)
    (hQ : Hs m K c a (r + 1) iprop(pS m c k.1 (k.2.1.val + 1) k.2.2 ∗ pK m c k.1 (k.2.1.val + 1) k.2.2 ∗ P) ⊢ WP c (kk ⟨⟩) Q) :
    Hs m K c a r P ⊢ WP c (dite cond (fun h => Prog.lift (.waitDma2 s2 (src h) (dst h) (hsrc h) (hdst h)) >>= kk) (fun _ => kk ⟨⟩)) Q := by
  subst hk
  unfold Hs at *
  by_cases h : cond
  · rw [dif_pos h]
    have hr := hx.mp h
    iintro ⟨#HR, HO, Hs, Hr, HP⟩
    iapply (core_recv m K c k a hr h2 (hN h) hlv) $$ [HO Hr]
    · isplitr; · iexact HR
      isplitl [HO] <;> iassumption
    iintro ⟨HO, Hr, Hp⟩
    ihave Hp := (recv_split m c k hr) $$ Hp
    icases Hp with ⟨H1, H2⟩
    iapply (show _ ⊢ WP c (kk ⟨⟩) Q from hQ)
    isplitr; · iexact HR
    isplitl [HO]; · iexact HO
    isplitl [Hs]; · iexact Hs
    isplitl [Hr]; · iexact Hr
    isplitl [H1]; · iexact H1
    isplitl [H2] <;> iassumption
  · rw [dif_neg h]
    have hr : ¬ ract c k = true := fun hr => h (hx.mpr hr)
    have he : ¬ ex c k.1 (k.2.1.val + 1) = true := hr
    iintro ⟨#HR, HO, Hs, Hr, HP⟩
    imod (skip_recv m K c k hr) $$ [Hr] with Hr
    · isplitr; · iexact HR
      iexact Hr
    iapply (show _ ⊢ WP c (kk ⟨⟩) Q from hQ)
    unfold pS pK
    rw [if_neg he, if_neg he]
    isplitr; · iexact HR
    isplitl [HO]; · iexact HO
    isplitl [Hs]; · iexact Hs
    isplitl [Hr]; · iexact Hr
    isplitr; · iempintro
    isplitr; · iempintro
    iexact HP

/-- Of a piece of the exponentials, -/
theorem blk_recvD (c : Dev nD) (k : TK) (a r : ℕ) (P : sProp 𝕄) (hk : rOrd k = r) (hlv : ∀ k', a ≤ sOrd k' → lvlK k < lvlK k') (h4 : k.2.2 ≠ 4)
    {o : Fin 2 → ℕ} {inb : cond → ∀ a, o a + S512x2048.size a ≤ S512x32768.size a} {s2 : DmaSem sig} (h2 : s2 = rS k) (hx : cond ↔ ract c k = true)
    (hQ : Hs m K c a (r + 1) iprop(pS m c k.1 (k.2.1.val + 1) k.2.2 ∗ pK m c k.1 (k.2.1.val + 1) k.2.2 ∗ P) ⊢ WP c (kk ⟨⟩) Q) :
    Hs m K c a r P ⊢ WP c (dite cond (fun h => Prog.lift (.waitDma2 s2 (gS o (inb h)) (gS o (inb h)) (View.wordExact_bits rfl) (View.wordExact_bits rfl)) >>= kk) (fun _ => kk ⟨⟩)) Q :=
  blk_recv m K c k a r P hk hlv h2 (fun _ => by unfold NN; rw [if_neg h4]; rfl) hx hQ
/-- or of a row of sums. -/
theorem blk_recvS (c : Dev nD) (k : TK) (a r : ℕ) (P : sProp 𝕄) (hk : rOrd k = r) (hlv : ∀ k', a ≤ sOrd k' → lvlK k < lvlK k') (h4 : k.2.2 = 4)
    {o : Fin 2 → ℕ} {inb : cond → ∀ a, o a + S1x512.size a ≤ S4x512.size a} {s2 : DmaSem sig} (h2 : s2 = rS k) (hx : cond ↔ ract c k = true)
    (hQ : Hs m K c a (r + 1) iprop(pS m c k.1 (k.2.1.val + 1) k.2.2 ∗ pK m c k.1 (k.2.1.val + 1) k.2.2 ∗ P) ⊢ WP c (kk ⟨⟩) Q) :
    Hs m K c a r P ⊢ WP c (dite cond (fun h => Prog.lift (.waitDma2 s2 (sT o (inb h)) (sT o (inb h)) ((View.wordExact_bits rfl).reshape _ _) ((View.wordExact_bits rfl).reshape _ _)) >>= kk) (fun _ => kk ⟨⟩)) Q :=
  blk_recv m K c k a r P hk hlv h2 (fun _ => by unfold NN; rw [if_pos h4]) hx hQ

/-- A piece of the exponentials as two tiles. -/
theorem piece_tiles (c : Dev nD) (lo : ℕ) (q : PosShare TreeShare) : gP m c lo 2048 q ⊢ iprop(gP m c lo 1024 q ∗ gP m c (lo + 1024) 1024 q) := by
  refine BI.Entails.trans ((pointsTo_split_subset (ℓ := gL c) (S := gcol lo 2048) (I := gcol lo 1024) ?_).1) ?_
  · intro i hi
    have hi := (Finset.mem_filter.mp hi).2
    exact Finset.mem_filter.mpr ⟨Finset.mem_univ _, by omega⟩
  · have e : gcol lo 2048 \ gcol lo 1024 = gcol (lo + 1024) 1024 := by
      ext i
      simp only [gcol, Finset.mem_sdiff, Finset.mem_filter, Finset.mem_univ, true_and]
      omega
    rw [e]
    exact BI.Entails.refl _

/-- The finishing of a received piece, if there is one. -/
theorem blk_scale (c : Dev nD) (b : Bool) (i : Fin 3) (u : Fin 4) (u' : Fin 5) (hu : u'.val = u.val) (a r n : ℕ) (P : sProp 𝕄) (hn : zOrd b i.val u.val = n)
    {sm : DmaSem sig} {o0 o1 : Fin 2 → ℕ} {inb0 : cond → ∀ a, o0 a + S512x1024.size a ≤ S512x32768.size a} {inb1 : cond → ∀ a, o1 a + S512x1024.size a ≤ S512x32768.size a}
    {pay0 pay1 : Vec F S1x512x1024 .f32 → FVec F S1x512x1024 .f32} {pt1 : cond → Prog (TpuEff nD τ sig (Elt F) Λ₀ .tc) PUnit.{1}}
    (hpt : ∀ h, pt1 h = tileInP sm o0 (inb0 h) pay0 fun _ => tileOutP sm o0 (inb0 h) fun _ => pure ⟨⟩)
    (h1 : sm = lS) (hp0 : pay0 = k0_pay1 (rV m)) (hp1 : pay1 = k0_pay1 (rV m))
    (hx : (cond ↔ ex c b (i.val + 1) = true) ∧ (cond → o0 = ![0, 8192 * slot c b (i.val + 1) + 2048 * u.val] ∧ o1 = ![0, 8192 * slot c b (i.val + 1) + 2048 * u.val + 1024]))
    (hQ : Hs m K c a r iprop(TT m c (n + 1) ∗ P) ⊢ WP c (kk ⟨⟩) Q) :
    Hs m K c a r iprop(pK m c b (i.val + 1) u' ∗ TT m c n ∗ P)
      ⊢ WP c (dite cond (fun h => pt1 h >>= fun _ => tileInP sm o1 (inb1 h) pay1 fun _ => tileOutP sm o1 (inb1 h) kk) (fun _ => kk ⟨⟩)) Q := by
  subst hn
  unfold Hs TT at *
  by_cases h : cond
  · rw [dif_pos h, hpt h, WP_bind]
    have he := hx.1.mp h
    obtain ⟨ho0, ho1⟩ := hx.2 h
    have hsl := slot_le c b ⟨i.val + 1, by omega⟩ he
    have hsl' : slot c b (i.val + 1) ≤ 3 := hsl
    have hu4 := u.isLt
    have h4 : u' ≠ 4 := fun h => by have := congrArg Fin.val h; have : u'.val = 4 := this; omega
    unfold pK pt
    rw [if_pos he, if_neg h4, hu]
    iintro ⟨#HR, HO, Hs, Hr, Hp, ⟨HE, Hout⟩, HP⟩
    ihave Hp := (piece_tiles m c _ _) $$ Hp
    icases Hp with ⟨Ha, Hb⟩
    iapply (tile_in m K c a _ _ h1 ho0 hp0) $$ [HO HE Ha]
    · isplitr; · iexact HR
      isplitl [HO]; · iexact HO
      isplitl [HE] <;> iassumption
    iintro ⟨HO, HE⟩
    iapply (tile_out m K c a _ (by omega) _ h1 ho0) $$ [HO HE Hout]
    · isplitr; · iexact HR
      isplitl [HO]; · iexact HO
      isplitl [HE] <;> iassumption
    iintro ⟨HO, HE, Hout⟩
    iapply (WP_pure c PUnit.unit _)
    iapply (tile_in m K c a _ _ h1 ho1 hp1) $$ [HO HE Hb]
    · isplitr; · iexact HR
      isplitl [HO]; · iexact HO
      isplitl [HE] <;> iassumption
    iintro ⟨HO, HE⟩
    iapply (tile_out m K c a _ (by omega) _ h1 ho1) $$ [HO HE Hout]
    · isplitr; · iexact HR
      isplitl [HO]; · iexact HO
      isplitl [HE] <;> iassumption
    iintro ⟨HO, HE, Hout⟩
    iapply (show _ ⊢ WP c (kk ⟨⟩) Q from hQ)
    isplitr; · iexact HR
    isplitl [HO]; · iexact HO
    isplitl [Hs]; · iexact Hs
    isplitl [Hr]; · iexact Hr
    isplitr [HP]
    rotate_left
    · iexact HP
    isplitl [HE]; · iexact HE
    iapply (OutP_mono m c (fun j _ hj => Dn_step c b i u j hj)); iexact Hout
  · rw [dif_neg h]
    have he : ¬ ex c b (i.val + 1) = true := fun he => h (hx.1.mpr he)
    iintro ⟨#HR, HO, Hs, Hr, -, ⟨HE, Hout⟩, HP⟩
    iapply (show _ ⊢ WP c (kk ⟨⟩) Q from hQ)
    isplitr; · iexact HR
    isplitl [HO]; · iexact HO
    isplitl [Hs]; · iexact Hs
    isplitl [Hr]; · iexact Hr
    isplitr [HP]
    rotate_left
    · iexact HP
    isplitl [HE]; · iexact HE
    iapply (OutP_mono m c (fun j _ hj => Dn_skip c b i u he j hj)); iexact Hout

/-- At the end of a row of devices: the arrival of the last piece and its finishing, if there is one. -/
theorem blk_far (c : Dev nD) (b : Bool) (u : Fin 4) (u' : Fin 5) (hu : u'.val = u.val) (a r n : ℕ) (P : sProp 𝕄) (hn : zOrd b 2 u.val = n)
    (hk : rOrd (b, 2, u') = r) (hlv : ∀ k', a ≤ sOrd k' → lvlK (b, 2, u') < lvlK k')
    {sm s2 : DmaSem sig} {o o0 o1 : Fin 2 → ℕ} {inb : cond → ∀ a, o a + S512x2048.size a ≤ S512x32768.size a} {inb0 : cond → ∀ a, o0 a + S512x1024.size a ≤ S512x32768.size a} {inb1 : cond → ∀ a, o1 a + S512x1024.size a ≤ S512x32768.size a}
    {pay0 pay1 : Vec F S1x512x1024 .f32 → FVec F S1x512x1024 .f32} {β : Type} {x : β} {ptA : cond → Prog (TpuEff nD τ sig (Elt F) Λ₀ .tc) β}
    {ptB : cond → β → Prog (TpuEff nD τ sig (Elt F) Λ₀ .tc) PUnit.{1}}
    (hA : ∀ h, ptA h = (Prog.lift (.waitDma2 s2 (gS o (inb h)) (gS o (inb h)) (View.wordExact_bits rfl) (View.wordExact_bits rfl)) >>= fun _ => tileInP sm o0 (inb0 h) pay0 fun _ => pure x))
    (hB : ∀ h, ptB h x = tileOutP sm o0 (inb0 h) fun _ => tileInP sm o1 (inb1 h) pay1 fun _ =>
      Prog.lift (.enqueueDma eb0M (.here (oT o1 (inb1 h))) (.dma sm) ((View.wordExact_bits rfl).reshape _ _) (View.wordExact_bits rfl) ⟨Or.inl rfl, trivial⟩) >>= fun _ => pure ⟨⟩)
    (h1 : sm = lS) (h2 : s2 = rS (b, 2, u')) (hp0 : pay0 = k0_pay1 (rV m)) (hp1 : pay1 = k0_pay1 (rV m))
    (hx : (cond ↔ ex c b 3 = true) ∧ (cond → o0 = ![0, 8192 * slot c b 3 + 2048 * u.val] ∧ o1 = ![0, 8192 * slot c b 3 + 2048 * u.val + 1024]))
    (hQ : Hs m K c a (r + 1) iprop(TT m c (n + 1) ∗ P) ⊢ WP c (kk ⟨⟩) Q) :
    Hs m K c a r iprop(TT m c n ∗ P)
      ⊢ WP c (dite cond (fun h => ptA h >>= fun v => ptB h v >>= fun _ =>
          Prog.lift (.waitDma2 sm eb0M (oT o1 (inb1 h)) ((View.wordExact_bits rfl).reshape _ _) (View.wordExact_bits rfl)) >>= kk) (fun _ => kk ⟨⟩)) Q := by
  subst hn hk
  unfold Hs TT at *
  have hu4 := u.isLt
  have h4 : u' ≠ 4 := fun h => by have := congrArg Fin.val h; have : u'.val = 4 := this; omega
  by_cases h : cond
  · rw [dif_pos h, hA h, WP_bind]
    have he := hx.1.mp h
    obtain ⟨ho0, ho1⟩ := hx.2 h
    have hsl' : slot c b 3 ≤ 3 := slot_le c b 3 he
    iintro ⟨#HR, HO, Hs, Hr, ⟨HE, Hout⟩, HP⟩
    iapply (core_recv m K c (b, 2, u') a he h2 (by unfold NN; rw [if_neg h4]; rfl) hlv) $$ [HO Hr]
    · isplitr; · iexact HR
      isplitl [HO] <;> iassumption
    iintro ⟨HO, Hr, Hp⟩
    ihave Hp := (Entails.of_eq (show recvPay m c (b, 2, u') = gP m c (8192 * slot c b 3 + 2048 * u.val) 2048 fullShare by
      unfold recvPay pt; rw [if_neg h4]; show gP m c (8192 * slot c b 3 + 2048 * u'.val) 2048 fullShare = _; rw [hu])) $$ Hp
    ihave Hp := (piece_tiles m c _ _) $$ Hp
    icases Hp with ⟨Ha, Hb⟩
    iapply (tile_in m K c a _ _ h1 ho0 hp0) $$ [HO HE Ha]
    · isplitr; · iexact HR
      isplitl [HO]; · iexact HO
      isplitl [HE] <;> iassumption
    iintro ⟨HO, HE⟩
    iapply (WP_pure c x _)
    rw [WP_bind, hB h]
    iapply (tile_out m K c a _ (by omega) _ h1 ho0) $$ [HO HE Hout]
    · isplitr; · iexact HR
      isplitl [HO]; · iexact HO
      isplitl [HE] <;> iassumption
    iintro ⟨HO, HE, Hout⟩
    iapply (tile_in m K c a _ _ h1 ho1 hp1) $$ [HO HE Hb]
    · isplitr; · iexact HR
      isplitl [HO]; · iexact HO
      isplitl [HE] <;> iassumption
    iintro ⟨HO, HE, Hz⟩
    iapply (o_start m (0 : Fin 2) c _ _ lS h1 rfl ho1 _ (scT_read m _ (by omega))) $$ [HE Hz Hout]
    · isplitl [HE]; · iexact HE
      isplitl [Hout] <;> iassumption
    iintro HF
    iapply (WP_pure c PUnit.unit _)
    iapply (l_wait m K c a lS NE _ (dst := oT o1 (inb1 h)) h1 (by decide +kernel) (oT_cr o1 (inb1 h))) $$ [HF HO]
    · isplitr; · iexact HR
      isplitl [HF] <;> iassumption
    iintro ⟨⟨HE, Hout⟩, Hz, HO⟩
    iapply (show _ ⊢ WP c (kk ⟨⟩) Q from hQ)
    isplitr; · iexact HR
    isplitl [HO]; · iexact HO
    isplitl [Hs]; · iexact Hs
    isplitl [Hr]; · iexact Hr
    isplitr [HP]
    rotate_left
    · iexact HP
    isplitl [HE Hz]
    · isplitl [HE] <;> iassumption
    iapply (OutP_mono m c (fun j _ hj => Dn_step c b 2 u j hj)); iexact Hout
  · rw [dif_neg h]
    have he : ¬ ex c b 3 = true := fun he => h (hx.1.mpr he)
    iintro ⟨#HR, HO, Hs, Hr, ⟨HE, Hout⟩, HP⟩
    imod (skip_recv m K c (b, 2, u') he) $$ [Hr] with Hr
    · isplitr; · iexact HR
      iexact Hr
    iapply (show _ ⊢ WP c (kk ⟨⟩) Q from hQ)
    isplitr; · iexact HR
    isplitl [HO]; · iexact HO
    isplitl [Hs]; · iexact Hs
    isplitl [Hr]; · iexact Hr
    isplitr [HP]
    rotate_left
    · iexact HP
    isplitl [HE]; · iexact HE
    iapply (OutP_mono m c (fun j _ hj => Dn_skip c b 2 u he j hj)); iexact Hout

/-- The wait for one of the device's own transfers, if there is one. -/
theorem blk_drain (c : Dev nD) (k : TK) (e : ℕ) (P : sProp 𝕄) (hk : dOrd k = e)
    {sp sp' : Space} {s s' : Shape} {e1 e' : EltTy} {src : cond → Memref sig .tc sp s e1} {dst : cond → Memref sig .tc sp' s' e'} {s1 : DmaSem sig}
    {hsrc : ∀ h, (src h).view.WordExact} {hdst : ∀ h, (dst h).view.WordExact}
    (h1 : s1 = sS k) (hN : ∀ h, (dst h).view.dmaCredit = NN k.2.2) (hx : cond ↔ act c k = true)
    (hQ : Dr m K c (e + 1) P ⊢ WP c (kk ⟨⟩) Q) :
    Dr m K c e P ⊢ WP c (dite cond (fun h => Prog.lift (.waitDma2 s1 (src h) (dst h) (hsrc h) (hdst h)) >>= kk) (fun _ => kk ⟨⟩)) Q := by
  subst hk
  unfold Dr at *
  by_cases h : cond
  · rw [dif_pos h]
    iintro ⟨#HR, HO, Hd, HP⟩
    iapply (core_drain m K c k (hx.mp h) h1 (hN h)) $$ [HO Hd]
    · isplitr; · iexact HR
      isplitl [HO] <;> iassumption
    iintro ⟨HO, Hd⟩
    iapply (show _ ⊢ WP c (kk ⟨⟩) Q from hQ)
    isplitr; · iexact HR
    isplitl [HO]; · iexact HO
    isplitl [Hd] <;> iassumption
  · rw [dif_neg h]
    iintro ⟨#HR, HO, Hd, HP⟩
    imod (skip_drain m K c k (fun ha => h (hx.mpr ha))) $$ [Hd] with Hd
    · isplitr; · iexact HR
      iexact Hd
    iapply (show _ ⊢ WP c (kk ⟨⟩) Q from hQ)
    isplitr; · iexact HR
    isplitl [HO]; · iexact HO
    isplitl [Hd] <;> iassumption

/-- Of a piece of the exponentials, -/
theorem blk_drainD (c : Dev nD) (k : TK) (e : ℕ) (P : sProp 𝕄) (hk : dOrd k = e) (h4 : k.2.2 ≠ 4)
    {o : Fin 2 → ℕ} {inb : cond → ∀ a, o a + S512x2048.size a ≤ S512x32768.size a} {s1 : DmaSem sig} (h1 : s1 = sS k) (hx : cond ↔ act c k = true)
    (hQ : Dr m K c (e + 1) P ⊢ WP c (kk ⟨⟩) Q) :
    Dr m K c e P ⊢ WP c (dite cond (fun h => Prog.lift (.waitDma2 s1 (gS o (inb h)) (gS o (inb h)) (View.wordExact_bits rfl) (View.wordExact_bits rfl)) >>= kk) (fun _ => kk ⟨⟩)) Q :=
  blk_drain m K c k e P hk h1 (fun _ => by unfold NN; rw [if_neg h4]; rfl) hx hQ
/-- or of a row of sums. -/
theorem blk_drainS (c : Dev nD) (k : TK) (e : ℕ) (P : sProp 𝕄) (hk : dOrd k = e) (h4 : k.2.2 = 4)
    {o : Fin 2 → ℕ} {inb : cond → ∀ a, o a + S1x512.size a ≤ S4x512.size a} {s1 : DmaSem sig} (h1 : s1 = sS k) (hx : cond ↔ act c k = true)
    (hQ : Dr m K c (e + 1) P ⊢ WP c (kk ⟨⟩) Q) :
    Dr m K c e P ⊢ WP c (dite cond (fun h => Prog.lift (.waitDma2 s1 (sT o (inb h)) (sT o (inb h)) ((View.wordExact_bits rfl).reshape _ _) ((View.wordExact_bits rfl).reshape _ _)) >>= kk) (fun _ => kk ⟨⟩)) Q :=
  blk_drain m K c k e P hk h1 (fun _ => by unfold NN; rw [if_pos h4]) hx hQ

end Blocks

end Cert.KernelProof

end
-- ==== Proof.Own.lean ====
/-
The steps of a tile of the device's own part of the result, as they stand in the program: the tile is copied in, scaled and copied out.
-/
module

public import proofs.«01_k».proof.Proof.Blocks

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

section Own
variable {α : Type} {Q : α → sProp (MT nD τ sig Unit (Elt F) ℕ UU ℕ)}
variable {kk : PUnit.{1} → Prog (TpuEff nD τ sig (Elt F) Λ₀ .tc) α} {kv : Vec F S1x512x1024 .f32 → Prog (TpuEff nD τ sig (Elt F) Λ₀ .tc) α}

/-- The columns of the device's own part that are done when `t` of its tiles are. -/
def Do (c : Dev nD) (t : ℕ) (j : ℕ) : Prop := 8192 * c.val ≤ j ∧ j < 8192 * c.val + 1024 * t
/-- What the device holds between two of its own tiles. -/
def TO (c : Dev nD) (t : ℕ) : sProp 𝕄 := iprop((EBany c 0 ∗ Z0 c lS) ∗ OutP m c (Do c t))

/-- All tiles of the device's own part done, the first count of finished pieces is reached. -/
theorem TO_TT (c : Dev nD) : TO m c 8 ⊢ TT m c 0 := by
  unfold TO TT
  iintro ⟨H, HO⟩
  isplitl [H]
  · iexact H
  · iapply (OutP_mono m c (D := Do c 8) (D' := Dn c 0) ?_) $$ HO
    intro j _ h
    rcases h with h | ⟨b, i, u, h, _⟩
    · exact h
    · omega

/-- The copy of a tile in is started, -/
theorem own_in (c : Dev nD) (a r t lo : ℕ) (P : sProp 𝕄) {sm : DmaSem sig} {o : Fin 2 → ℕ} {inb : ∀ a, o a + S512x1024.size a ≤ S512x32768.size a}
    (h1 : sm = lS) (ho : o = ![0, lo])
    (hQ : Hs m K c a r iprop(Fl c lS NE iprop(EB c 0 (shapeCast S1x512x1024 (gBlk m lo) shapeCasts_S512x1024_S1x512x1024)) ∗ OutP m c (Do c t) ∗ P) ⊢ WP c (kk ⟨⟩) Q) :
    Hs m K c a r iprop(TO m c t ∗ gP m c lo 1024 fullShare.left ∗ P)
      ⊢ WP c (Prog.lift (.enqueueDma (gT o inb) (.here eb0M) (.dma sm) (View.wordExact_bits rfl) ((View.wordExact_bits rfl).reshape _ _) ⟨Or.inl rfl, trivial⟩) >>= kk) Q := by
  unfold Hs TO at *
  iintro ⟨HR, HW, Hs, Hr, ⟨⟨HE, HZ⟩, HO⟩, Hg, HP⟩
  iapply (g_start m (s := 0) c lo _ lS h1 rfl ho) $$ [HE Hg HZ]
  · isplitl [HE]
    · iexact HE
    isplitl [Hg]
    · iexact Hg
    iexact HZ
  iintro HF
  iapply (show _ ⊢ WP c (kk ⟨⟩) Q from hQ)
  isplitl [HR]
  · iexact HR
  isplitl [HW]
  · iexact HW
  isplitl [Hs]
  · iexact Hs
  isplitl [Hr]
  · iexact Hr
  isplitl [HF]
  · iexact HF
  isplitl [HO]
  · iexact HO
  iexact HP

/-- a copy is waited for, -/
theorem own_wait (c : Dev nD) (a r : ℕ) (D P : sProp 𝕄) {s1 : DmaSem sig} {sp sp' : Space} {s s' : Shape} {e e' : EltTy}
    {src : Memref sig .tc sp s e} {dst : Memref sig .tc sp' s' e'} {hsrc : src.view.WordExact} {hdst : dst.view.WordExact}
    (h1 : s1 = lS) (hN : dst.view.dmaCredit = NE)
    (hQ : Hs m K c a r iprop((D ∗ Z0 c lS) ∗ P) ⊢ WP c (kk ⟨⟩) Q) :
    Hs m K c a r iprop(Fl c lS NE D ∗ P) ⊢ WP c (Prog.lift (.waitDma2 s1 src dst hsrc hdst) >>= kk) Q := by
  unfold Hs at *
  iintro ⟨#HR, HW, Hs, Hr, HF, HP⟩
  iapply (l_wait m K c a lS NE D h1 (by decide +kernel) hN) $$ [HF HW]
  · isplitr
    · iexact HR
    isplitl [HF]
    · iexact HF
    iexact HW
  iintro ⟨HD, HZ, HW⟩
  iapply (show _ ⊢ WP c (kk ⟨⟩) Q from hQ)
  isplitr
  · iexact HR
  isplitl [HW]
  · iexact HW
  isplitl [Hs]
  · iexact Hs
  isplitl [Hr]
  · iexact Hr
  isplitl [HD HZ]
  · isplitl [HD]
    · iexact HD
    iexact HZ
  iexact HP

/-- the wait for the copy in, -/
theorem own_win (c : Dev nD) (a r : ℕ) (D P : sProp 𝕄) {s1 : DmaSem sig} {o : Fin 2 → ℕ} {inb : ∀ a, o a + S512x1024.size a ≤ S512x32768.size a}
    (h1 : s1 = lS) (hQ : Hs m K c a r iprop((D ∗ Z0 c lS) ∗ P) ⊢ WP c (kk ⟨⟩) Q) :
    Hs m K c a r iprop(Fl c lS NE D ∗ P)
      ⊢ WP c (Prog.lift (.waitDma2 s1 (gT o inb) eb0M (View.wordExact_bits rfl) ((View.wordExact_bits rfl).reshape _ _)) >>= kk) Q :=
  own_wait m K c a r D P (dst := eb0M) h1 eb_cr hQ

/-- the tile is read, -/
theorem own_load (c : Dev nD) (a r : ℕ) (w : Vec F S1x512x1024 .f32) (P : sProp 𝕄) {o : Fin 3 → ℕ} {inb : ∀ a, o a + S1x512x1024.size a ≤ S2x512x1024.size a} {hl}
    (ho : o = ![0, 0, 0]) (hQ : Hs m K c a r iprop((EB c 0 w ∗ Z0 c lS) ∗ P) ⊢ WP c (kv w) Q) :
    Hs m K c a r iprop((EB c 0 w ∗ Z0 c lS) ∗ P)
      ⊢ WP c (Prog.lift (.load ebM (Rect.unit (s := S2x512x1024) o S1x512x1024.size inb).toLoadRect hl) >>= kv) Q := by
  unfold Hs at *
  iintro ⟨HR, HW, Hs, Hr, ⟨HE, HZ⟩, HP⟩
  iapply (e_load (s := 0) c ho w) $$ HE
  iintro HE
  iapply (show _ ⊢ WP c (kv w) Q from hQ)
  isplitl [HR]
  · iexact HR
  isplitl [HW]
  · iexact HW
  isplitl [Hs]
  · iexact Hs
  isplitl [Hr]
  · iexact Hr
  isplitl [HE HZ]
  · isplitl [HE]
    · iexact HE
    iexact HZ
  iexact HP

/-- and its scaled values are written over it, -/
theorem own_store (c : Dev nD) (a r lo : ℕ) (w : Vec F S1x512x1024 .f32) (P : sProp 𝕄) {w' : Vec F S1x512x1024 .f32} {o : Fin 3 → ℕ}
    {inb : ∀ a, o a + S1x512x1024.size a ≤ S2x512x1024.size a} {hx} {hm} (ho : o = ![0, 0, 0]) (hw : w' = scT m lo)
    (hQ : Hs m K c a r iprop((EB c 0 (scT m lo) ∗ Z0 c lS) ∗ P) ⊢ WP c (kk ⟨⟩) Q) :
    Hs m K c a r iprop((EB c 0 w ∗ Z0 c lS) ∗ P)
      ⊢ WP c (Prog.lift (.store ebM (Rect.unit (s := S2x512x1024) o S1x512x1024.size inb) w' Finset.univ hx hm) >>= kk) Q := by
  subst hw
  unfold Hs at *
  iintro ⟨HR, HW, Hs, Hr, ⟨HE, HZ⟩, HP⟩
  ihave HE := (EB_any c 0 w) $$ HE
  iapply (e_store (s := 0) c ho (scT m lo)) $$ HE
  iintro HE
  iapply (show _ ⊢ WP c (kk ⟨⟩) Q from hQ)
  isplitl [HR]
  · iexact HR
  isplitl [HW]
  · iexact HW
  isplitl [Hs]
  · iexact Hs
  isplitl [Hr]
  · iexact Hr
  isplitl [HE HZ]
  · isplitl [HE]
    · iexact HE
    iexact HZ
  iexact HP

/-- and the copy out is started; -/
theorem own_out (c : Dev nD) (a r t lo : ℕ) (hlo : lo + 1024 ≤ 32768) (P : sProp 𝕄) {sm : DmaSem sig} {o : Fin 2 → ℕ} {inb : ∀ a, o a + S512x1024.size a ≤ S512x32768.size a}
    (h1 : sm = lS) (ho : o = ![0, lo])
    (hQ : Hs m K c a r iprop(Fl c lS NE iprop(EBany c 0 ∗ OutP m c (fun j => Do c t j ∨ (lo ≤ j ∧ j < lo + 1024))) ∗ P) ⊢ WP c (kk ⟨⟩) Q) :
    Hs m K c a r iprop((EB c 0 (scT m lo) ∗ Z0 c lS) ∗ OutP m c (Do c t) ∗ P)
      ⊢ WP c (Prog.lift (.enqueueDma eb0M (.here (oT o inb)) (.dma sm) ((View.wordExact_bits rfl).reshape _ _) (View.wordExact_bits rfl) ⟨Or.inl rfl, trivial⟩) >>= kk) Q := by
  unfold Hs at *
  iintro ⟨HR, HW, Hs, Hr, ⟨HE, HZ⟩, HO, HP⟩
  iapply (o_start m (s := 0) c lo (Do c t) lS h1 rfl ho (scT m lo) (scT_read m lo hlo)) $$ [HE HO HZ]
  · isplitl [HE]
    · iexact HE
    isplitl [HO]
    · iexact HO
    iexact HZ
  iintro HF
  iapply (show _ ⊢ WP c (kk ⟨⟩) Q from hQ)
  isplitl [HR]
  · iexact HR
  isplitl [HW]
  · iexact HW
  isplitl [Hs]
  · iexact Hs
  isplitl [Hr]
  · iexact Hr
  isplitl [HF]
  · iexact HF
  iexact HP

/-- the wait for it. -/
theorem own_wout (c : Dev nD) (a r t : ℕ) (P : sProp 𝕄) {s1 : DmaSem sig} {o : Fin 2 → ℕ} {inb : ∀ a, o a + S512x1024.size a ≤ S512x32768.size a}
    (h1 : s1 = lS) (hQ : Hs m K c a r iprop(TO m c (t + 1) ∗ P) ⊢ WP c (kk ⟨⟩) Q) :
    Hs m K c a r iprop(Fl c lS NE iprop(EBany c 0 ∗ OutP m c (fun j => Do c t j ∨ (8192 * c.val + 1024 * t ≤ j ∧ j < 8192 * c.val + 1024 * t + 1024))) ∗ P)
      ⊢ WP c (Prog.lift (.waitDma2 s1 eb0M (oT o inb) ((View.wordExact_bits rfl).reshape _ _) (View.wordExact_bits rfl)) >>= kk) Q := by
  refine own_wait m K c a r _ P (dst := oT o inb) h1 (oT_cr o inb) (BI.Entails.trans (Hs_mono m K c a r ?_) hQ)
  unfold TO
  iintro ⟨⟨⟨HE, HO⟩, HZ⟩, HP⟩
  isplitr [HP]
  · isplitl [HE HZ]
    · isplitl [HE]
      · iexact HE
      iexact HZ
    · iapply (OutP_mono m c ?_) $$ HO
      intro j _ h
      obtain ⟨h1, h2⟩ := h
      unfold Do
      omega
  iexact HP

end Own

end Cert.KernelProof

end
-- ==== Proof.Gemm.lean ====
/-
The steps of the product's tiles, as they stand in the program: a tile of the weights is fetched, its exponentials are formed and copied out.
-/
module

public import proofs.«01_k».proof.Proof.Own

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- One step of a device at work, on the part `A` of what it holds. -/
theorem Hs_step (c : Dev nD) (a r : ℕ) {A B P P' : sProp 𝕄} {α : Type} {Q : α → sProp (MT nD τ sig Unit (Elt F) ℕ UU ℕ)} {p k : Prog (TpuEff nD τ sig (Elt F) Λ₀ .tc) α}
    (hP : P ⊢ iprop(A ∗ (B -∗ P')))
    (hp : iprop(Recs m K ∗ A ∗ Owe c a) ⊢ iprop((iprop(B ∗ Owe c a) -∗ WP c k Q) -∗ WP c p Q))
    (hQ : Hs m K c a r P' ⊢ WP c k Q) : Hs m K c a r P ⊢ WP c p Q := by
  unfold Hs at *
  iintro ⟨#HR, HW, Hs, Hr, HP⟩
  ihave ⟨HA, HB⟩ := hP $$ HP
  iapply hp $$ [HA HW]
  · isplitr
    · iexact HR
    isplitl [HA]
    · iexact HA
    iexact HW
  iintro ⟨H, HW⟩
  ihave HP := HB $$ H
  iapply (show _ ⊢ WP c k Q from hQ)
  isplitr
  · iexact HR
  isplitl [HW]
  · iexact HW
  isplitl [Hs]
  · iexact Hs
  isplitl [Hr]
  · iexact Hr
  iexact HP

/-- A step that touches nothing shared. -/
theorem loc_step (c : Dev nD) (a : ℕ) {A B : sProp 𝕄} {α : Type} {Q : α → sProp (MT nD τ sig Unit (Elt F) ℕ UU ℕ)} {p k : Prog (TpuEff nD τ sig (Elt F) Λ₀ .tc) α}
    (hp : A ⊢ iprop((B -∗ WP c k Q) -∗ WP c p Q)) :
    iprop(Recs m K ∗ A ∗ Owe c a) ⊢ iprop((iprop(B ∗ Owe c a) -∗ WP c k Q) -∗ WP c p Q) := by
  iintro ⟨-, HA, HW⟩ Hk
  iapply hp $$ HA
  iintro HB
  iapply Hk
  isplitl [HB]
  · iexact HB
  iexact HW

/-- `w` with slot `s` at `A`. -/
def up (w : Fin 2 → sProp 𝕄) (s : Fin 2) (A : sProp 𝕄) : Fin 2 → sProp 𝕄 := fun i => if i = s then A else w i

/-- Of two slots take one, and put back what it then holds. -/
theorem foc (w : Fin 2 → sProp 𝕄) (s : Fin 2) (B : sProp 𝕄) : iprop(w 0 ∗ w 1) ⊢ iprop(w s ∗ (B -∗ iprop(up w s B 0 ∗ up w s B 1))) := by
  match s with
  | 0 =>
    have e0 : up w 0 B 0 = B := rfl
    have e1 : up w 0 B 1 = w 1 := rfl
    rw [e0, e1]
    iintro ⟨H0, H1⟩
    isplitl [H0]
    · iexact H0
    iintro HB
    isplitl [HB]
    · iexact HB
    iexact H1
  | 1 =>
    have e0 : up w 1 B 0 = w 0 := rfl
    have e1 : up w 1 B 1 = B := rfl
    rw [e0, e1]
    iintro ⟨H0, H1⟩
    isplitl [H1]
    · iexact H1
    iintro HB
    isplitl [H0]
    · iexact H0
    iexact HB

/-- What a device holds while it works on the product: the two weight slots, the two slots of exponentials, its `x`, the places of the tiles to come and the
    tiles that are out. -/
def GS (c : Dev nD) (w e : Fin 2 → sProp 𝕄) (J G P : sProp 𝕄) : sProp 𝕄 :=
  iprop((w 0 ∗ w 1) ∗ (e 0 ∗ e 1) ∗ (xL c ↦{fullShare} xstg m c) ∗ J ∗ G ∗ P)

variable {w e : Fin 2 → sProp (MT nD τ sig Unit (Elt F) ℕ UU ℕ)} {J G P A j : sProp (MT nD τ sig Unit (Elt F) ℕ UU ℕ)}

/-- Take a slot of the weight buffers out of the state, and put back what it then holds. -/
theorem foc_w (c : Dev nD) (s : Fin 2) (B : sProp 𝕄) (h : w s = A) : GS m c w e J G P ⊢ iprop(A ∗ (B -∗ GS m c (up w s B) e J G P)) := by
  subst h
  unfold GS
  iintro ⟨Hw, HR⟩
  ihave ⟨HA, HB⟩ := (foc w s B) $$ Hw
  isplitl [HA]
  · iexact HA
  iintro H
  isplitl [HB H]
  · iapply HB; iexact H
  iexact HR

/-- The same of a slot of the exponential buffers. -/
theorem foc_e (c : Dev nD) (s : Fin 2) (B : sProp 𝕄) (h : e s = A) : GS m c w e J G P ⊢ iprop(A ∗ (B -∗ GS m c w (up e s B) J G P)) := by
  subst h
  unfold GS
  iintro ⟨Hw, He, HR⟩
  ihave ⟨HA, HB⟩ := (foc e s B) $$ He
  isplitl [HA]
  · iexact HA
  iintro H
  isplitl [Hw]
  · iexact Hw
  isplitl [HB H]
  · iapply HB; iexact H
  iexact HR

/-- The same, with the columns that the slot is to be copied to. -/
theorem foc_ej (c : Dev nD) (s : Fin 2) (B : sProp 𝕄) (h : e s = A) : GS m c w e iprop(j ∗ J) G P ⊢ iprop(iprop(A ∗ j) ∗ (B -∗ GS m c w (up e s B) J G P)) := by
  subst h
  unfold GS
  iintro ⟨Hw, He, Hx, ⟨Hj, HJ⟩, HR⟩
  ihave ⟨HA, HB⟩ := (foc e s B) $$ He
  isplitl [HA Hj]
  · isplitl [HA]
    · iexact HA
    iexact Hj
  iintro H
  isplitl [Hw]
  · iexact Hw
  isplitl [HB H]
  · iapply HB; iexact H
  isplitl [Hx]
  · iexact Hx
  isplitl [HJ]
  · iexact HJ
  iexact HR

/-- The same, with the columns that the slot has been copied to put back beside it. -/
theorem foc_eg (c : Dev nD) (s : Fin 2) (B g : sProp 𝕄) (h : e s = A) : GS m c w e J G P ⊢ iprop(A ∗ (iprop(B ∗ g) -∗ GS m c w (up e s B) J iprop(g ∗ G) P)) := by
  subst h
  unfold GS
  iintro ⟨Hw, He, Hx, HJ, HG, HR⟩
  ihave ⟨HA, HB⟩ := (foc e s B) $$ He
  isplitl [HA]
  · iexact HA
  iintro ⟨H, Hg⟩
  isplitl [Hw]
  · iexact Hw
  isplitl [HB H]
  · iapply HB; iexact H
  isplitl [Hx]
  · iexact Hx
  isplitl [HJ]
  · iexact HJ
  isplitr [HR]
  · isplitl [Hg]
    · iexact Hg
    iexact HG
  iexact HR

/-- Take the staged `x` out of the state and put it back. -/
theorem foc_x (c : Dev nD) : GS m c w e J G P ⊢ iprop((xL c ↦{fullShare} xstg m c) ∗ ((xL c ↦{fullShare} xstg m c) -∗ GS m c w e J G P)) := by
  unfold GS
  iintro ⟨Hw, He, Hx, HR⟩
  isplitl [Hx]
  · iexact Hx
  iintro Hx
  isplitl [Hw]
  · iexact Hw
  isplitl [He]
  · iexact He
  isplitl [Hx]
  · iexact Hx
  iexact HR

section Steps
variable {α : Type} {Q : α → sProp (MT nD τ sig Unit (Elt F) ℕ UU ℕ)}
variable {kk : PUnit.{1} → Prog (TpuEff nD τ sig (Elt F) Λ₀ .tc) α}

/-- A tile of the weights is fetched: the copy is started, -/
theorem gm_wstart (c : Dev nD) (a r : ℕ) (s : Fin 2) (t : ℕ) {o : Fin 3 → ℕ} {inb : ∀ a, o a + S1x1024x1024.size a ≤ S2x1024x1024.size a} {og : Fin 2 → ℕ}
    {inbg : ∀ a, og a + S1024x1024.size a ≤ S1024x8192.size a} {sm : DmaSem sig} {hsrc hdst ht}
    (hw : w s = WRdy m c s) (h1 : sm = wS s) (ho : o = ![s.val, 0, 0]) (hg : og = ![0, 1024 * t])
    (hQ : Hs m K c a r (GS m c (up w s (WFl m c s t)) e J G P) ⊢ WP c (kk ⟨⟩) Q) :
    Hs m K c a r (GS m c w e J G P)
      ⊢ WP c (Prog.lift (.enqueueDma (wM.slice (Rect.unit (s := S1024x8192) og S1024x1024.size inbg) (fun _ => rfl))
          (.here ((wbM.slice (Rect.unit (s := S2x1024x1024) o S1x1024x1024.size inb) (fun _ => rfl)).squeeze S1024x1024 squeezes_S1x1024x1024_S1024x1024)) (.dma sm) hsrc hdst ht) >>= kk) Q :=
  Hs_step m K c a r (foc_w m c s _ hw) (loc_step m K c a (w_start m s c t h1 ho hg)) hQ

/-- the copy is waited for, -/
theorem gm_wwait (c : Dev nD) (a r : ℕ) (s : Fin 2) (t : ℕ) {o : Fin 3 → ℕ} {inb : ∀ a, o a + S1x1024x1024.size a ≤ S2x1024x1024.size a} {s1 : DmaSem sig} {sp : Space} {s' : Shape} {e' : EltTy}
    {src : Memref sig .tc sp s' e'} {hsrc : src.view.WordExact} {hdst}
    (hw : w s = WFl m c s t) (h1 : s1 = wS s)
    (hQ : Hs m K c a r (GS m c (up w s (WGot m c s t)) e J G P) ⊢ WP c (kk ⟨⟩) Q) :
    Hs m K c a r (GS m c w e J G P)
      ⊢ WP c (Prog.lift (.waitDma2 s1 src ((wbM.slice (Rect.unit (s := S2x1024x1024) o S1x1024x1024.size inb) (fun _ => rfl)).squeeze S1024x1024 squeezes_S1x1024x1024_S1024x1024) hsrc hdst) >>= kk) Q :=
  Hs_step m K c a r (foc_w m c s _ hw) (w_wait m K s c a t h1 rfl) hQ

/-- `x` is read, -/
theorem gm_x (c : Dev nD) (a r : ℕ) {o : Fin 2 → ℕ} {inb : ∀ a, o a + S512x1024.size a ≤ S512x1024.size a} (ho : o = ![0, 0])
    {kv : Vec F S512x1024 .f32 → Prog (TpuEff nD τ sig (Elt F) Λ₀ .tc) α} {hl}
    (hQ : Hs m K c a r (GS m c w e J G P) ⊢ WP c (kv (xstg m c)) Q) :
    Hs m K c a r (GS m c w e J G P) ⊢ WP c (Prog.lift (.load xM (Rect.unit (s := S512x1024) o S512x1024.size inb).toLoadRect hl) >>= kv) Q :=
  Hs_step m K c a r (foc_x m c) (loc_step m K c a (x_load m c ho)) hQ

/-- the weights are read, -/
theorem gm_wload (c : Dev nD) (a r : ℕ) (s : Fin 2) (t : ℕ) {o : Fin 3 → ℕ} {inb : ∀ a, o a + S1x1024x1024.size a ≤ S2x1024x1024.size a} (hw : w s = WGot m c s t) (ho : o = ![s.val, 0, 0])
    {kv : Vec F S1x1024x1024 .f32 → Prog (TpuEff nD τ sig (Elt F) Λ₀ .tc) α} {hl}
    (hQ : Hs m K c a r (GS m c (up w s (WRdy m c s)) e J G P) ⊢ WP c (kv (w3 m c t)) Q) :
    Hs m K c a r (GS m c w e J G P) ⊢ WP c (Prog.lift (.load wbM (Rect.unit (s := S2x1024x1024) o S1x1024x1024.size inb).toLoadRect hl) >>= kv) Q := by
  refine Hs_step m K c a r (foc_w m c s _ hw) (loc_step m K c a ?_) hQ
  unfold WGot WRdy
  iintro ⟨HW, Hr⟩ Hk
  iapply (w_load s c ho (w3 m c t)) $$ HW
  iintro HW
  iapply Hk
  isplitl [HW]
  · iapply (WB_any c s _); iexact HW
  iexact Hr

/-- the slot of exponentials is read and not used, -/
theorem gm_eload (c : Dev nD) (a r : ℕ) (s : Fin 2) {o : Fin 3 → ℕ} {inb : ∀ a, o a + S1x512x1024.size a ≤ S2x512x1024.size a} (he : e s = ERdy c s) (ho : o = ![s.val, 0, 0])
    {kv : Vec F S1x512x1024 .f32 → Prog (TpuEff nD τ sig (Elt F) Λ₀ .tc) α} {hl}
    (hQ : ∀ v, Hs m K c a r (GS m c w (up e s (ERdy c s)) J G P) ⊢ WP c (kv v) Q) :
    Hs m K c a r (GS m c w e J G P) ⊢ WP c (Prog.lift (.load ebM (Rect.unit (s := S2x512x1024) o S1x512x1024.size inb).toLoadRect hl) >>= kv) Q := by
  have hE : iprop(Hs m K c a r (GS m c w (up e s (ERdy c s)) J G P)) ⊢ iprop(∀ v, WP c (kv v) Q) := by
    iintro H %v; iapply (show _ ⊢ WP c (kv v) Q from hQ v); iexact H
  unfold Hs at *
  iintro ⟨HR, HW, Hs, Hr, HP⟩
  ihave ⟨HA, HB⟩ := (foc_e m c s (ERdy c s) he) $$ HP
  unfold ERdy
  icases HA with ⟨HA, HZ⟩
  iapply (e_load_any s c ho) $$ HA
  iintro %v HA
  iapply (show _ ⊢ WP c (kv v) Q from hQ v)
  isplitl [HR]
  · iexact HR
  isplitl [HW]
  · iexact HW
  isplitl [Hs]
  · iexact Hs
  isplitl [Hr]
  · iexact Hr
  iapply HB
  isplitl [HA]
  · iexact HA
  iexact HZ

/-- the tile's exponentials are written, -/
theorem gm_store (c : Dev nD) (a r : ℕ) (s : Fin 2) (t : ℕ) {o : Fin 3 → ℕ} {inb : ∀ a, o a + S1x512x1024.size a ≤ S2x512x1024.size a} {v : Vec F S1x512x1024 .f32} {hx} {hm}
    (he : e s = ERdy c s) (ho : o = ![s.val, 0, 0]) (hv : v = k0_pay35 (xstg m c) (w3 m c t))
    (hQ : Hs m K c a r (GS m c w (up e s (EHas m c s t)) J G P) ⊢ WP c (kk ⟨⟩) Q) :
    Hs m K c a r (GS m c w e J G P)
      ⊢ WP c (Prog.lift (.store ebM (Rect.unit (s := S2x512x1024) o S1x512x1024.size inb) v Finset.univ hx hm) >>= kk) Q :=
  Hs_step m K c a r (foc_e m c s _ he) (loc_step m K c a (t_store m s c t ho hv)) hQ

/-- their copy out is started -/
theorem gm_estart (c : Dev nD) (a r : ℕ) (s : Fin 2) (t : ℕ) (ht8 : t < 8) {o : Fin 3 → ℕ} {inb : ∀ a, o a + S1x512x1024.size a ≤ S2x512x1024.size a} {og : Fin 2 → ℕ}
    {inbg : ∀ a, og a + S512x1024.size a ≤ S512x32768.size a} {sm : DmaSem sig} {hsrc hdst ht}
    (he : e s = EHas m c s t) (h1 : sm = eS s) (ho : o = ![s.val, 0, 0]) (hg : og = ![0, 8192 * c.val + 1024 * t])
    (hQ : Hs m K c a r (GS m c w (up e s (EFl m c s t)) J G P) ⊢ WP c (kk ⟨⟩) Q) :
    Hs m K c a r (GS m c w e iprop(gJ c (8192 * c.val + 1024 * t) 1024 ∗ J) G P)
      ⊢ WP c (Prog.lift (.enqueueDma ((ebM.slice (Rect.unit (s := S2x512x1024) o S1x512x1024.size inb) (fun _ => rfl)).squeeze S512x1024 squeezes_S1x512x1024_S512x1024)
          (.here (gM.slice (Rect.unit (s := S512x32768) og S512x1024.size inbg) (fun _ => rfl))) (.dma sm) hsrc hdst ht) >>= kk) Q :=
  Hs_step m K c a r (foc_ej m c s _ he) (loc_step m K c a (t_start m s c t ht8 h1 ho hg)) hQ

/-- and waited for. -/
theorem gm_ewait (c : Dev nD) (a r : ℕ) (s : Fin 2) (t : ℕ) {og : Fin 2 → ℕ} {inbg : ∀ a, og a + S512x1024.size a ≤ S512x32768.size a} {s1 : DmaSem sig} {sp : Space} {s' : Shape} {e' : EltTy}
    {src : Memref sig .tc sp s' e'} {hsrc : src.view.WordExact} {hdst}
    (he : e s = EFl m c s t) (h1 : s1 = eS s)
    (hQ : Hs m K c a r (GS m c w (up e s (ERdy c s)) J iprop(gP m c (8192 * c.val + 1024 * t) 1024 fullShare ∗ G) P) ⊢ WP c (kk ⟨⟩) Q) :
    Hs m K c a r (GS m c w e J G P)
      ⊢ WP c (Prog.lift (.waitDma2 s1 src (gM.slice (Rect.unit (s := S512x32768) og S512x1024.size inbg) (fun _ => rfl)) hsrc hdst) >>= kk) Q := by
  refine Hs_step m K c a r (foc_eg m c s (ERdy c s) (gP m c (8192 * c.val + 1024 * t) 1024 fullShare) he) ?_ hQ
  have h := t_wait m K s c a t (src := src) (dst := gM.slice (Rect.unit (s := S512x32768) og S512x1024.size inbg) (fun _ => rfl)) (hsrc := hsrc) (hdst := hdst) (kk := kk) (Q := Q) h1 (oT_cr og inbg)
  iintro H Hk
  iapply h $$ H
  iintro ⟨H1, H2, H3⟩
  iapply Hk
  isplitr [H3]
  · isplitl [H1]
    · iexact H1
    iexact H2
  iexact H3

end Steps

end Cert.KernelProof

end
-- ==== Proof.GemmP.lean ====
/-
The entry handshake, part 33 of the program.
-/
module

public import proofs.«01_k».proof.Proof.Gemm

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {v2 : BitVec 32} {P : sProp (MT nD τ sig Unit (Elt F) ℕ UU ℕ)}

/-- Transfer `k` before the entry handshake: the other device's place for it is missing. -/
def SB0 (c : Dev nD) (k : TK) : sProp 𝕄 :=
  iprop(atPos ER (sCell c k) 0 ∅ 0 ∗ if act c k then iprop(dutyTok ER (sCell c k) 0 false ∗ dutyTok ER (rCell (peer c k.1) k) 0 false) else iprop(emp))

omit [FloatOps F] in
/-- Reassociation of four parts. -/
theorem shuf4 (A B C D : sProp 𝕄) : iprop((A ∗ B ∗ C) ∗ D) ⊢ iprop(A ∗ B ∗ C ∗ D) := by
  iintro ⟨⟨H1, H2, H3⟩, H4⟩
  isplitl [H1]
  · iexact H1
  isplitl [H2]
  · iexact H2
  isplitl [H3]
  · iexact H3
  iexact H4
omit [FloatOps F] in
/-- Two empty parts are one. -/
theorem shuf2 (A : sProp 𝕄) : iprop((A ∗ emp) ∗ emp) ⊢ iprop(A ∗ emp) := by
  iintro ⟨H, -⟩
  iexact H

omit [FloatOps F] in
/-- After the handshake the device holds the places it sends to. -/
theorem SB_intro (c : Dev nD) :
    iprop(bigSep Finset.univ (SB0 (F := F) c) ∗ bigSep Finset.univ fun k : TK => if act c k then junk (F := F) (peer c k.1) (slot c k.1 k.2.1.val) k.2.2 else iprop(emp))
      ⊢ bigSep Finset.univ (SB (F := F) c) := by
  rw [← bigSep_sep']
  refine bigSep_mono fun k _ => ?_
  unfold SB0 SB
  by_cases h : act c k = true
  · rw [if_pos h, if_pos h, if_pos h]
    exact shuf4 _ _ _ _
  · rw [if_neg h, if_neg h, if_neg h]
    exact shuf2 _

/-- What a device starts with, beside its buffers. -/
def S0 (c : Dev nD) (P : sProp 𝕄) : sProp 𝕄 :=
  iprop(Recs m K ∗ (∃ W, owes (c : Thread nD τ) (O₀ c) W) ∗ sigRes c true ∗ sigRes c false ∗ cred (tallyAt (barCell c) () (nNbr c)) ∗ atPos ER (barCell c) 0 ∅ 0
    ∗ bigSep Finset.univ (SB0 (F := F) c) ∗ bigSep Finset.univ (RB (F := F) c) ∗ P)

/-- The device asks for its own name. -/
theorem WP_dev (c : Dev nD) {α : Type} {k : Dev nD → Prog (TpuEff nD τ sig (Elt F) Λ₀ .tc) α} {Q : α → sProp (MT nD τ sig Unit (Elt F) ℕ UU ℕ)} {H : sProp 𝕄} (h : H ⊢ WP c (k c) Q) :
    H ⊢ WP c (Prog.lift .deviceId >>= k) Q := by
  unfold WP at *
  simp only [Prog.lift, Prog.bind_op, Prog.bind_ret, wp_deviceId]
  exact h

section Start
variable {α : Type} {Q : α → sProp (MT nD τ sig Unit (Elt F) ℕ UU ℕ)}
variable {kk : PUnit.{1} → Prog (TpuEff nD τ sig (Elt F) Λ₀ .tc) α}

/-- The entry handshake: both neighbours are told, and their word is waited for. -/
theorem start_Hs (c : Dev nD) {c1 c2 : Prop} {d1 : Decidable c1} {d2 : Decidable c2} {n1 n2 : ℕ} {l1 : c1 → n1 < nD} {l2 : c2 → n2 < nD} {n : BitVec 32}
    (hx1 : (c1 ↔ nbr c true = true) ∧ (c1 → n1 = (peer c true).val)) (hx2 : (c2 ↔ nbr c false = true) ∧ (c2 → n2 = (peer c false).val)) (hn : n.toInt = (nNbr c : ℤ))
    {P : sProp 𝕄} (hQ : Hs m K c 0 0 iprop(semVal (barCell c) 0 ∗ P) ⊢ WP c (kk ⟨⟩) Q) :
    S0 m K c P ⊢ WP c (dite c1
      (fun h => semSignalWord (⟨n1, l1 h⟩ : Dev nD) barS 1#32 >>= fun _ =>
        dite c2 (fun h => semSignalWord (⟨n2, l2 h⟩ : Dev nD) barS 1#32 >>= fun _ => semWaitWord barS n >>= kk) (fun _ => semWaitWord barS n >>= kk))
      (fun _ => dite c2 (fun h => semSignalWord (⟨n2, l2 h⟩ : Dev nD) barS 1#32 >>= fun _ => semWaitWord barS n >>= kk) (fun _ => semWaitWord barS n >>= kk))) Q := by
  unfold S0 O₀ O₁
  iintro ⟨#HR, ⟨%W, HO⟩, H1, H2, Hc, Ha, Hs, Hr, HP⟩
  iapply (blk_signal m K c true (kk := fun _ => dite c2 (fun h => semSignalWord (⟨n2, l2 h⟩ : Dev nD) barS 1#32 >>= fun _ => semWaitWord barS n >>= kk) (fun _ => semWaitWord barS n >>= kk))
      (obl c 0 + owedSig c false) W hx1) $$ [HO H1]
  · isplitr
    · iexact HR
    isplitl [HO]
    · iexact HO
    iexact H1
  iintro HO
  iapply (blk_signal m K c false (kk := fun _ => semWaitWord barS n >>= kk) (obl c 0) W hx2) $$ [HO H2]
  · isplitr
    · iexact HR
    isplitl [HO]
    · iexact HO
    iexact H2
  iintro HO
  iapply (core_bar m K c W hn) $$ [HO Hc Ha]
  · isplitr
    · iexact HR
    isplitl [HO]
    · iexact HO
    isplitl [Hc]
    · iexact Hc
    iexact Ha
  iintro ⟨HW, Hb, Hj⟩
  ihave Hs := (SB_intro c) $$ [Hs Hj]
  · isplitl [Hs]
    · iexact Hs
    iexact Hj
  iapply (show _ ⊢ WP c (kk ⟨⟩) Q from hQ)
  unfold Hs
  rw [fam_zero, fam_zero]
  isplitr
  · iexact HR
  isplitl [HW]
  · iexact HW
  isplitl [Hs]
  · iexact Hs
  isplitl [Hr]
  · iexact Hr
  isplitl [Hb]
  · iexact Hb
  iexact HP
end Start

/-- The barrier's semaphore is put aside. -/
theorem gs_bar (c : Dev nD) {w e : Fin 2 → sProp (MT nD τ sig Unit (Elt F) ℕ UU ℕ)} {J G P b : sProp (MT nD τ sig Unit (Elt F) ℕ UU ℕ)} :
    iprop(b ∗ GS m c w e J G P) ⊢ GS m c w e J G iprop(b ∗ P) := by
  unfold GS
  iintro ⟨Hb, Hw, He, Hx, HJ, HG, HP⟩
  isplitl [Hw]
  · iexact Hw
  isplitl [He]
  · iexact He
  isplitl [Hx]
  · iexact Hx
  isplitl [HJ]
  · iexact HJ
  isplitl [HG]
  · iexact HG
  isplitl [Hb]
  · iexact Hb
  iexact HP

set_option maxHeartbeats 4000000 in
/-- Part 33 of the program, the entry handshake and the first two fetches. -/
theorem part33 {J G : sProp (MT nD τ sig Unit (Elt F) ℕ UU ℕ)} {Q : (Σ' (d0 : Dev nD) (v2 : BitVec 32), FVec F S512 .f32) → sProp (MT nD τ sig Unit (Elt F) ℕ UU ℕ)}
    (hQ : ∀ v2, Hs m K c 0 0 (GS m c ![WFl m c 0 0, WFl m c 1 1] ![ERdy c 0, ERdy c 1] J G iprop(semVal (barCell c) 0 ∗ P)) ⊢ Q ⟨c, v2, sAcc m c 0⟩) :
    S0 m K c (GS m c ![WRdy m c 0, WRdy m c 1] ![ERdy c 0, ERdy c 1] J G P)
      ⊢ WP c (k0_part33 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13) Q := by
  rw [k0_part33_eq_skeleton]
  unfold k0_part33_skel
  refine WP_dev c ?_
  refine start_Hs m K c (by generalize c = d; revert d; decide +kernel) (by generalize c = d; revert d; decide +kernel) (by generalize c = d; revert d; decide +kernel) ?_
  refine BI.Entails.trans (Hs_mono m K c 0 0 (gs_bar m c)) ?_
  refine gm_wstart m K c 0 0 0 0 (by rfl) (by rfl) (by rfl) (by rfl) ?_
  refine gm_wstart m K c 0 0 1 1 (by rfl) (by rfl) (by rfl) (by rfl) ?_
  exact BI.Entails.trans (hQ _) (WP_pure c _ Q)

end Cert.KernelProof

end
-- ==== Proof.GemmA.lean ====
/-
The first tiles of the product: parts 34 to 38 of the program.
-/
module

public import proofs.«01_k».proof.Proof.Gemm

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Two tiles of the exponentials as a piece. -/
theorem tiles_piece (c : Dev nD) (lo : ℕ) (q : PosShare TreeShare) : iprop(gP m c lo 1024 q ∗ gP m c (lo + 1024) 1024 q) ⊢ gP m c lo 2048 q := by
  refine BI.Entails.trans ?_ ((pointsTo_split_subset (ℓ := gL c) (S := gcol lo 2048) (I := gcol lo 1024) ?_).2)
  · have e : gcol lo 2048 \ gcol lo 1024 = gcol (lo + 1024) 1024 := by
      ext i
      simp only [gcol, Finset.mem_sdiff, Finset.mem_filter, Finset.mem_univ, true_and]
      omega
    rw [e]
    exact BI.Entails.refl _
  · intro i hi
    have hi := (Finset.mem_filter.mp hi).2
    exact Finset.mem_filter.mpr ⟨Finset.mem_univ _, by omega⟩

variable (K : Dev nD × CI → ℕ)
variable (c : Dev nD) {v2 : BitVec 32} {P : sProp (MT nD τ sig Unit (Elt F) ℕ UU ℕ)}

/-- Two tiles of the device's own exponentials that are out make a piece: a share goes to either direction and one stays. -/
theorem gs_sub (u : Fin 4) (u' : Fin 5) (t0 t1 : ℕ) (hu : u'.val = u.val) (h0 : t0 = 2 * u.val) (h1 : t1 = 2 * u.val + 1) {w e : Fin 2 → sProp (MT nD τ sig Unit (Elt F) ℕ UU ℕ)}
    {J G P : sProp (MT nD τ sig Unit (Elt F) ℕ UU ℕ)} :
    GS m c w e J iprop(gP m c (8192 * c.val + 1024 * t1) 1024 fullShare ∗ gP m c (8192 * c.val + 1024 * t0) 1024 fullShare ∗ G) P
      ⊢ iprop(pS m c false 0 u' ∗ pS m c true 0 u' ∗ GS m c w e J G
          iprop(gP m c (8192 * c.val + 1024 * t0) 1024 fullShare.left ∗ gP m c (8192 * c.val + 1024 * t1) 1024 fullShare.left ∗ P)) := by
  have hne : u' ≠ 4 := by intro h; rw [h] at hu; have := u.isLt; simp at hu; omega
  have hS : ∀ b, pS m c b 0 u' = gP m c (8192 * c.val + 2048 * u.val) 2048 (qS b 0) := by
    intro b
    have he : ex c b 0 = true := by clear hu hne; generalize c = d; revert b d; decide +kernel
    have hs : slot c b 0 = c.val := by clear he; generalize c = d; revert b d; decide +kernel
    unfold pS pt gP
    rw [if_pos he, if_neg hne, hs, hu]
  have e0 : 8192 * c.val + 1024 * t0 = 8192 * c.val + 2048 * u.val := by omega
  have e1 : 8192 * c.val + 1024 * t1 = 8192 * c.val + 2048 * u.val + 1024 := by omega
  rw [hS, hS, e0, e1]
  unfold GS
  iintro ⟨Hw, He, Hx, HJ, ⟨H1, H0, HG⟩, HP⟩
  ihave H := (tiles_piece m c _ fullShare) $$ [H0 H1]
  · isplitl [H0]
    · iexact H0
    iexact H1
  ihave ⟨HL, HR⟩ := (pointsTo_share full_split).1 $$ H
  ihave ⟨HRL, HRR⟩ := (pointsTo_share right_split).1 $$ HR
  ihave ⟨HL0, HL1⟩ := (piece_tiles m c _ fullShare.left) $$ HL
  isplitl [HRL]
  · iexact HRL
  isplitl [HRR]
  · iexact HRR
  isplitl [Hw]
  · iexact Hw
  isplitl [He]
  · iexact He
  isplitl [Hx]
  · iexact Hx
  isplitl [HJ]
  · iexact HJ
  isplitl [HG]
  · iexact HG
  isplitl [HL0]
  · iexact HL0
  isplitl [HL1]
  · iexact HL1
  iexact HP

set_option maxHeartbeats 4000000 in
/-- Part 34 of the program. -/
theorem part34 {Q : FVec F S512 .f32 → sProp (MT nD τ sig Unit (Elt F) ℕ UU ℕ)}
    (hQ : Hs m K c 0 0 (GS m c ![WFl m c 0 2, WFl m c 1 1] ![EFl m c 0 0, ERdy c 1] iprop(gJ c (8192 * c.val + 1024 * 1) 1024 ∗ gJ c (8192 * c.val + 1024 * 2) 1024 ∗ gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(emp) P) ⊢ Q (sAcc m c 1)) :
    Hs m K c 0 0 (GS m c ![WFl m c 0 0, WFl m c 1 1] ![ERdy c 0, ERdy c 1] iprop(gJ c (8192 * c.val + 1024 * 0) 1024 ∗ gJ c (8192 * c.val + 1024 * 1) 1024 ∗ gJ c (8192 * c.val + 1024 * 2) 1024 ∗ gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(emp) P)
      ⊢ WP c (k0_part34 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 0)) Q := by
  rw [k0_part34_eq_skeleton]
  unfold k0_part34_skel
  refine gm_wwait m K c 0 0 0 0 (by rfl) (by rfl) ?_
  refine gm_x m K c 0 0 (by rfl) ?_
  refine gm_wload m K c 0 0 0 0 (by rfl) (by rfl) ?_
  refine gm_eload m K c 0 0 0 (by rfl) (by rfl) (fun _ => ?_)
  refine gm_store m K c 0 0 0 0 (by rfl) (by rfl) (by rfl) ?_
  refine gm_estart m K c 0 0 0 0 (by decide) (by rfl) (by rfl) (by rfl) (k0_off1_eq c 0) ?_
  refine gm_wstart m K c 0 0 0 2 (by rfl) (by rfl) (by rfl) (by rfl) ?_
  exact BI.Entails.trans hQ (WP_pure c _ Q)

set_option maxHeartbeats 4000000 in
/-- Part 35 of the program. -/
theorem part35 {Q : FVec F S512 .f32 → sProp (MT nD τ sig Unit (Elt F) ℕ UU ℕ)}
    (hQ : Hs m K c 0 0 (GS m c ![WFl m c 0 2, WFl m c 1 3] ![EFl m c 0 0, EFl m c 1 1] iprop(gJ c (8192 * c.val + 1024 * 2) 1024 ∗ gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(emp) P) ⊢ Q (sAcc m c 2)) :
    Hs m K c 0 0 (GS m c ![WFl m c 0 2, WFl m c 1 1] ![EFl m c 0 0, ERdy c 1] iprop(gJ c (8192 * c.val + 1024 * 1) 1024 ∗ gJ c (8192 * c.val + 1024 * 2) 1024 ∗ gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(emp) P)
      ⊢ WP c (k0_part35 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 1)) Q := by
  rw [k0_part35_eq_skeleton]
  unfold k0_part35_skel
  refine gm_wwait m K c 0 0 1 1 (by rfl) (by rfl) ?_
  refine gm_x m K c 0 0 (by rfl) ?_
  refine gm_wload m K c 0 0 1 1 (by rfl) (by rfl) ?_
  refine gm_eload m K c 0 0 1 (by rfl) (by rfl) (fun _ => ?_)
  refine gm_store m K c 0 0 1 1 (by rfl) (by rfl) (by rfl) ?_
  refine gm_estart m K c 0 0 1 1 (by decide) (by rfl) (by rfl) (by rfl) (k0_off1_eq c 1) ?_
  refine gm_wstart m K c 0 0 1 3 (by rfl) (by rfl) (by rfl) (by rfl) ?_
  exact BI.Entails.trans hQ (WP_pure c _ Q)

set_option maxHeartbeats 4000000 in
/-- Part 36 of the program. -/
theorem part36 {Q : FVec F S512 .f32 → sProp (MT nD τ sig Unit (Elt F) ℕ UU ℕ)}
    (hQ : Hs m K c 0 0 (GS m c ![WRdy m c 0, WFl m c 1 3] ![EFl m c 0 2, EFl m c 1 1] iprop(gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(gP m c (8192 * c.val + 1024 * 0) 1024 fullShare ∗ iprop(emp)) P) ⊢ Q (sAcc m c 3)) :
    Hs m K c 0 0 (GS m c ![WFl m c 0 2, WFl m c 1 3] ![EFl m c 0 0, EFl m c 1 1] iprop(gJ c (8192 * c.val + 1024 * 2) 1024 ∗ gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(emp) P)
      ⊢ WP c (k0_part36 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 2)) Q := by
  rw [k0_part36_eq_skeleton]
  unfold k0_part36_skel
  refine gm_wwait m K c 0 0 0 2 (by rfl) (by rfl) ?_
  refine gm_ewait m K c 0 0 0 0 (by rfl) (by rfl) ?_
  refine gm_x m K c 0 0 (by rfl) ?_
  refine gm_wload m K c 0 0 0 2 (by rfl) (by rfl) ?_
  refine gm_eload m K c 0 0 0 (by rfl) (by rfl) (fun _ => ?_)
  refine gm_store m K c 0 0 0 2 (by rfl) (by rfl) (by rfl) ?_
  refine gm_estart m K c 0 0 0 2 (by decide) (by rfl) (by rfl) (by rfl) (k0_off1_eq c 2) ?_
  exact BI.Entails.trans hQ (WP_pure c _ Q)

set_option maxHeartbeats 4000000 in
/-- Part 37 of the program. -/
theorem part37 {Q : FVec F S512 .f32 → sProp (MT nD τ sig Unit (Elt F) ℕ UU ℕ)}
    (hQ : Hs m K c 0 0 (GS m c ![WFl m c 0 4, WRdy m c 1] ![EFl m c 0 2, EHas m c 1 3] iprop(gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(gP m c (8192 * c.val + 1024 * 1) 1024 fullShare ∗ gP m c (8192 * c.val + 1024 * 0) 1024 fullShare ∗ iprop(emp)) P) ⊢ Q (k0_pay45 (xstg m c) (w3 m c 3))) :
    Hs m K c 0 0 (GS m c ![WRdy m c 0, WFl m c 1 3] ![EFl m c 0 2, EFl m c 1 1] iprop(gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(gP m c (8192 * c.val + 1024 * 0) 1024 fullShare ∗ iprop(emp)) P)
      ⊢ WP c (k0_part37 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 ) Q := by
  rw [k0_part37_eq_skeleton]
  unfold k0_part37_skel
  refine gm_wstart m K c 0 0 0 4 (by rfl) (by rfl) (by rfl) (by rfl) ?_
  refine gm_wwait m K c 0 0 1 3 (by rfl) (by rfl) ?_
  refine gm_ewait m K c 0 0 1 1 (by rfl) (by rfl) ?_
  refine gm_x m K c 0 0 (by rfl) ?_
  refine gm_wload m K c 0 0 1 3 (by rfl) (by rfl) ?_
  refine gm_eload m K c 0 0 1 (by rfl) (by rfl) (fun _ => ?_)
  refine gm_store m K c 0 0 1 3 (by rfl) (by rfl) (by rfl) ?_
  exact BI.Entails.trans hQ (WP_pure c _ Q)

set_option maxHeartbeats 4000000 in
/-- Part 38 of the program. -/
theorem part38 {Q : FVec F S512 .f32 → sProp (MT nD τ sig Unit (Elt F) ℕ UU ℕ)}
    (hQ : Hs m K c 2 0 (GS m c ![WGot m c 0 4, WFl m c 1 5] ![EFl m c 0 2, EFl m c 1 3] iprop(gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(emp) iprop(gP m c (8192 * c.val + 1024 * 0) 1024 fullShare.left ∗ gP m c (8192 * c.val + 1024 * 1) 1024 fullShare.left ∗ P)) ⊢ Q (sAcc m c 4)) :
    Hs m K c 0 0 (GS m c ![WFl m c 0 4, WRdy m c 1] ![EFl m c 0 2, EHas m c 1 3] iprop(gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(gP m c (8192 * c.val + 1024 * 1) 1024 fullShare ∗ gP m c (8192 * c.val + 1024 * 0) 1024 fullShare ∗ iprop(emp)) P)
      ⊢ WP c (k0_part38 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 3) (k0_pay45 (xstg m c) (w3 m c 3))) Q := by
  rw [k0_part38_eq_skeleton]
  unfold k0_part38_skel
  refine gm_estart m K c 0 0 1 3 (by decide) (by rfl) (by rfl) (by rfl) (k0_off1_eq c 3) ?_
  refine BI.Entails.trans (Hs_mono m K c 0 0 (gs_sub m c 0 0 0 1 (by rfl) (by rfl) (by rfl))) ?_
  refine send_Hs m K c (false, 0, 0) _ _ _ (by rfl) (blk_send m K c (false, 0, 0) (by decide) (by rfl) (by rfl) (by generalize c = d; revert d; decide +kernel)) ?_
  refine send_Hs m K c (true, 0, 0) _ _ _ (by rfl) (blk_send m K c (true, 0, 0) (by decide) (by rfl) (by rfl) (by generalize c = d; revert d; decide +kernel)) ?_
  refine gm_wstart m K c 2 0 1 5 (by rfl) (by rfl) (by rfl) (by rfl) ?_
  refine gm_wwait m K c 2 0 0 4 (by rfl) (by rfl) ?_
  exact BI.Entails.trans hQ (WP_pure c _ Q)

end Cert.KernelProof

end
-- ==== Proof.GemmB.lean ====
/-
The last tiles of the product: parts 39 to 43 of the program.
-/
module

public import proofs.«01_k».proof.Proof.GemmA

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {v2 : BitVec 32} {P : sProp (MT nD τ sig Unit (Elt F) ℕ UU ℕ)}

set_option maxHeartbeats 4000000 in
/-- Part 39 of the program. -/
theorem part39 {Q : FVec F S512 .f32 → sProp (MT nD τ sig Unit (Elt F) ℕ UU ℕ)}
    (hQ : Hs m K c 2 0 (GS m c ![WFl m c 0 6, WFl m c 1 5] ![EFl m c 0 4, EFl m c 1 3] iprop(gJ c (8192 * c.val + 1024 * 5) 1024 ∗ gJ c (8192 * c.val + 1024 * 6) 1024 ∗ gJ c (8192 * c.val + 1024 * 7) 1024 ∗ iprop(emp)) iprop(gP m c (8192 * c.val + 1024 * 2) 1024 fullShare ∗ iprop(emp)) iprop(gP m c (8192 * c.val + 1024 * 0) 1024 fullShare.left ∗ gP m c (8192 * c.val + 1024 * 1) 1024 fullShare.left ∗ P)) ⊢ Q (sAcc m c 5)) :
    Hs m K c 2 0 (GS m c ![WGot m c 0 4, WFl m c 1 5] ![EFl m c 0 2, EFl m c 1 3] iprop(gJ c (8192 * c.val + 1024 * 4) 1024 ∗ gJ c (8192 * c.val + 1024 * 5) 1024 ∗ gJ c (8192 * c.val + 1024 * 6) 1024 ∗ gJ c (8192 * c.val + 1024 * 7) 1024 ∗ iprop(emp)) iprop(emp) iprop(gP m c (8192 * c.val + 1024 * 0) 1024 fullShare.left ∗ gP m c (8192 * c.val + 1024 * 1) 1024 fullShare.left ∗ P))
      ⊢ WP c (k0_part39 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 4)) Q := by
  rw [k0_part39_eq_skeleton]
  unfold k0_part39_skel
  refine gm_ewait m K c 2 0 0 2 (by rfl) (by rfl) ?_
  refine gm_x m K c 2 0 (by rfl) ?_
  refine gm_wload m K c 2 0 0 4 (by rfl) (by rfl) ?_
  refine gm_eload m K c 2 0 0 (by rfl) (by rfl) (fun _ => ?_)
  refine gm_store m K c 2 0 0 4 (by rfl) (by rfl) (by rfl) ?_
  refine gm_estart m K c 2 0 0 4 (by decide) (by rfl) (by rfl) (by rfl) (k0_off1_eq c 4) ?_
  refine gm_wstart m K c 2 0 0 6 (by rfl) (by rfl) (by rfl) (by rfl) ?_
  exact BI.Entails.trans hQ (WP_pure c _ Q)

set_option maxHeartbeats 4000000 in
/-- Part 40 of the program. -/
theorem part40 {Q : FVec F S512 .f32 → sProp (MT nD τ sig Unit (Elt F) ℕ UU ℕ)}
    (hQ : Hs m K c 2 0 (GS m c ![WFl m c 0 6, WRdy m c 1] ![EFl m c 0 4, EFl m c 1 5] iprop(gJ c (8192 * c.val + 1024 * 6) 1024 ∗ gJ c (8192 * c.val + 1024 * 7) 1024 ∗ iprop(emp)) iprop(gP m c (8192 * c.val + 1024 * 3) 1024 fullShare ∗ gP m c (8192 * c.val + 1024 * 2) 1024 fullShare ∗ iprop(emp)) iprop(gP m c (8192 * c.val + 1024 * 0) 1024 fullShare.left ∗ gP m c (8192 * c.val + 1024 * 1) 1024 fullShare.left ∗ P)) ⊢ Q (sAcc m c 6)) :
    Hs m K c 2 0 (GS m c ![WFl m c 0 6, WFl m c 1 5] ![EFl m c 0 4, EFl m c 1 3] iprop(gJ c (8192 * c.val + 1024 * 5) 1024 ∗ gJ c (8192 * c.val + 1024 * 6) 1024 ∗ gJ c (8192 * c.val + 1024 * 7) 1024 ∗ iprop(emp)) iprop(gP m c (8192 * c.val + 1024 * 2) 1024 fullShare ∗ iprop(emp)) iprop(gP m c (8192 * c.val + 1024 * 0) 1024 fullShare.left ∗ gP m c (8192 * c.val + 1024 * 1) 1024 fullShare.left ∗ P))
      ⊢ WP c (k0_part40 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 5)) Q := by
  rw [k0_part40_eq_skeleton]
  unfold k0_part40_skel
  refine gm_wwait m K c 2 0 1 5 (by rfl) (by rfl) ?_
  refine gm_ewait m K c 2 0 1 3 (by rfl) (by rfl) ?_
  refine gm_x m K c 2 0 (by rfl) ?_
  refine gm_wload m K c 2 0 1 5 (by rfl) (by rfl) ?_
  refine gm_eload m K c 2 0 1 (by rfl) (by rfl) (fun _ => ?_)
  refine gm_store m K c 2 0 1 5 (by rfl) (by rfl) (by rfl) ?_
  refine gm_estart m K c 2 0 1 5 (by decide) (by rfl) (by rfl) (by rfl) (k0_off1_eq c 5) ?_
  exact BI.Entails.trans hQ (WP_pure c _ Q)

set_option maxHeartbeats 4000000 in
/-- Part 41 of the program. -/
theorem part41 {Q : (Σ' (v247 : FVec F S512x1024 .f32), FVec F S1024x1024 .f32) → sProp (MT nD τ sig Unit (Elt F) ℕ UU ℕ)}
    (hQ : Hs m K c 4 0 (GS m c ![WRdy m c 0, WFl m c 1 7] ![ERdy c 0, EFl m c 1 5] iprop(gJ c (8192 * c.val + 1024 * 6) 1024 ∗ gJ c (8192 * c.val + 1024 * 7) 1024 ∗ iprop(emp)) iprop(gP m c (8192 * c.val + 1024 * 4) 1024 fullShare ∗ iprop(emp)) iprop(gP m c (8192 * c.val + 1024 * 2) 1024 fullShare.left ∗ gP m c (8192 * c.val + 1024 * 3) 1024 fullShare.left ∗ gP m c (8192 * c.val + 1024 * 0) 1024 fullShare.left ∗ gP m c (8192 * c.val + 1024 * 1) 1024 fullShare.left ∗ P)) ⊢ Q ⟨k0_pay53 (xstg m c), k0_pay54 (w3 m c 6)⟩) :
    Hs m K c 2 0 (GS m c ![WFl m c 0 6, WRdy m c 1] ![EFl m c 0 4, EFl m c 1 5] iprop(gJ c (8192 * c.val + 1024 * 6) 1024 ∗ gJ c (8192 * c.val + 1024 * 7) 1024 ∗ iprop(emp)) iprop(gP m c (8192 * c.val + 1024 * 3) 1024 fullShare ∗ gP m c (8192 * c.val + 1024 * 2) 1024 fullShare ∗ iprop(emp)) iprop(gP m c (8192 * c.val + 1024 * 0) 1024 fullShare.left ∗ gP m c (8192 * c.val + 1024 * 1) 1024 fullShare.left ∗ P))
      ⊢ WP c (k0_part41 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 ) Q := by
  rw [k0_part41_eq_skeleton]
  unfold k0_part41_skel
  refine BI.Entails.trans (Hs_mono m K c 2 0 (gs_sub m c 1 1 2 3 (by rfl) (by rfl) (by rfl))) ?_
  refine send_Hs m K c (false, 0, 1) _ _ _ (by rfl) (blk_send m K c (false, 0, 1) (by decide) (by rfl) (by rfl) (by generalize c = d; revert d; decide +kernel)) ?_
  refine send_Hs m K c (true, 0, 1) _ _ _ (by rfl) (blk_send m K c (true, 0, 1) (by decide) (by rfl) (by rfl) (by generalize c = d; revert d; decide +kernel)) ?_
  refine gm_wstart m K c 4 0 1 7 (by rfl) (by rfl) (by rfl) (by rfl) ?_
  refine gm_wwait m K c 4 0 0 6 (by rfl) (by rfl) ?_
  refine gm_ewait m K c 4 0 0 4 (by rfl) (by rfl) ?_
  refine gm_x m K c 4 0 (by rfl) ?_
  refine gm_wload m K c 4 0 0 6 (by rfl) (by rfl) ?_
  exact BI.Entails.trans hQ (WP_pure c _ Q)

set_option maxHeartbeats 4000000 in
/-- Part 42 of the program. -/
theorem part42 {Q : (Σ' (v256 : FVec F S512 .f32), FVec F S512x1024 .f32) → sProp (MT nD τ sig Unit (Elt F) ℕ UU ℕ)}
    (hQ : Hs m K c 4 0 (GS m c ![WRdy m c 0, WGot m c 1 7] ![EFl m c 0 6, ERdy c 1] iprop(gJ c (8192 * c.val + 1024 * 7) 1024 ∗ iprop(emp)) iprop(gP m c (8192 * c.val + 1024 * 5) 1024 fullShare ∗ gP m c (8192 * c.val + 1024 * 4) 1024 fullShare ∗ iprop(emp)) iprop(gP m c (8192 * c.val + 1024 * 2) 1024 fullShare.left ∗ gP m c (8192 * c.val + 1024 * 3) 1024 fullShare.left ∗ gP m c (8192 * c.val + 1024 * 0) 1024 fullShare.left ∗ gP m c (8192 * c.val + 1024 * 1) 1024 fullShare.left ∗ P)) ⊢ Q ⟨sAcc m c 7, k0_pay58 (xstg m c)⟩) :
    Hs m K c 4 0 (GS m c ![WRdy m c 0, WFl m c 1 7] ![ERdy c 0, EFl m c 1 5] iprop(gJ c (8192 * c.val + 1024 * 6) 1024 ∗ gJ c (8192 * c.val + 1024 * 7) 1024 ∗ iprop(emp)) iprop(gP m c (8192 * c.val + 1024 * 4) 1024 fullShare ∗ iprop(emp)) iprop(gP m c (8192 * c.val + 1024 * 2) 1024 fullShare.left ∗ gP m c (8192 * c.val + 1024 * 3) 1024 fullShare.left ∗ gP m c (8192 * c.val + 1024 * 0) 1024 fullShare.left ∗ gP m c (8192 * c.val + 1024 * 1) 1024 fullShare.left ∗ P))
      ⊢ WP c (k0_part42 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 6) (k0_pay53 (xstg m c)) (k0_pay54 (w3 m c 6))) Q := by
  rw [k0_part42_eq_skeleton]
  unfold k0_part42_skel
  refine gm_eload m K c 4 0 0 (by rfl) (by rfl) (fun _ => ?_)
  refine gm_store m K c 4 0 0 6 (by rfl) (by rfl) (by rfl) ?_
  refine gm_estart m K c 4 0 0 6 (by decide) (by rfl) (by rfl) (by rfl) (k0_off1_eq c 6) ?_
  refine gm_wwait m K c 4 0 1 7 (by rfl) (by rfl) ?_
  refine gm_ewait m K c 4 0 1 5 (by rfl) (by rfl) ?_
  refine gm_x m K c 4 0 (by rfl) ?_
  exact BI.Entails.trans hQ (WP_pure c _ Q)

set_option maxHeartbeats 4000000 in
/-- Part 43 of the program. -/
theorem part43 {Q : (Σ' (v286 : FVec F S512 .f32), BitVec 32) → sProp (MT nD τ sig Unit (Elt F) ℕ UU ℕ)}
    (hQ : Hs m K c 6 0 (GS m c ![WRdy m c 0, WRdy m c 1] ![ERdy c 0, EFl m c 1 7] iprop(emp) iprop(gP m c (8192 * c.val + 1024 * 6) 1024 fullShare ∗ iprop(emp)) iprop(gP m c (8192 * c.val + 1024 * 4) 1024 fullShare.left ∗ gP m c (8192 * c.val + 1024 * 5) 1024 fullShare.left ∗ gP m c (8192 * c.val + 1024 * 2) 1024 fullShare.left ∗ gP m c (8192 * c.val + 1024 * 3) 1024 fullShare.left ∗ gP m c (8192 * c.val + 1024 * 0) 1024 fullShare.left ∗ gP m c (8192 * c.val + 1024 * 1) 1024 fullShare.left ∗ P)) ⊢ Q ⟨sAcc m c 8, 8192#32⟩) :
    Hs m K c 4 0 (GS m c ![WRdy m c 0, WGot m c 1 7] ![EFl m c 0 6, ERdy c 1] iprop(gJ c (8192 * c.val + 1024 * 7) 1024 ∗ iprop(emp)) iprop(gP m c (8192 * c.val + 1024 * 5) 1024 fullShare ∗ gP m c (8192 * c.val + 1024 * 4) 1024 fullShare ∗ iprop(emp)) iprop(gP m c (8192 * c.val + 1024 * 2) 1024 fullShare.left ∗ gP m c (8192 * c.val + 1024 * 3) 1024 fullShare.left ∗ gP m c (8192 * c.val + 1024 * 0) 1024 fullShare.left ∗ gP m c (8192 * c.val + 1024 * 1) 1024 fullShare.left ∗ P))
      ⊢ WP c (k0_part43 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 7) (k0_pay58 (xstg m c))) Q := by
  rw [k0_part43_eq_skeleton]
  unfold k0_part43_skel
  refine gm_wload m K c 4 0 1 7 (by rfl) (by rfl) ?_
  refine gm_eload m K c 4 0 1 (by rfl) (by rfl) (fun _ => ?_)
  refine gm_store m K c 4 0 1 7 (by rfl) (by rfl) (by rfl) ?_
  refine gm_estart m K c 4 0 1 7 (by decide) (by rfl) (by rfl) (by rfl) (k0_off1_eq c 7) ?_
  refine BI.Entails.trans (Hs_mono m K c 4 0 (gs_sub m c 2 2 4 5 (by rfl) (by rfl) (by rfl))) ?_
  refine send_Hs m K c (false, 0, 2) _ _ _ (by rfl) (blk_send m K c (false, 0, 2) (by decide) (by rfl) (by rfl) (by generalize c = d; revert d; decide +kernel)) ?_
  refine send_Hs m K c (true, 0, 2) _ _ _ (by rfl) (blk_send m K c (true, 0, 2) (by decide) (by rfl) (by rfl) (by generalize c = d; revert d; decide +kernel)) ?_
  refine gm_ewait m K c 6 0 0 6 (by rfl) (by rfl) ?_
  exact BI.Entails.trans hQ (WP_pure c _ Q)

end Cert.KernelProof

end
-- ==== Proof.Stat.lean ====
/-
The row of sums: it is written, shared out, and the whole table is read.
-/
module

public import proofs.«01_k».proof.Proof.Gemm

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- The device's own row of the table, at whatever contents. -/
def SRow (c : Dev nD) : sProp 𝕄 := iprop(∃ f, stL c ↦[srow c.val]{fullShare} f)
/-- Row `j` of the table, final, at share `q`. -/
abbrev rowP (c : Dev nD) (j : ℕ) (q : PosShare TreeShare) : sProp 𝕄 := stL c ↦[srow j]{q} sAll m

/-- A row of the table is a device's sums. -/
theorem row_read (c : Dev nD) {off : Fin 2 → ℕ} {inb : ∀ a, off a + S1x512.size a ≤ S4x512.size a} (ho : off = ![c.val, 0]) :
    k0_pay62 (sAcc m c 8) = (stM.view.slice (Rect.unit (s := S4x512) off S1x512.size inb)).read (Elt F) (sAll m) := by
  subst ho
  funext x
  have hx0 : (x 0).val < 1 := (x 0).isLt
  have hx1 : (x 1).val < 512 := (x 1).isLt
  have hc : c.val < 4 := c.isLt
  have e : (Rect.unit (s := S4x512) ![c.val, 0] S1x512.size inb).emb x = ix2 c.val (x 1).val := by
    funext k; refine Fin.cases ?_ (fun k => ?_) k
    · refine Fin.ext ?_
      show c.val + 1 * (x 0).val = c.val % 4
      omega
    · refine Fin.cases ?_ (fun k => k.elim0) k
      refine Fin.ext ?_
      show 0 + 1 * (x 1).val = (x 1).val % 512
      omega
  refine Eq.trans ?_ (congrArg (sAll m) e).symm
  have h1 : dev ((ix2 c.val (x 1).val : S4x512.Idx) 0).val = c := Fin.ext (by show c.val % 4 % 4 = c.val; omega)
  show _ = k0_pay62 (sAcc m (dev ((ix2 c.val (x 1).val : S4x512.Idx) 0).val) 8) (ix2 (a := 1) 0 ((ix2 c.val (x 1).val : S4x512.Idx) 1).val)
  rw [h1]
  congr 1
  funext k; refine Fin.cases ?_ (fun k => ?_) k
  · refine Fin.ext ?_
    show (x 0).val = 0 % 1
    omega
  · refine Fin.cases ?_ (fun k => k.elim0) k
    refine Fin.ext ?_
    show (x 1).val = (x 1).val % 512 % 512
    omega

section Steps
variable {α : Type} {Q : α → sProp (MT nD τ sig Unit (Elt F) ℕ UU ℕ)} {P : sProp (MT nD τ sig Unit (Elt F) ℕ UU ℕ)}
variable {kk : PUnit.{1} → Prog (TpuEff nD τ sig (Elt F) Λ₀ .tc) α}

/-- Take the first part out and put back what it then is. -/
theorem foc_hd {A B P : sProp (MT nD τ sig Unit (Elt F) ℕ UU ℕ)} : iprop(A ∗ P) ⊢ iprop(A ∗ (B -∗ iprop(B ∗ P))) := by
  iintro ⟨HA, HP⟩
  isplitl [HA]
  · iexact HA
  iintro HB
  isplitl [HB]
  · iexact HB
  iexact HP

/-- The own row is read and not used, -/
theorem st_load (c : Dev nD) (a r : ℕ) {off : Fin 2 → ℕ} {inb : ∀ a, off a + S1x512.size a ≤ S4x512.size a} (ho : off = ![c.val, 0])
    {kv : Vec F S1x512 .f32 → Prog (TpuEff nD τ sig (Elt F) Λ₀ .tc) α} {hl}
    (hQ : ∀ v, Hs m K c a r iprop(SRow c ∗ P) ⊢ WP c (kv v) Q) :
    Hs m K c a r iprop(SRow c ∗ P) ⊢ WP c (Prog.lift (.load stM (Rect.unit (s := S4x512) off S1x512.size inb).toLoadRect hl) >>= kv) Q := by
  unfold Hs at *
  unfold SRow at *
  iintro ⟨HR, HW, Hs, Hr, ⟨%f, H⟩, HP⟩
  iapply (wp_load_rect 𝒱₀ (c : Thread nD τ) none Set.univ (m := stM) (r := Rect.unit (s := S4x512) off S1x512.size inb) (q := fullShare) (f := f) (S := srow c.val) (set_row ho rfl).subset) $$ H
  iintro H
  iapply (show _ ⊢ WP c (kv _) Q from hQ _)
  isplitl [HR]
  · iexact HR
  isplitl [HW]
  · iexact HW
  isplitl [Hs]
  · iexact Hs
  isplitl [Hr]
  · iexact Hr
  isplitl [H]
  · iexists f; iexact H
  iexact HP

/-- the sums are written there, -/
theorem st_store (c : Dev nD) (a r : ℕ) {off : Fin 2 → ℕ} {inb : ∀ a, off a + S1x512.size a ≤ S4x512.size a} (ho : off = ![c.val, 0]) {v : Vec F S1x512 .f32} {hx} {hm}
    (hv : v = k0_pay62 (sAcc m c 8))
    (hQ : Hs m K c a r iprop(rowP m c c.val fullShare ∗ P) ⊢ WP c (kk ⟨⟩) Q) :
    Hs m K c a r iprop(SRow c ∗ P) ⊢ WP c (Prog.lift (.store stM (Rect.unit (s := S4x512) off S1x512.size inb) v Finset.univ hx hm) >>= kk) Q := by
  refine Hs_step m K c a r foc_hd (loc_step m K c a ?_) hQ
  unfold SRow
  iintro ⟨%f, H⟩ Hk
  iapply (wp_store 𝒱₀ (c : Thread nD τ) none Set.univ (m := stM) (r := Rect.unit (s := S4x512) off S1x512.size inb) (w := v) (Mk := Finset.univ) (f := f) (S := srow c.val) (by
    rw [View.setOn_univ]; exact (set_row ho rfl).subset)) $$ H
  iintro H
  iapply Hk
  have hset : (stM.view.slice (Rect.unit (s := S4x512) off S1x512.size inb)).set = srow c.val := set_row ho rfl
  have e : ((stL c ↦[srow c.val]{fullShare} (stM.view.slice (Rect.unit (s := S4x512) off S1x512.size inb)).write (Elt F) f v Finset.univ) : sProp 𝕄) = rowP m c c.val fullShare :=
    pointsTo_congr fun i hi => write_read_on (stM.view.slice (Rect.unit (s := S4x512) off S1x512.size inb)) f (sAll m) v (hv.trans (row_read m c ho)) i (by rw [hset]; exact hi)
  ihave H := (Entails.of_eq e) $$ H
  iexact H

/-- and the whole table is read once all rows are there. -/
theorem st_all (c : Dev nD) (a r : ℕ) (q : PosShare TreeShare) {off : Fin 2 → ℕ} {inb : ∀ a, off a + S4x512.size a ≤ S4x512.size a} (ho : off = ![0, 0])
    {kv : Vec F S4x512 .f32 → Prog (TpuEff nD τ sig (Elt F) Λ₀ .tc) α} {hl}
    (hQ : Hs m K c a r iprop((stL c ↦{q} sAll m) ∗ P) ⊢ WP c (kv (sAll m)) Q) :
    Hs m K c a r iprop((stL c ↦{q} sAll m) ∗ P) ⊢ WP c (Prog.lift (.load stM (Rect.unit (s := S4x512) off S4x512.size inb).toLoadRect hl) >>= kv) Q := by
  refine Hs_step m K c a r foc_hd (loc_step m K c a ?_) hQ
  subst ho
  iintro H Hk
  iapply (wp_load 𝒱₀ (c : Thread nD τ) none Set.univ (m := stM) (q := q) (f := sAll m) (S := Finset.univ) (Finset.subset_univ _)) $$ H
  iintro H
  rw [show stM.view.readAt (Elt F) (Rect.unit (s := S4x512) ![0, 0] S4x512.size inb).toLoadRect (sAll m) = sAll m from
    Memref.readAt_unit_zero (Elt F) cc0_scratch2 (by funext a; revert a; decide) inb (sAll m)]
  iapply Hk
  iexact H
end Steps

/-- The own row is shared out. -/
theorem row_split (c : Dev nD) (P : sProp 𝕄) :
    iprop(rowP m c c.val fullShare ∗ P) ⊢ iprop(pS m c false 0 4 ∗ pS m c true 0 4 ∗ rowP m c c.val fullShare.left ∗ P) := by
  have hS : ∀ b, pS m c b 0 4 = rowP m c c.val (qS b 0) := by
    intro b
    have he : ex c b 0 = true := by generalize c = d; revert b d; decide +kernel
    have hs : slot c b 0 = c.val := by clear he; generalize c = d; revert b d; decide +kernel
    unfold pS pt rowP
    rw [if_pos he, if_pos rfl, hs]
  rw [hS, hS]
  iintro ⟨H, HP⟩
  ihave ⟨HL, HR⟩ := (pointsTo_share full_split).1 $$ H
  ihave ⟨HRL, HRR⟩ := (pointsTo_share right_split).1 $$ HR
  isplitl [HRL]
  · iexact HRL
  isplitl [HRR]
  · iexact HRR
  isplitl [HL]
  · iexact HL
  iexact HP

/-- The row from `h` devices away in direction `b`, if there is such a device. -/
def rowX (c : Dev nD) (b : Bool) (h : ℕ) (q : PosShare TreeShare) : sProp 𝕄 := if ex c b h then rowP m c (slot c b h) q else iprop(emp)

/-- The four rows make the table. -/
theorem rows4 (c : Dev nD) (q : PosShare TreeShare) : iprop(rowP m c 0 q ∗ rowP m c 1 q ∗ rowP m c 2 q ∗ rowP m c 3 q) ⊢ (stL c ↦{q} sAll m) := by
  have hd : ∀ {i j : ℕ}, i ≠ j → Disjoint (srow i) (srow j) := fun {i j} hij => Finset.disjoint_left.mpr fun x h1 h2 =>
    hij ((Finset.mem_filter.mp h1).2.symm.trans (Finset.mem_filter.mp h2).2)
  have hu : (Finset.univ : Finset S4x512.Idx) = srow 0 ∪ (srow 1 ∪ (srow 2 ∪ srow 3)) := by
    ext x
    have hx : (x 0).val < 4 := (x 0).isLt
    simp only [srow, Finset.mem_union, Finset.mem_filter, Finset.mem_univ, true_and, true_iff]
    omega
  show _ ⊢ (stL c ↦[Finset.univ]{q} sAll m)
  rw [hu]
  iintro ⟨H0, H1, H2, H3⟩
  iapply (pointsTo_union (ℓ := stL c) (Finset.disjoint_union_right.mpr ⟨hd (by decide), Finset.disjoint_union_right.mpr ⟨hd (by decide), hd (by decide)⟩⟩)).2
  isplitl [H0]
  · iexact H0
  iapply (pointsTo_union (ℓ := stL c) (Finset.disjoint_union_right.mpr ⟨hd (by decide), hd (by decide)⟩)).2
  isplitl [H1]
  · iexact H1
  iapply (pointsTo_union (ℓ := stL c) (hd (by decide))).2
  isplitl [H2]
  · iexact H2
  iexact H3

/-- The own row and the rows that came are the four rows. -/
theorem rows_sort (c : Dev nD) (q : PosShare TreeShare) :
    iprop(rowP m c c.val q ∗ rowX m c false 1 q ∗ rowX m c true 1 q ∗ rowX m c false 2 q ∗ rowX m c true 2 q ∗ rowX m c false 3 q ∗ rowX m c true 3 q) ⊢ iprop(rowP m c 0 q ∗ rowP m c 1 q ∗ rowP m c 2 q ∗ rowP m c 3 q) := by
  have hY : ∀ b h, ex c b h = true → rowX m c b h q = rowP m c (slot c b h) q := fun b h e => if_pos e
  match c with
  | ⟨0, _⟩ =>
    rw [hY true 1 (by rfl), hY true 2 (by rfl), hY true 3 (by rfl)]
    iintro ⟨H0, -, H1, -, H2, -, H3⟩
    isplitl [H0]
    · iexact H0
    isplitl [H1]
    · iexact H1
    isplitl [H2]
    · iexact H2
    iexact H3
  | ⟨1, _⟩ =>
    rw [hY false 1 (by rfl), hY true 1 (by rfl), hY true 2 (by rfl)]
    iintro ⟨H1, H0, H2, -, H3, -⟩
    isplitl [H0]
    · iexact H0
    isplitl [H1]
    · iexact H1
    isplitl [H2]
    · iexact H2
    iexact H3
  | ⟨2, _⟩ =>
    rw [hY false 1 (by rfl), hY true 1 (by rfl), hY false 2 (by rfl)]
    iintro ⟨H2, H1, H3, H0, -⟩
    isplitl [H0]
    · iexact H0
    isplitl [H1]
    · iexact H1
    isplitl [H2]
    · iexact H2
    iexact H3
  | ⟨3, _⟩ =>
    rw [hY false 1 (by rfl), hY false 2 (by rfl), hY false 3 (by rfl)]
    iintro ⟨H3, H2, -, H1, -, H0, -⟩
    isplitl [H0]
    · iexact H0
    isplitl [H1]
    · iexact H1
    isplitl [H2]
    · iexact H2
    iexact H3

/-- The own row and the rows that came make the table. -/
theorem rows_all (c : Dev nD) (q : PosShare TreeShare) :
    iprop(rowP m c c.val q ∗ rowX m c false 1 q ∗ rowX m c true 1 q ∗ rowX m c false 2 q ∗ rowX m c true 2 q ∗ rowX m c false 3 q ∗ rowX m c true 3 q) ⊢ (stL c ↦{q} sAll m) :=
  BI.Entails.trans (rows_sort m c q) (rows4 m c q)

/-- The share of a row of the statistics that stays, as a row. -/
theorem pK_row (c : Dev nD) (b : Bool) (h : ℕ) : pK m c b h 4 = rowX m c b h fullShare.left := by
  unfold pK rowX pt; rw [if_pos rfl]
/-- The share of a row that a later hop reads through, as a row. -/
theorem pS_row (c : Dev nD) (b : Bool) (h : ℕ) : pS m c b (h + 1) 4 = rowX m c b (h + 1) fullShare.right := by
  unfold pS rowX pt qS; rw [if_pos rfl, if_neg (Nat.succ_ne_zero h)]

/-- What stays aside once the product is done. -/
def Keep (c : Dev nD) : sProp 𝕄 :=
  iprop((WRdy m c 0 ∗ WRdy m c 1) ∗ Z0 c (eS 0) ∗ ERdy (F := F) c 1 ∗ (xL c ↦{fullShare} xstg m c) ∗ semVal (barCell c) 0)
/-- A share of tile `t` of the device's own exponentials. -/
abbrev gO (c : Dev nD) (t : ℕ) : sProp 𝕄 := gP m c (8192 * c.val + 1024 * t) 1024 fullShare.left
/-- The own tiles still to be finished, all of them. -/
def OW (c : Dev nD) (P : sProp 𝕄) : sProp 𝕄 :=
  iprop(TO m c 0 ∗ gO m c 0 ∗ gO m c 1 ∗ gO m c 2 ∗ gO m c 3 ∗ gO m c 4 ∗ gO m c 5 ∗ gO m c 6 ∗ gO m c 7 ∗ P)

/-- The product is done: its buffers are put aside. -/
theorem gs_done (c : Dev nD) (P : sProp 𝕄) :
    GS m c ![WRdy m c 0, WRdy m c 1] ![ERdy c 0, ERdy c 1] iprop(emp) iprop(emp)
        iprop(gO m c 6 ∗ gO m c 7 ∗ gO m c 4 ∗ gO m c 5 ∗ gO m c 2 ∗ gO m c 3 ∗ gO m c 0 ∗ gO m c 1 ∗ semVal (barCell c) 0 ∗ SRow c ∗ (Z0 c lS ∗ OutP m c (Do c 0)) ∗ P)
      ⊢ iprop(SRow c ∗ OW m c iprop(Keep m c ∗ P)) := by
  unfold GS OW Keep TO
  have e0 : (![WRdy m c 0, WRdy m c 1] : Fin 2 → sProp 𝕄) 0 = WRdy m c 0 := rfl
  have e1 : (![WRdy m c 0, WRdy m c 1] : Fin 2 → sProp 𝕄) 1 = WRdy m c 1 := rfl
  have e2 : (![ERdy c 0, ERdy c 1] : Fin 2 → sProp 𝕄) 0 = iprop(EBany c 0 ∗ Z0 c (eS 0)) := rfl
  have e3 : (![ERdy c 0, ERdy c 1] : Fin 2 → sProp 𝕄) 1 = ERdy c 1 := rfl
  rw [e0, e1, e2, e3]
  iintro ⟨Hw, ⟨⟨HE, HZ⟩, He⟩, Hx, -, -, H6, H7, H4, H5, H2, H3, H0, H1, Hb, HS, ⟨HL, HO⟩, HP⟩
  isplitl [HS]
  · iexact HS
  isplitl [HE HL HO]
  · isplitl [HE HL]
    · isplitl [HE]
      · iexact HE
      iexact HL
    iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitr [HP]
  · isplitl [Hw]
    · iexact Hw
    isplitl [HZ]
    · iexact HZ
    isplitl [He]
    · iexact He
    isplitl [Hx]
    · iexact Hx
    iexact Hb
  iexact HP

/-- All rows have come: the table is read through the share that stayed. -/
theorem st_collect (c : Dev nD) (P : sProp 𝕄) :
    iprop(pS m c true 3 4 ∗ pK m c true 3 4 ∗ pS m c false 3 4 ∗ pK m c false 3 4 ∗ pK m c true 2 4 ∗ pK m c false 2 4 ∗ pK m c true 1 4 ∗ pK m c false 1 4
        ∗ rowP m c c.val fullShare.left ∗ OW m c P)
      ⊢ iprop((stL c ↦{fullShare.left} sAll m) ∗ OW m c P ∗ pS m c true 3 4 ∗ pS m c false 3 4) := by
  simp only [pK_row]
  iintro ⟨Hs, H1, Hs', H2, H3, H4, H5, H6, H7, HP⟩
  ihave H := (rows_all m c fullShare.left) $$ [H1 H2 H3 H4 H5 H6 H7]
  · isplitl [H7]
    · iexact H7
    isplitl [H6]
    · iexact H6
    isplitl [H5]
    · iexact H5
    isplitl [H4]
    · iexact H4
    isplitl [H3]
    · iexact H3
    isplitl [H2]
    · iexact H2
    iexact H1
  isplitl [H]
  · iexact H
  isplitl [HP]
  · iexact HP
  isplitl [Hs]
  · iexact Hs
  iexact Hs'

/-- What is kept to the end. -/
def PE (c : Dev nD) (P : sProp 𝕄) : sProp 𝕄 := iprop((stL c ↦{fullShare.left} sAll m) ∗ (pS m c true 3 4 ∗ pS m c false 3 4) ∗ P)

/-- The statistics once they are summed: what stays and what is still being read. -/
theorem st_after (c : Dev nD) (P : sProp 𝕄) : iprop((stL c ↦{fullShare.left} sAll m) ∗ OW m c P ∗ pS m c true 3 4 ∗ pS m c false 3 4) ⊢ OW m c (PE m c P) := by
  unfold OW PE
  iintro ⟨H, ⟨HT, H0, H1, H2, H3, H4, H5, H6, H7, HP⟩, Hs⟩
  isplitl [HT]
  · iexact HT
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H]
  · iexact H
  isplitl [Hs]
  · iexact Hs
  iexact HP

end Cert.KernelProof

end
-- ==== Proof.StatP.lean ====
/-
The exchange of the sums: parts 44 and 45 of the program.
-/
module

public import proofs.«01_k».proof.Proof.Stat
public import proofs.«01_k».proof.Proof.GemmA

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {v2 : BitVec 32} {P : sProp (MT nD τ sig Unit (Elt F) ℕ UU ℕ)}

set_option maxHeartbeats 4000000 in
/-- Part 44 of the program. -/
theorem part44 {Q : (Σ' (v337 : BitVec 1), BitVec 1) → sProp (MT nD τ sig Unit (Elt F) ℕ UU ℕ)}
    (hQ : ∀ v, Hs m K c 10 1 iprop(pS m c false 1 4 ∗ pK m c false 1 4 ∗ rowP m c c.val fullShare.left ∗ OW m c iprop(Keep m c ∗ P)) ⊢ Q v) :
    Hs m K c 6 0 (GS m c ![WRdy m c 0, WRdy m c 1] ![ERdy c 0, EFl m c 1 7] iprop(emp) iprop(gP m c (8192 * c.val + 1024 * 6) 1024 fullShare ∗ iprop(emp)) iprop(gP m c (8192 * c.val + 1024 * 4) 1024 fullShare.left ∗ gP m c (8192 * c.val + 1024 * 5) 1024 fullShare.left ∗ gP m c (8192 * c.val + 1024 * 2) 1024 fullShare.left ∗ gP m c (8192 * c.val + 1024 * 3) 1024 fullShare.left ∗ gP m c (8192 * c.val + 1024 * 0) 1024 fullShare.left ∗ gP m c (8192 * c.val + 1024 * 1) 1024 fullShare.left ∗ semVal (barCell c) 0 ∗ SRow c ∗ (Z0 c lS ∗ OutP m c (Do c 0)) ∗ P))
      ⊢ WP c (k0_part44 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (sAcc m c 8) 8192#32) Q := by
  rw [k0_part44_eq_skeleton]
  unfold k0_part44_skel
  refine gm_ewait m K c 6 0 1 7 (by rfl) (by rfl) ?_
  refine BI.Entails.trans (Hs_mono m K c 6 0 (gs_sub m c 3 3 6 7 (by rfl) (by rfl) (by rfl))) ?_
  refine send_Hs m K c (false, 0, 3) _ _ _ (by rfl) (blk_send m K c (false, 0, 3) (by decide) (by rfl) (by rfl) (by generalize c = d; revert d; decide +kernel)) ?_
  refine send_Hs m K c (true, 0, 3) _ _ _ (by rfl) (blk_send m K c (true, 0, 3) (by decide) (by rfl) (by rfl) (by generalize c = d; revert d; decide +kernel)) ?_
  refine BI.Entails.trans (Hs_mono m K c 8 0 (gs_done m c P)) ?_
  refine st_load m K c 8 0 (by generalize c = d; revert d; decide +kernel) (fun _ => ?_)
  refine st_store m K c 8 0 (by generalize c = d; revert d; decide +kernel) (by rfl) ?_
  refine BI.Entails.trans (Hs_mono m K c 8 0 (row_split m c _)) ?_
  refine send_Hs m K c (false, 0, 4) _ _ _ (by rfl) (blk_sendS m K c (false, 0, 4) (by rfl) (by rfl) (by rfl) (by generalize c = d; revert d; decide +kernel)) ?_
  refine send_Hs m K c (true, 0, 4) _ _ _ (by rfl) (blk_sendS m K c (true, 0, 4) (by rfl) (by rfl) (by rfl) (by generalize c = d; revert d; decide +kernel)) ?_
  refine go (blk_recvS m K c (false, 0, 4) _ _ _ (by rfl) (by decide +kernel) (by rfl) (by rfl) (by generalize c = d; revert d; decide +kernel) ?_) rfl
  exact BI.Entails.trans (hQ _) (WP_pure c _ Q)

set_option maxHeartbeats 4000000 in
/-- Part 45 of the program. -/
theorem part45 {v v' : BitVec 1} {Q : (Σ' (v370 : BitVec 32), BitVec 32) → sProp (MT nD τ sig Unit (Elt F) ℕ UU ℕ)}
    (hQ : ∀ v, Hs m K c 14 5 iprop(pS m c false 3 4 ∗ pK m c false 3 4 ∗ pK m c true 2 4 ∗ pK m c false 2 4 ∗ pK m c true 1 4 ∗ pK m c false 1 4 ∗ rowP m c c.val fullShare.left ∗ OW m c iprop(Keep m c ∗ P)) ⊢ Q v) :
    Hs m K c 10 1 iprop(pS m c false 1 4 ∗ pK m c false 1 4 ∗ rowP m c c.val fullShare.left ∗ OW m c iprop(Keep m c ∗ P))
      ⊢ WP c (k0_part45 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 v v') Q := by
  rw [k0_part45_eq_skeleton]
  unfold k0_part45_skel
  refine send_Hs m K c (false, 1, 4) _ _ _ (by rfl) (blk_sendS m K c (false, 1, 4) (by rfl) (by rfl) (by rfl) (by generalize c = d; revert d; decide +kernel)) ?_
  refine go (blk_recvS m K c (true, 0, 4) _ _ _ (by rfl) (by decide +kernel) (by rfl) (by rfl) (by generalize c = d; revert d; decide +kernel) ?_) rfl
  refine send_Hs m K c (true, 1, 4) _ _ _ (by rfl) (blk_sendS m K c (true, 1, 4) (by rfl) (by rfl) (by rfl) (by generalize c = d; revert d; decide +kernel)) ?_
  refine go (blk_recvS m K c (false, 1, 4) _ _ _ (by rfl) (by decide +kernel) (by rfl) (by rfl) (by generalize c = d; revert d; decide +kernel) ?_) rfl
  refine send_Hs m K c (false, 2, 4) _ _ _ (by rfl) (blk_sendS m K c (false, 2, 4) (by rfl) (by rfl) (by rfl) (by generalize c = d; revert d; decide +kernel)) ?_
  refine go (blk_recvS m K c (true, 1, 4) _ _ _ (by rfl) (by decide +kernel) (by rfl) (by rfl) (by generalize c = d; revert d; decide +kernel) ?_) rfl
  refine send_Hs m K c (true, 2, 4) _ _ _ (by rfl) (blk_sendS m K c (true, 2, 4) (by rfl) (by rfl) (by rfl) (by generalize c = d; revert d; decide +kernel)) ?_
  refine go (blk_recvS m K c (false, 2, 4) _ _ _ (by rfl) (by decide +kernel) (by rfl) (by rfl) (by generalize c = d; revert d; decide +kernel) ?_) rfl
  exact BI.Entails.trans (hQ _) (WP_pure c _ Q)

end Cert.KernelProof

end
-- ==== Proof.OwnP.lean ====
/-
The device's own tiles: parts 46 to 52 of the program.
-/
module

public import proofs.«01_k».proof.Proof.Stat

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A device's own tile lies within the columns. -/
theorem own_lo (c : Dev nD) (t : ℕ) (ht : t < 8) : 8192 * c.val + 1024 * t + 1024 ≤ 32768 := by
  have h : c.val < 4 := c.isLt
  omega

variable (K : Dev nD × CI → ℕ)
variable (c : Dev nD) {v2 : BitVec 32} {P : sProp (MT nD τ sig Unit (Elt F) ℕ UU ℕ)}

set_option maxHeartbeats 4000000 in
/-- Part 46 of the program. -/
theorem part46 {v v' : BitVec 32} {Q : FVec F S512x1 .f32 → sProp (MT nD τ sig Unit (Elt F) ℕ UU ℕ)}
    (hQ : Hs m K c 14 6 iprop(Fl c lS NE iprop(EBany c 0 ∗ OutP m c (fun j => Do c 0 j ∨ (8192 * c.val + 1024 * 0 ≤ j ∧ j < 8192 * c.val + 1024 * 0 + 1024))) ∗ gO m c 1 ∗ gO m c 2 ∗ gO m c 3 ∗ gO m c 4 ∗ gO m c 5 ∗ gO m c 6 ∗ gO m c 7 ∗ PE m c iprop(Keep m c ∗ P)) ⊢ Q (rV m)) :
    Hs m K c 14 5 iprop(pS m c false 3 4 ∗ pK m c false 3 4 ∗ pK m c true 2 4 ∗ pK m c false 2 4 ∗ pK m c true 1 4 ∗ pK m c false 1 4 ∗ rowP m c c.val fullShare.left ∗ OW m c iprop(Keep m c ∗ P))
      ⊢ WP c (k0_part46 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 v v') Q := by
  rw [k0_part46_eq_skeleton]
  unfold k0_part46_skel
  refine go (blk_recvS m K c (true, 2, 4) _ _ _ (by rfl) (by decide +kernel) (by rfl) (by rfl) (by generalize c = d; revert d; decide +kernel) ?_) rfl
  refine BI.Entails.trans (Hs_mono m K c 14 6 (st_collect m c _)) ?_
  refine st_all m K c 14 6 fullShare.left (by rfl) ?_
  refine BI.Entails.trans (Hs_mono m K c 14 6 (st_after m c _)) ?_
  unfold OW
  refine own_in m K c 14 6 0 (8192 * c.val + 1024 * 0) _ (by rfl) (by generalize c = d; revert d; decide +kernel) ?_
  refine own_win m K c 14 6 _ _ (by rfl) ?_
  refine own_load m K c 14 6 _ _ (by rfl) ?_
  refine own_load m K c 14 6 _ _ (by rfl) ?_
  refine own_store m K c 14 6 (8192 * c.val + 1024 * 0) _ _ (by rfl) (by rfl) ?_
  refine own_out m K c 14 6 0 (8192 * c.val + 1024 * 0) (own_lo c 0 (by decide)) _ (by rfl) (by generalize c = d; revert d; decide +kernel) ?_
  exact BI.Entails.trans hQ (WP_pure c _ Q)

set_option maxHeartbeats 4000000 in
/-- Part 47 of the program. -/
theorem part47 {Q : (Σ' (v422 : BitVec 32), BitVec 32) → sProp (MT nD τ sig Unit (Elt F) ℕ UU ℕ)}
    (hQ : ∀ v, Hs m K c 14 6 iprop(TO m c 2 ∗ gO m c 2 ∗ gO m c 3 ∗ gO m c 4 ∗ gO m c 5 ∗ gO m c 6 ∗ gO m c 7 ∗ PE m c iprop(Keep m c ∗ P)) ⊢ Q v) :
    Hs m K c 14 6 iprop(Fl c lS NE iprop(EBany c 0 ∗ OutP m c (fun j => Do c 0 j ∨ (8192 * c.val + 1024 * 0 ≤ j ∧ j < 8192 * c.val + 1024 * 0 + 1024))) ∗ gO m c 1 ∗ gO m c 2 ∗ gO m c 3 ∗ gO m c 4 ∗ gO m c 5 ∗ gO m c 6 ∗ gO m c 7 ∗ PE m c iprop(Keep m c ∗ P))
      ⊢ WP c (k0_part47 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m)) Q := by
  rw [k0_part47_eq_skeleton]
  unfold k0_part47_skel
  refine own_wout m K c 14 6 0 _ (by rfl) ?_
  refine own_in m K c 14 6 1 (8192 * c.val + 1024 * 1) _ (by rfl) (by generalize c = d; revert d; decide +kernel) ?_
  refine own_win m K c 14 6 _ _ (by rfl) ?_
  refine own_load m K c 14 6 _ _ (by rfl) ?_
  refine own_load m K c 14 6 _ _ (by rfl) ?_
  refine own_store m K c 14 6 (8192 * c.val + 1024 * 1) _ _ (by rfl) (by rfl) ?_
  refine own_out m K c 14 6 1 (8192 * c.val + 1024 * 1) (own_lo c 1 (by decide)) _ (by rfl) (by generalize c = d; revert d; decide +kernel) ?_
  refine own_wout m K c 14 6 1 _ (by rfl) ?_
  exact BI.Entails.trans (hQ _) (WP_pure c _ Q)

set_option maxHeartbeats 4000000 in
/-- Part 48 of the program. -/
theorem part48 {v v' : BitVec 32} {Q : PUnit.{1} → sProp (MT nD τ sig Unit (Elt F) ℕ UU ℕ)}
    (hQ : ∀ v, Hs m K c 14 6 iprop(TO m c 3 ∗ gO m c 3 ∗ gO m c 4 ∗ gO m c 5 ∗ gO m c 6 ∗ gO m c 7 ∗ PE m c iprop(Keep m c ∗ P)) ⊢ Q v) :
    Hs m K c 14 6 iprop(TO m c 2 ∗ gO m c 2 ∗ gO m c 3 ∗ gO m c 4 ∗ gO m c 5 ∗ gO m c 6 ∗ gO m c 7 ∗ PE m c iprop(Keep m c ∗ P))
      ⊢ WP c (k0_part48 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m) v v') Q := by
  rw [k0_part48_eq_skeleton]
  unfold k0_part48_skel
  refine own_in m K c 14 6 2 (8192 * c.val + 1024 * 2) _ (by rfl) (by generalize c = d; revert d; decide +kernel) ?_
  refine own_win m K c 14 6 _ _ (by rfl) ?_
  refine own_load m K c 14 6 _ _ (by rfl) ?_
  refine own_load m K c 14 6 _ _ (by rfl) ?_
  refine own_store m K c 14 6 (8192 * c.val + 1024 * 2) _ _ (by rfl) (by rfl) ?_
  refine own_out m K c 14 6 2 (8192 * c.val + 1024 * 2) (own_lo c 2 (by decide)) _ (by rfl) (by generalize c = d; revert d; decide +kernel) ?_
  refine own_wout m K c 14 6 2 _ (by rfl) ?_
  exact BI.Entails.trans (hQ _) (WP_pure c _ Q)

set_option maxHeartbeats 4000000 in
/-- Part 49 of the program. -/
theorem part49 {Q : PUnit.{1} → sProp (MT nD τ sig Unit (Elt F) ℕ UU ℕ)}
    (hQ : ∀ v, Hs m K c 14 6 iprop(Fl c lS NE iprop(EB c 0 (shapeCast S1x512x1024 (gBlk m (8192 * c.val + 1024 * 4)) shapeCasts_S512x1024_S1x512x1024)) ∗ OutP m c (Do c 4) ∗ gO m c 5 ∗ gO m c 6 ∗ gO m c 7 ∗ PE m c iprop(Keep m c ∗ P)) ⊢ Q v) :
    Hs m K c 14 6 iprop(TO m c 3 ∗ gO m c 3 ∗ gO m c 4 ∗ gO m c 5 ∗ gO m c 6 ∗ gO m c 7 ∗ PE m c iprop(Keep m c ∗ P))
      ⊢ WP c (k0_part49 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m)) Q := by
  rw [k0_part49_eq_skeleton]
  unfold k0_part49_skel
  refine own_in m K c 14 6 3 (8192 * c.val + 1024 * 3) _ (by rfl) (by generalize c = d; revert d; decide +kernel) ?_
  refine own_win m K c 14 6 _ _ (by rfl) ?_
  refine own_load m K c 14 6 _ _ (by rfl) ?_
  refine own_load m K c 14 6 _ _ (by rfl) ?_
  refine own_store m K c 14 6 (8192 * c.val + 1024 * 3) _ _ (by rfl) (by rfl) ?_
  refine own_out m K c 14 6 3 (8192 * c.val + 1024 * 3) (own_lo c 3 (by decide)) _ (by rfl) (by generalize c = d; revert d; decide +kernel) ?_
  refine own_wout m K c 14 6 3 _ (by rfl) ?_
  refine own_in m K c 14 6 4 (8192 * c.val + 1024 * 4) _ (by rfl) (by generalize c = d; revert d; decide +kernel) ?_
  exact BI.Entails.trans (hQ _) (WP_pure c _ Q)

set_option maxHeartbeats 4000000 in
/-- Part 50 of the program. -/
theorem part50 {Q : FVec F S512x1024 .f32 → sProp (MT nD τ sig Unit (Elt F) ℕ UU ℕ)}
    (hQ : Hs m K c 14 6 iprop((EB c 0 (shapeCast S1x512x1024 (gBlk m (8192 * c.val + 1024 * 5)) shapeCasts_S512x1024_S1x512x1024) ∗ Z0 c lS) ∗ OutP m c (Do c 5) ∗ gO m c 6 ∗ gO m c 7 ∗ PE m c iprop(Keep m c ∗ P)) ⊢ Q (k0_pay69 (rV m) (shapeCast S1x512x1024 (gBlk m (8192 * c.val + 1024 * 5)) shapeCasts_S512x1024_S1x512x1024))) :
    Hs m K c 14 6 iprop(Fl c lS NE iprop(EB c 0 (shapeCast S1x512x1024 (gBlk m (8192 * c.val + 1024 * 4)) shapeCasts_S512x1024_S1x512x1024)) ∗ OutP m c (Do c 4) ∗ gO m c 5 ∗ gO m c 6 ∗ gO m c 7 ∗ PE m c iprop(Keep m c ∗ P))
      ⊢ WP c (k0_part50 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m)) Q := by
  rw [k0_part50_eq_skeleton]
  unfold k0_part50_skel
  refine own_win m K c 14 6 _ _ (by rfl) ?_
  refine own_load m K c 14 6 _ _ (by rfl) ?_
  refine own_load m K c 14 6 _ _ (by rfl) ?_
  refine own_store m K c 14 6 (8192 * c.val + 1024 * 4) _ _ (by rfl) (by rfl) ?_
  refine own_out m K c 14 6 4 (8192 * c.val + 1024 * 4) (own_lo c 4 (by decide)) _ (by rfl) (by generalize c = d; revert d; decide +kernel) ?_
  refine own_wout m K c 14 6 4 _ (by rfl) ?_
  refine own_in m K c 14 6 5 (8192 * c.val + 1024 * 5) _ (by rfl) (by generalize c = d; revert d; decide +kernel) ?_
  refine own_win m K c 14 6 _ _ (by rfl) ?_
  refine own_load m K c 14 6 _ _ (by rfl) ?_
  exact BI.Entails.trans hQ (WP_pure c _ Q)

set_option maxHeartbeats 4000000 in
/-- Part 51 of the program. -/
theorem part51 {Q : PUnit.{1} → sProp (MT nD τ sig Unit (Elt F) ℕ UU ℕ)}
    (hQ : ∀ v, Hs m K c 14 6 iprop((EB c 0 (scT m (8192 * c.val + 1024 * 6)) ∗ Z0 c lS) ∗ OutP m c (Do c 6) ∗ gO m c 7 ∗ PE m c iprop(Keep m c ∗ P)) ⊢ Q v) :
    Hs m K c 14 6 iprop((EB c 0 (shapeCast S1x512x1024 (gBlk m (8192 * c.val + 1024 * 5)) shapeCasts_S512x1024_S1x512x1024) ∗ Z0 c lS) ∗ OutP m c (Do c 5) ∗ gO m c 6 ∗ gO m c 7 ∗ PE m c iprop(Keep m c ∗ P))
      ⊢ WP c (k0_part51 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m) (k0_pay69 (rV m) (shapeCast S1x512x1024 (gBlk m (8192 * c.val + 1024 * 5)) shapeCasts_S512x1024_S1x512x1024))) Q := by
  rw [k0_part51_eq_skeleton]
  unfold k0_part51_skel
  refine own_load m K c 14 6 _ _ (by rfl) ?_
  refine own_store m K c 14 6 (8192 * c.val + 1024 * 5) _ _ (by rfl) (by rfl) ?_
  refine own_out m K c 14 6 5 (8192 * c.val + 1024 * 5) (own_lo c 5 (by decide)) _ (by rfl) (by generalize c = d; revert d; decide +kernel) ?_
  refine own_wout m K c 14 6 5 _ (by rfl) ?_
  refine own_in m K c 14 6 6 (8192 * c.val + 1024 * 6) _ (by rfl) (by generalize c = d; revert d; decide +kernel) ?_
  refine own_win m K c 14 6 _ _ (by rfl) ?_
  refine own_load m K c 14 6 _ _ (by rfl) ?_
  refine own_load m K c 14 6 _ _ (by rfl) ?_
  refine own_store m K c 14 6 (8192 * c.val + 1024 * 6) _ _ (by rfl) (by rfl) ?_
  exact BI.Entails.trans (hQ _) (WP_pure c _ Q)

set_option maxHeartbeats 4000000 in
/-- Part 52 of the program. -/
theorem part52 {Q : PUnit.{1} → sProp (MT nD τ sig Unit (Elt F) ℕ UU ℕ)}
    (hQ : ∀ v, Hs m K c 14 6 iprop(Fl c lS NE iprop(EBany c 0 ∗ OutP m c (fun j => Do c 7 j ∨ (8192 * c.val + 1024 * 7 ≤ j ∧ j < 8192 * c.val + 1024 * 7 + 1024))) ∗ PE m c iprop(Keep m c ∗ P)) ⊢ Q v) :
    Hs m K c 14 6 iprop((EB c 0 (scT m (8192 * c.val + 1024 * 6)) ∗ Z0 c lS) ∗ OutP m c (Do c 6) ∗ gO m c 7 ∗ PE m c iprop(Keep m c ∗ P))
      ⊢ WP c (k0_part52 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m)) Q := by
  rw [k0_part52_eq_skeleton]
  unfold k0_part52_skel
  refine own_out m K c 14 6 6 (8192 * c.val + 1024 * 6) (own_lo c 6 (by decide)) _ (by rfl) (by generalize c = d; revert d; decide +kernel) ?_
  refine own_wout m K c 14 6 6 _ (by rfl) ?_
  refine own_in m K c 14 6 7 (8192 * c.val + 1024 * 7) _ (by rfl) (by generalize c = d; revert d; decide +kernel) ?_
  refine own_win m K c 14 6 _ _ (by rfl) ?_
  refine own_load m K c 14 6 _ _ (by rfl) ?_
  refine own_load m K c 14 6 _ _ (by rfl) ?_
  refine own_store m K c 14 6 (8192 * c.val + 1024 * 7) _ _ (by rfl) (by rfl) ?_
  refine own_out m K c 14 6 7 (8192 * c.val + 1024 * 7) (own_lo c 7 (by decide)) _ (by rfl) (by generalize c = d; revert d; decide +kernel) ?_
  exact BI.Entails.trans (hQ _) (WP_pure c _ Q)

end Cert.KernelProof

end
-- ==== Proof.HopsA.lean ====
/-
The first pieces passed on: parts 53 and 54 of the program.
-/
module

public import proofs.«01_k».proof.Proof.Own

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {v2 : BitVec 32} {P : sProp (MT nD τ sig Unit (Elt F) ℕ UU ℕ)}

set_option maxHeartbeats 4000000 in
/-- Part 53 of the program. -/
theorem part53 {Q : BitVec 1 → sProp (MT nD τ sig Unit (Elt F) ℕ UU ℕ)}
    (hQ : ∀ v, Hs m K c 16 9 iprop(pS m c false 1 1 ∗ pK m c false 1 1 ∗ TT m c 2 ∗ P) ⊢ Q v) :
    Hs m K c 14 6 iprop(Fl c lS NE iprop(EBany c 0 ∗ OutP m c (fun j => Do c 7 j ∨ (8192 * c.val + 1024 * 7 ≤ j ∧ j < 8192 * c.val + 1024 * 7 + 1024))) ∗ P)
      ⊢ WP c (k0_part53 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m)) Q := by
  rw [k0_part53_eq_skeleton]
  unfold k0_part53_skel
  refine own_wout m K c 14 6 7 _ (by rfl) (BI.Entails.trans (Hs_mono m K c 14 6 (BI.Laws.sep_mono (TO_TT m c) (BI.Entails.refl _))) ?_)
  refine go (blk_recvD m K c (false, 0, 0) _ _ _ (by rfl) (by decide +kernel) (by decide) (by rfl) (by generalize c = d; revert d; decide +kernel) ?_) rfl
  refine send_Hs m K c (false, 1, 0) _ _ _ (by rfl) (blk_send m K c (false, 1, 0) (by decide) (by rfl) (by rfl) (by generalize c = d; revert d; decide +kernel)) ?_
  refine go (blk_scale m K c false 0 0 0 (by rfl) _ _ _ _ (by rfl) (fun _ => rfl) (by rfl) (by rfl) (by rfl) (by generalize c = d; revert d; decide +kernel) ?_) rfl
  refine go (blk_recvD m K c (true, 0, 0) _ _ _ (by rfl) (by decide +kernel) (by decide) (by rfl) (by generalize c = d; revert d; decide +kernel) ?_) rfl
  refine send_Hs m K c (true, 1, 0) _ _ _ (by rfl) (blk_send m K c (true, 1, 0) (by decide) (by rfl) (by rfl) (by generalize c = d; revert d; decide +kernel)) ?_
  refine go (blk_scale m K c true 0 0 0 (by rfl) _ _ _ _ (by rfl) (fun _ => rfl) (by rfl) (by rfl) (by rfl) (by generalize c = d; revert d; decide +kernel) ?_) rfl
  refine go (blk_recvD m K c (false, 0, 1) _ _ _ (by rfl) (by decide +kernel) (by decide) (by rfl) (by generalize c = d; revert d; decide +kernel) ?_) rfl
  exact BI.Entails.trans (hQ _) (WP_pure c _ Q)

set_option maxHeartbeats 4000000 in
/-- Part 54 of the program. -/
theorem part54 {v0 : BitVec 1} {Q : BitVec 1 → sProp (MT nD τ sig Unit (Elt F) ℕ UU ℕ)}
    (hQ : ∀ v, Hs m K c 19 12 iprop(pS m c true 1 2 ∗ pK m c true 1 2 ∗ TT m c 5 ∗ P) ⊢ Q v) :
    Hs m K c 16 9 iprop(pS m c false 1 1 ∗ pK m c false 1 1 ∗ TT m c 2 ∗ P)
      ⊢ WP c (k0_part54 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m) v0) Q := by
  rw [k0_part54_eq_skeleton]
  unfold k0_part54_skel
  refine send_Hs m K c (false, 1, 1) _ _ _ (by rfl) (blk_send m K c (false, 1, 1) (by decide) (by rfl) (by rfl) (by generalize c = d; revert d; decide +kernel)) ?_
  refine go (blk_scale m K c false 0 1 1 (by rfl) _ _ _ _ (by rfl) (fun _ => rfl) (by rfl) (by rfl) (by rfl) (by generalize c = d; revert d; decide +kernel) ?_) rfl
  refine go (blk_recvD m K c (true, 0, 1) _ _ _ (by rfl) (by decide +kernel) (by decide) (by rfl) (by generalize c = d; revert d; decide +kernel) ?_) rfl
  refine send_Hs m K c (true, 1, 1) _ _ _ (by rfl) (blk_send m K c (true, 1, 1) (by decide) (by rfl) (by rfl) (by generalize c = d; revert d; decide +kernel)) ?_
  refine go (blk_scale m K c true 0 1 1 (by rfl) _ _ _ _ (by rfl) (fun _ => rfl) (by rfl) (by rfl) (by rfl) (by generalize c = d; revert d; decide +kernel) ?_) rfl
  refine go (blk_recvD m K c (false, 0, 2) _ _ _ (by rfl) (by decide +kernel) (by decide) (by rfl) (by generalize c = d; revert d; decide +kernel) ?_) rfl
  refine send_Hs m K c (false, 1, 2) _ _ _ (by rfl) (blk_send m K c (false, 1, 2) (by decide) (by rfl) (by rfl) (by generalize c = d; revert d; decide +kernel)) ?_
  refine go (blk_scale m K c false 0 2 2 (by rfl) _ _ _ _ (by rfl) (fun _ => rfl) (by rfl) (by rfl) (by rfl) (by generalize c = d; revert d; decide +kernel) ?_) rfl
  refine go (blk_recvD m K c (true, 0, 2) _ _ _ (by rfl) (by decide +kernel) (by decide) (by rfl) (by generalize c = d; revert d; decide +kernel) ?_) rfl
  exact BI.Entails.trans (hQ _) (WP_pure c _ Q)

end Cert.KernelProof

end
-- ==== Proof.HopsB.lean ====
/-
The first pieces passed on: parts 55 and 56 of the program.
-/
module

public import proofs.«01_k».proof.Proof.Own

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {v2 : BitVec 32} {P : sProp (MT nD τ sig Unit (Elt F) ℕ UU ℕ)}

set_option maxHeartbeats 4000000 in
/-- Part 55 of the program. -/
theorem part55 {v0 : BitVec 1} {Q : PUnit.{1} → sProp (MT nD τ sig Unit (Elt F) ℕ UU ℕ)}
    (hQ : ∀ v, Hs m K c 22 14 iprop(TT m c 8 ∗ P) ⊢ Q v) :
    Hs m K c 19 12 iprop(pS m c true 1 2 ∗ pK m c true 1 2 ∗ TT m c 5 ∗ P)
      ⊢ WP c (k0_part55 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m) v0) Q := by
  rw [k0_part55_eq_skeleton]
  unfold k0_part55_skel
  refine send_Hs m K c (true, 1, 2) _ _ _ (by rfl) (blk_send m K c (true, 1, 2) (by decide) (by rfl) (by rfl) (by generalize c = d; revert d; decide +kernel)) ?_
  refine go (blk_scale m K c true 0 2 2 (by rfl) _ _ _ _ (by rfl) (fun _ => rfl) (by rfl) (by rfl) (by rfl) (by generalize c = d; revert d; decide +kernel) ?_) rfl
  refine go (blk_recvD m K c (false, 0, 3) _ _ _ (by rfl) (by decide +kernel) (by decide) (by rfl) (by generalize c = d; revert d; decide +kernel) ?_) rfl
  refine send_Hs m K c (false, 1, 3) _ _ _ (by rfl) (blk_send m K c (false, 1, 3) (by decide) (by rfl) (by rfl) (by generalize c = d; revert d; decide +kernel)) ?_
  refine go (blk_scale m K c false 0 3 3 (by rfl) _ _ _ _ (by rfl) (fun _ => rfl) (by rfl) (by rfl) (by rfl) (by generalize c = d; revert d; decide +kernel) ?_) rfl
  refine go (blk_recvD m K c (true, 0, 3) _ _ _ (by rfl) (by decide +kernel) (by decide) (by rfl) (by generalize c = d; revert d; decide +kernel) ?_) rfl
  refine send_Hs m K c (true, 1, 3) _ _ _ (by rfl) (blk_send m K c (true, 1, 3) (by decide) (by rfl) (by rfl) (by generalize c = d; revert d; decide +kernel)) ?_
  refine go (blk_scale m K c true 0 3 3 (by rfl) _ _ _ _ (by rfl) (fun _ => rfl) (by rfl) (by rfl) (by rfl) (by generalize c = d; revert d; decide +kernel) ?_) rfl
  exact BI.Entails.trans (hQ _) (WP_pure c _ Q)

set_option maxHeartbeats 4000000 in
/-- Part 56 of the program. -/
theorem part56 {Q : BitVec 1 → sProp (MT nD τ sig Unit (Elt F) ℕ UU ℕ)}
    (hQ : ∀ v, Hs m K c 25 17 iprop(TT m c 11 ∗ P) ⊢ Q v) :
    Hs m K c 22 14 iprop(TT m c 8 ∗ P)
      ⊢ WP c (k0_part56 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m)) Q := by
  rw [k0_part56_eq_skeleton]
  unfold k0_part56_skel
  refine go (blk_recvD m K c (false, 1, 0) _ _ _ (by rfl) (by decide +kernel) (by decide) (by rfl) (by generalize c = d; revert d; decide +kernel) ?_) rfl
  refine send_Hs m K c (false, 2, 0) _ _ _ (by rfl) (blk_send m K c (false, 2, 0) (by decide) (by rfl) (by rfl) (by generalize c = d; revert d; decide +kernel)) ?_
  refine go (blk_scale m K c false 1 0 0 (by rfl) _ _ _ _ (by rfl) (fun _ => rfl) (by rfl) (by rfl) (by rfl) (by generalize c = d; revert d; decide +kernel) ?_) rfl
  refine go (blk_recvD m K c (true, 1, 0) _ _ _ (by rfl) (by decide +kernel) (by decide) (by rfl) (by generalize c = d; revert d; decide +kernel) ?_) rfl
  refine send_Hs m K c (true, 2, 0) _ _ _ (by rfl) (blk_send m K c (true, 2, 0) (by decide) (by rfl) (by rfl) (by generalize c = d; revert d; decide +kernel)) ?_
  refine go (blk_scale m K c true 1 0 0 (by rfl) _ _ _ _ (by rfl) (fun _ => rfl) (by rfl) (by rfl) (by rfl) (by generalize c = d; revert d; decide +kernel) ?_) rfl
  refine go (blk_recvD m K c (false, 1, 1) _ _ _ (by rfl) (by decide +kernel) (by decide) (by rfl) (by generalize c = d; revert d; decide +kernel) ?_) rfl
  refine send_Hs m K c (false, 2, 1) _ _ _ (by rfl) (blk_send m K c (false, 2, 1) (by decide) (by rfl) (by rfl) (by generalize c = d; revert d; decide +kernel)) ?_
  refine go (blk_scale m K c false 1 1 1 (by rfl) _ _ _ _ (by rfl) (fun _ => rfl) (by rfl) (by rfl) (by rfl) (by generalize c = d; revert d; decide +kernel) ?_) rfl
  exact BI.Entails.trans (hQ _) (WP_pure c _ Q)

end Cert.KernelProof

end
-- ==== Proof.HopsC.lean ====
/-
The second pieces passed on: parts 57 and 58 of the program.
-/
module

public import proofs.«01_k».proof.Proof.Own

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {v2 : BitVec 32} {P : sProp (MT nD τ sig Unit (Elt F) ℕ UU ℕ)}

set_option maxHeartbeats 4000000 in
/-- Part 57 of the program. -/
theorem part57 {v0 : BitVec 1} {Q : PUnit.{1} → sProp (MT nD τ sig Unit (Elt F) ℕ UU ℕ)}
    (hQ : ∀ v, Hs m K c 28 20 iprop(pK m c true 2 2 ∗ TT m c 13 ∗ P) ⊢ Q v) :
    Hs m K c 25 17 iprop(TT m c 11 ∗ P)
      ⊢ WP c (k0_part57 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m) v0) Q := by
  rw [k0_part57_eq_skeleton]
  unfold k0_part57_skel
  refine go (blk_recvD m K c (true, 1, 1) _ _ _ (by rfl) (by decide +kernel) (by decide) (by rfl) (by generalize c = d; revert d; decide +kernel) ?_) rfl
  refine send_Hs m K c (true, 2, 1) _ _ _ (by rfl) (blk_send m K c (true, 2, 1) (by decide) (by rfl) (by rfl) (by generalize c = d; revert d; decide +kernel)) ?_
  refine go (blk_scale m K c true 1 1 1 (by rfl) _ _ _ _ (by rfl) (fun _ => rfl) (by rfl) (by rfl) (by rfl) (by generalize c = d; revert d; decide +kernel) ?_) rfl
  refine go (blk_recvD m K c (false, 1, 2) _ _ _ (by rfl) (by decide +kernel) (by decide) (by rfl) (by generalize c = d; revert d; decide +kernel) ?_) rfl
  refine send_Hs m K c (false, 2, 2) _ _ _ (by rfl) (blk_send m K c (false, 2, 2) (by decide) (by rfl) (by rfl) (by generalize c = d; revert d; decide +kernel)) ?_
  refine go (blk_scale m K c false 1 2 2 (by rfl) _ _ _ _ (by rfl) (fun _ => rfl) (by rfl) (by rfl) (by rfl) (by generalize c = d; revert d; decide +kernel) ?_) rfl
  refine go (blk_recvD m K c (true, 1, 2) _ _ _ (by rfl) (by decide +kernel) (by decide) (by rfl) (by generalize c = d; revert d; decide +kernel) ?_) rfl
  refine send_Hs m K c (true, 2, 2) _ _ _ (by rfl) (blk_send m K c (true, 2, 2) (by decide) (by rfl) (by rfl) (by generalize c = d; revert d; decide +kernel)) ?_
  exact BI.Entails.trans (hQ _) (WP_pure c _ Q)

set_option maxHeartbeats 4000000 in
/-- Part 58 of the program. -/
theorem part58 {Q : PUnit.{1} → sProp (MT nD τ sig Unit (Elt F) ℕ UU ℕ)}
    (hQ : ∀ v, Hs m K c 30 24 iprop(TT m c 18 ∗ P) ⊢ Q v) :
    Hs m K c 28 20 iprop(pK m c true 2 2 ∗ TT m c 13 ∗ P)
      ⊢ WP c (k0_part58 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m)) Q := by
  rw [k0_part58_eq_skeleton]
  unfold k0_part58_skel
  refine go (blk_scale m K c true 1 2 2 (by rfl) _ _ _ _ (by rfl) (fun _ => rfl) (by rfl) (by rfl) (by rfl) (by generalize c = d; revert d; decide +kernel) ?_) rfl
  refine go (blk_recvD m K c (false, 1, 3) _ _ _ (by rfl) (by decide +kernel) (by decide) (by rfl) (by generalize c = d; revert d; decide +kernel) ?_) rfl
  refine send_Hs m K c (false, 2, 3) _ _ _ (by rfl) (blk_send m K c (false, 2, 3) (by decide) (by rfl) (by rfl) (by generalize c = d; revert d; decide +kernel)) ?_
  refine go (blk_scale m K c false 1 3 3 (by rfl) _ _ _ _ (by rfl) (fun _ => rfl) (by rfl) (by rfl) (by rfl) (by generalize c = d; revert d; decide +kernel) ?_) rfl
  refine go (blk_recvD m K c (true, 1, 3) _ _ _ (by rfl) (by decide +kernel) (by decide) (by rfl) (by generalize c = d; revert d; decide +kernel) ?_) rfl
  refine send_Hs m K c (true, 2, 3) _ _ _ (by rfl) (blk_send m K c (true, 2, 3) (by decide) (by rfl) (by rfl) (by generalize c = d; revert d; decide +kernel)) ?_
  refine go (blk_scale m K c true 1 3 3 (by rfl) _ _ _ _ (by rfl) (fun _ => rfl) (by rfl) (by rfl) (by rfl) (by generalize c = d; revert d; decide +kernel) ?_) rfl
  refine go (blk_far m K c false 0 0 (by rfl) _ _ _ _ (by rfl) (by rfl) (by decide +kernel) (fun _ => rfl) (fun _ => rfl) (by rfl) (by rfl) (by rfl) (by rfl) (by generalize c = d; revert d; decide +kernel) ?_) rfl
  refine go (blk_far m K c true 0 0 (by rfl) _ _ _ _ (by rfl) (by rfl) (by decide +kernel) (fun _ => rfl) (fun _ => rfl) (by rfl) (by rfl) (by rfl) (by rfl) (by generalize c = d; revert d; decide +kernel) ?_) rfl
  exact BI.Entails.trans (hQ _) (WP_pure c _ Q)

end Cert.KernelProof

end
-- ==== Proof.HopsD.lean ====
/-
The last arrivals: part 59 of the program.
-/
module

public import proofs.«01_k».proof.Proof.Own

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {v2 : BitVec 32} {P : sProp (MT nD τ sig Unit (Elt F) ℕ UU ℕ)}

/-- All transfers started and all arrivals waited for, the waits for the device's own transfers are left. -/
theorem Hs_Dr (P : sProp 𝕄) : Hs m K c 30 30 P ⊢ Dr m K c 0 iprop(bigSep Finset.univ (RD (F := F) c) ∗ P) := by
  unfold Hs Dr
  rw [fam_all sOrd_lt, fam_all rOrd_lt, fam_zero]

set_option maxHeartbeats 4000000 in
/-- Part 59 of the program. -/
theorem part59 {Q : BitVec 1 → sProp (MT nD τ sig Unit (Elt F) ℕ UU ℕ)}
    (hQ : ∀ v, Dr m K c 3 iprop(bigSep Finset.univ (RD (F := F) c) ∗ TT m c 24 ∗ P) ⊢ Q v) :
    Hs m K c 30 24 iprop(TT m c 18 ∗ P)
      ⊢ WP c (k0_part59 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 (rV m)) Q := by
  rw [k0_part59_eq_skeleton]
  unfold k0_part59_skel
  refine go (blk_far m K c false 1 1 (by rfl) _ _ _ _ (by rfl) (by rfl) (by decide +kernel) (fun _ => rfl) (fun _ => rfl) (by rfl) (by rfl) (by rfl) (by rfl) (by generalize c = d; revert d; decide +kernel) ?_) rfl
  refine go (blk_far m K c true 1 1 (by rfl) _ _ _ _ (by rfl) (by rfl) (by decide +kernel) (fun _ => rfl) (fun _ => rfl) (by rfl) (by rfl) (by rfl) (by rfl) (by generalize c = d; revert d; decide +kernel) ?_) rfl
  refine go (blk_far m K c false 2 2 (by rfl) _ _ _ _ (by rfl) (by rfl) (by decide +kernel) (fun _ => rfl) (fun _ => rfl) (by rfl) (by rfl) (by rfl) (by rfl) (by generalize c = d; revert d; decide +kernel) ?_) rfl
  refine go (blk_far m K c true 2 2 (by rfl) _ _ _ _ (by rfl) (by rfl) (by decide +kernel) (fun _ => rfl) (fun _ => rfl) (by rfl) (by rfl) (by rfl) (by rfl) (by generalize c = d; revert d; decide +kernel) ?_) rfl
  refine go (blk_far m K c false 3 3 (by rfl) _ _ _ _ (by rfl) (by rfl) (by decide +kernel) (fun _ => rfl) (fun _ => rfl) (by rfl) (by rfl) (by rfl) (by rfl) (by generalize c = d; revert d; decide +kernel) ?_) rfl
  refine go (blk_far m K c true 3 3 (by rfl) _ _ _ _ (by rfl) (by rfl) (by decide +kernel) (fun _ => rfl) (fun _ => rfl) (by rfl) (by rfl) (by rfl) (by rfl) (by generalize c = d; revert d; decide +kernel) ?_) rfl
  refine BI.Entails.trans (Hs_Dr m K c _) ?_
  refine blk_drainS m K c (false, 0, 4) _ _ (by rfl) (by rfl) (by rfl) (by generalize c = d; revert d; decide +kernel) ?_
  refine blk_drainS m K c (true, 0, 4) _ _ (by rfl) (by rfl) (by rfl) (by generalize c = d; revert d; decide +kernel) ?_
  refine blk_drainD m K c (false, 0, 0) _ _ (by rfl) (by decide) (by rfl) (by generalize c = d; revert d; decide +kernel) ?_
  exact BI.Entails.trans (hQ _) (WP_pure c _ Q)

end Cert.KernelProof

end
-- ==== Proof.Drains.lean ====
/-
The waits for the device's own transfers: parts 60 to 63 of the program.
-/
module

public import proofs.«01_k».proof.Proof.Own

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {v2 : BitVec 32} {P : sProp (MT nD τ sig Unit (Elt F) ℕ UU ℕ)}

set_option maxHeartbeats 4000000 in
/-- Part 60 of the program. -/
theorem part60 {v0 : BitVec 1} {Q : PUnit.{1} → sProp (MT nD τ sig Unit (Elt F) ℕ UU ℕ)}
    (hQ : ∀ v, Dr m K c 9 P ⊢ Q v) :
    Dr m K c 3 P
      ⊢ WP c (k0_part60 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 v0) Q := by
  rw [k0_part60_eq_skeleton]
  unfold k0_part60_skel
  refine blk_drainD m K c (true, 0, 0) _ _ (by rfl) (by decide) (by rfl) (by generalize c = d; revert d; decide +kernel) ?_
  refine blk_drainD m K c (false, 0, 1) _ _ (by rfl) (by decide) (by rfl) (by generalize c = d; revert d; decide +kernel) ?_
  refine blk_drainD m K c (true, 0, 1) _ _ (by rfl) (by decide) (by rfl) (by generalize c = d; revert d; decide +kernel) ?_
  refine blk_drainD m K c (false, 0, 2) _ _ (by rfl) (by decide) (by rfl) (by generalize c = d; revert d; decide +kernel) ?_
  refine blk_drainD m K c (true, 0, 2) _ _ (by rfl) (by decide) (by rfl) (by generalize c = d; revert d; decide +kernel) ?_
  refine blk_drainD m K c (false, 0, 3) _ _ (by rfl) (by decide) (by rfl) (by generalize c = d; revert d; decide +kernel) ?_
  exact BI.Entails.trans (hQ _) (WP_pure c _ Q)

set_option maxHeartbeats 4000000 in
/-- Part 61 of the program. -/
theorem part61 {Q : BitVec 1 → sProp (MT nD τ sig Unit (Elt F) ℕ UU ℕ)}
    (hQ : ∀ v, Dr m K c 16 P ⊢ Q v) :
    Dr m K c 9 P
      ⊢ WP c (k0_part61 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 ) Q := by
  rw [k0_part61_eq_skeleton]
  unfold k0_part61_skel
  refine blk_drainD m K c (true, 0, 3) _ _ (by rfl) (by decide) (by rfl) (by generalize c = d; revert d; decide +kernel) ?_
  refine blk_drainS m K c (false, 1, 4) _ _ (by rfl) (by rfl) (by rfl) (by generalize c = d; revert d; decide +kernel) ?_
  refine blk_drainS m K c (true, 1, 4) _ _ (by rfl) (by rfl) (by rfl) (by generalize c = d; revert d; decide +kernel) ?_
  refine blk_drainD m K c (false, 1, 0) _ _ (by rfl) (by decide) (by rfl) (by generalize c = d; revert d; decide +kernel) ?_
  refine blk_drainD m K c (true, 1, 0) _ _ (by rfl) (by decide) (by rfl) (by generalize c = d; revert d; decide +kernel) ?_
  refine blk_drainD m K c (false, 1, 1) _ _ (by rfl) (by decide) (by rfl) (by generalize c = d; revert d; decide +kernel) ?_
  refine blk_drainD m K c (true, 1, 1) _ _ (by rfl) (by decide) (by rfl) (by generalize c = d; revert d; decide +kernel) ?_
  exact BI.Entails.trans (hQ _) (WP_pure c _ Q)

set_option maxHeartbeats 4000000 in
/-- Part 62 of the program. -/
theorem part62 {v0 : BitVec 1} {Q : BitVec 1 → sProp (MT nD τ sig Unit (Elt F) ℕ UU ℕ)}
    (hQ : ∀ v, Dr m K c 23 P ⊢ Q v) :
    Dr m K c 16 P
      ⊢ WP c (k0_part62 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 v0) Q := by
  rw [k0_part62_eq_skeleton]
  unfold k0_part62_skel
  refine blk_drainD m K c (false, 1, 2) _ _ (by rfl) (by decide) (by rfl) (by generalize c = d; revert d; decide +kernel) ?_
  refine blk_drainD m K c (true, 1, 2) _ _ (by rfl) (by decide) (by rfl) (by generalize c = d; revert d; decide +kernel) ?_
  refine blk_drainD m K c (false, 1, 3) _ _ (by rfl) (by decide) (by rfl) (by generalize c = d; revert d; decide +kernel) ?_
  refine blk_drainD m K c (true, 1, 3) _ _ (by rfl) (by decide) (by rfl) (by generalize c = d; revert d; decide +kernel) ?_
  refine blk_drainS m K c (false, 2, 4) _ _ (by rfl) (by rfl) (by rfl) (by generalize c = d; revert d; decide +kernel) ?_
  refine blk_drainS m K c (true, 2, 4) _ _ (by rfl) (by rfl) (by rfl) (by generalize c = d; revert d; decide +kernel) ?_
  refine blk_drainD m K c (false, 2, 0) _ _ (by rfl) (by decide) (by rfl) (by generalize c = d; revert d; decide +kernel) ?_
  exact BI.Entails.trans (hQ _) (WP_pure c _ Q)

set_option maxHeartbeats 4000000 in
/-- Part 63 of the program. -/
theorem part63 {v0 : BitVec 1} {Q : PUnit.{1} → sProp (MT nD τ sig Unit (Elt F) ℕ UU ℕ)}
    (hQ : ∀ v, Dr m K c 29 P ⊢ Q v) :
    Dr m K c 23 P
      ⊢ WP c (k0_part63 xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13 c v2 v0) Q := by
  rw [k0_part63_eq_skeleton]
  unfold k0_part63_skel
  refine blk_drainD m K c (true, 2, 0) _ _ (by rfl) (by decide) (by rfl) (by generalize c = d; revert d; decide +kernel) ?_
  refine blk_drainD m K c (false, 2, 1) _ _ (by rfl) (by decide) (by rfl) (by generalize c = d; revert d; decide +kernel) ?_
  refine blk_drainD m K c (true, 2, 1) _ _ (by rfl) (by decide) (by rfl) (by generalize c = d; revert d; decide +kernel) ?_
  refine blk_drainD m K c (false, 2, 2) _ _ (by rfl) (by decide) (by rfl) (by generalize c = d; revert d; decide +kernel) ?_
  refine blk_drainD m K c (true, 2, 2) _ _ (by rfl) (by decide) (by rfl) (by generalize c = d; revert d; decide +kernel) ?_
  refine blk_drainD m K c (false, 2, 3) _ _ (by rfl) (by decide) (by rfl) (by generalize c = d; revert d; decide +kernel) ?_
  exact BI.Entails.trans (hQ _) (WP_pure c _ Q)

end Cert.KernelProof

end
-- ==== Proof.Body.lean ====
/-
The whole program of a device.
-/
module

public import proofs.«01_k».proof.Proof.GemmP
public import proofs.«01_k».proof.Proof.GemmB
public import proofs.«01_k».proof.Proof.StatP
public import proofs.«01_k».proof.Proof.OwnP
public import proofs.«01_k».proof.Proof.HopsA
public import proofs.«01_k».proof.Proof.HopsB
public import proofs.«01_k».proof.Proof.HopsC
public import proofs.«01_k».proof.Proof.HopsD
public import proofs.«01_k».proof.Proof.Drains

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable (c : Dev nD) {P : sProp (MT nD τ sig Unit (Elt F) ℕ UU ℕ)}

/-- What a device ends with. -/
def FIN (P : sProp 𝕄) : sProp 𝕄 :=
  iprop(Owe c 30 ∗ bigSep Finset.univ (SD m c) ∗ bigSep Finset.univ (RD (F := F) c) ∗ TT m c 24 ∗ PE m c iprop(Keep m c ∗ P))
/-- The places of its own tiles. -/
def JJ : sProp 𝕄 := iprop(gJ c (8192 * c.val + 1024 * 0) 1024 ∗ gJ c (8192 * c.val + 1024 * 1) 1024 ∗ gJ c (8192 * c.val + 1024 * 2) 1024 ∗ gJ c (8192 * c.val + 1024 * 3) 1024 ∗ gJ c (8192 * c.val + 1024 * 4) 1024 ∗ gJ c (8192 * c.val + 1024 * 5) 1024 ∗ gJ c (8192 * c.val + 1024 * 6) 1024 ∗ gJ c (8192 * c.val + 1024 * 7) 1024 ∗ iprop(emp))
/-- What it starts with. -/
def INI (P : sProp 𝕄) : sProp 𝕄 :=
  S0 m K c (GS m c ![WRdy m c 0, WRdy m c 1] ![ERdy c 0, ERdy c 1] (JJ c) iprop(emp) iprop(SRow c ∗ (Z0 c lS ∗ OutP m c (Do c 0)) ∗ P))

/-- After the last wait for its own transfers the device holds what it ends with. -/
theorem Dr_fin (P : sProp 𝕄) : Dr m K c 30 iprop(bigSep Finset.univ (RD (F := F) c) ∗ TT m c 24 ∗ PE m c iprop(Keep m c ∗ P)) ⊢ FIN m c P := by
  unfold Dr FIN
  rw [fam_all dOrd_lt]
  iintro ⟨-, H⟩
  iexact H

/-- A program followed by another may be proved by the first's weakest precondition of the second's. -/
theorem WP_bnd {α β : Type} {p : Prog (TpuEff nD τ sig (Elt F) Λ₀ .tc) α} {k : α → Prog (TpuEff nD τ sig (Elt F) Λ₀ .tc) β}
    {Q : β → sProp (MT nD τ sig Unit (Elt F) ℕ UU ℕ)} {H : sProp 𝕄} (h : H ⊢ WP c p (fun r => WP c (k r) Q)) : H ⊢ WP c (p >>= k) Q := by
  rw [WP_bind]; exact h

set_option maxHeartbeats 4000000 in
/-- The program takes a device from the one to the other. -/
theorem body_run {Q : PUnit.{1} → sProp (MT nD τ sig Unit (Elt F) ℕ UU ℕ)} (hQ : FIN m c P ⊢ Q ⟨⟩) :
    INI m K c P
      ⊢ WP c (cc0_body xM (Memref.isWhole_whole _) wM (Memref.isWhole_whole _) oM (Memref.isWhole_whole _) gM (Memref.isWhole_whole _) wbM (Memref.isWhole_whole _) ebM (Memref.isWhole_whole _) stM (Memref.isWhole_whole _)
          cc0_scratch3 cc0_scratch4 cc0_scratch5 cc0_scratch6 cc0_scratch7 cc0_scratch8 cc0_scratch9 cc0_scratch10 cc0_scratch11 cc0_scratch12 cc0_scratch13) Q := by
  rw [cc0_body_eq_skeleton]
  unfold cc0_body_skel INI JJ
  refine WP_bnd c (part33 m K c (fun v2 => ?_))
  refine WP_bnd c (part34 m K c ?_)
  refine WP_bnd c (part35 m K c ?_)
  refine WP_bnd c (part36 m K c ?_)
  refine WP_bnd c (part37 m K c ?_)
  refine WP_bnd c (part38 m K c ?_)
  refine WP_bnd c (part39 m K c ?_)
  refine WP_bnd c (part40 m K c ?_)
  refine WP_bnd c (part41 m K c ?_)
  refine WP_bnd c (part42 m K c ?_)
  refine WP_bnd c (part43 m K c ?_)
  refine WP_bnd c (part44 m K c (fun v => ?_))
  refine WP_bnd c (part45 m K c (fun v => ?_))
  refine WP_bnd c (part46 m K c ?_)
  refine WP_bnd c (part47 m K c (fun v => ?_))
  refine WP_bnd c (part48 m K c (fun v => ?_))
  refine WP_bnd c (part49 m K c (fun v => ?_))
  refine WP_bnd c (part50 m K c ?_)
  refine WP_bnd c (part51 m K c (fun v => ?_))
  refine WP_bnd c (part52 m K c (fun v => ?_))
  refine WP_bnd c (part53 m K c (fun v => ?_))
  refine WP_bnd c (part54 m K c (fun v => ?_))
  refine WP_bnd c (part55 m K c (fun v => ?_))
  refine WP_bnd c (part56 m K c (fun v => ?_))
  refine WP_bnd c (part57 m K c (fun v => ?_))
  refine WP_bnd c (part58 m K c (fun v => ?_))
  refine WP_bnd c (part59 m K c (fun v => ?_))
  refine WP_bnd c (part60 m K c (fun v => ?_))
  refine WP_bnd c (part61 m K c (fun v => ?_))
  refine WP_bnd c (part62 m K c (fun v => ?_))
  refine WP_bnd c (part63 m K c (fun v => ?_))
  refine blk_drainD m K c (true, 2, 3) _ _ (by rfl) (by decide) (by rfl) (by generalize c = d; revert d; decide +kernel) ?_
  exact BI.Entails.trans (BI.Entails.trans (Dr_fin m K c P) hQ) (WP_pure c _ Q)

end Cert.KernelProof

end
-- ==== Proof.Pieces.lean ====
/-
The buffers and semaphores of a device, cut into what its program starts with, and put together again.
-/
module

public import proofs.«01_k».proof.Proof.Body

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families -/

/-- A family over a set and one more. -/
theorem ins {I : Type} [DecidableEq I] {a : I} {T : Finset I} (h : a ∉ T) {Φ : I → sProp (MT nD τ sig Unit (Elt F) ℕ UU ℕ)} : bigSep (insert a T) Φ = iprop(Φ a ∗ bigSep T Φ) := bigSep_insert h

/-- Some of a family's members, each once, told by where they come from. -/
theorem pull {I J : Type} [DecidableEq I] [DecidableEq J] {Φ : J → sProp (MT nD τ sig Unit (Elt F) ℕ UU ℕ)} (f : I → J) (p : I → Bool) (T : Finset I) :
    ∀ S : Finset J, (∀ i ∈ T, p i = true → f i ∈ S) → (∀ i ∈ T, ∀ j ∈ T, p i = true → p j = true → f i = f j → i = j) →
      bigSep S Φ ⊢ bigSep T fun i => if p i then Φ (f i) else iprop(emp) := by
  induction T using Finset.induction_on with
  | empty =>
    intro S _ _
    rw [bigSep_empty]
    iintro -
    iempintro
  | insert a T ha ih =>
    intro S hS hi
    rw [ins ha]
    by_cases h : p a = true
    · have e : S = insert (f a) (S.erase (f a)) := (Finset.insert_erase (hS a (Finset.mem_insert_self _ _) h)).symm
      rw [if_pos h, e, ins (Finset.notMem_erase _ _)]
      iintro ⟨H1, H2⟩
      isplitl [H1]
      · iexact H1
      iapply (ih (S.erase (f a)) (fun i hiT hp => Finset.mem_erase.mpr ⟨fun he => ha ((hi i (Finset.mem_insert_of_mem hiT) a (Finset.mem_insert_self _ _) hp h he) ▸ hiT), hS i (Finset.mem_insert_of_mem hiT) hp⟩)
        (fun i hi1 j hj1 => hi i (Finset.mem_insert_of_mem hi1) j (Finset.mem_insert_of_mem hj1)))
      iexact H2
    · rw [if_neg h]
      iintro H
      isplitr
      · iempintro
      iapply (ih S (fun i hiT hp => hS i (Finset.mem_insert_of_mem hiT) hp) (fun i hi1 j hj1 => hi i (Finset.mem_insert_of_mem hi1) j (Finset.mem_insert_of_mem hj1)))
      iexact H

/-- The same, every index having its member. -/
theorem pullT {I J : Type} [DecidableEq I] [DecidableEq J] [Fintype I] {Φ : J → sProp (MT nD τ sig Unit (Elt F) ℕ UU ℕ)} (f : I → J) (S : Finset J) (hS : ∀ i, f i ∈ S) (hf : Function.Injective f) :
    bigSep S Φ ⊢ bigSep Finset.univ fun i => Φ (f i) := by
  refine BI.Entails.trans (pull f (fun _ => true) Finset.univ S (fun i _ _ => hS i) (fun i _ j _ _ _ h => hf h)) (Entails.of_eq (bigSep_congr fun i _ => ?_))
  exact if_pos rfl

/-- A family over the two directions. -/
theorem two (Φ : Bool → sProp 𝕄) : bigSep Finset.univ Φ = iprop(Φ false ∗ Φ true) := bigSep_univ_eq_bigSepL [false, true] (by decide) (by decide) Φ
/-- A family over four. -/
theorem four (Φ : Fin 4 → sProp 𝕄) : bigSep Finset.univ Φ = iprop(Φ 0 ∗ Φ 1 ∗ Φ 2 ∗ Φ 3) := bigSep_univ_eq_bigSepL [0, 1, 2, 3] (by decide) (by decide) Φ
/-- A family over five. -/
theorem five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
/-- A family over two directions and three hops. -/
theorem six (Φ : Bool × Fin 3 → sProp 𝕄) :
    bigSep Finset.univ Φ = iprop(Φ (false, 0) ∗ Φ (true, 0) ∗ Φ (false, 1) ∗ Φ (true, 1) ∗ Φ (false, 2) ∗ Φ (true, 2)) :=
  bigSep_univ_eq_bigSepL [(false, 0), (true, 0), (false, 1), (true, 1), (false, 2), (true, 2)] (by decide) (by decide) Φ

/-! ## The places of the exponentials and of the statistics -/

/-- The places of block `j` on a device. -/
def AA (c : Dev nD) (j : Fin 4) : sProp 𝕄 := bigSep Finset.univ fun u : Fin 5 => junk (F := F) c j.val u

/-- The gathered exponentials are sixteen groups. -/
theorem g_pieces (c : Dev nD) (f : Buf (Elt F) (gL c)) :
    (gL c ↦{fullShare} f : sProp 𝕄) = bigSep Finset.univ fun x : Fin 4 × Fin 4 => gL c ↦[gcol (8192 * x.1.val + 2048 * x.2.val) 2048]{fullShare} f := by
  have hd : ∀ x ∈ (Finset.univ : Finset (Fin 4 × Fin 4)), ∀ y ∈ (Finset.univ : Finset (Fin 4 × Fin 4)), x ≠ y →
      Disjoint (gcol (8192 * x.1.val + 2048 * x.2.val) 2048) (gcol (8192 * y.1.val + 2048 * y.2.val) 2048) := by
    intro x _ y _ hxy
    refine Finset.disjoint_left.mpr fun i h1 h2 => hxy ?_
    have h1 := (Finset.mem_filter.mp h1).2
    have h2 := (Finset.mem_filter.mp h2).2
    have a1 := x.2.isLt
    have a2 := y.2.isLt
    exact Prod.ext (Fin.ext (by omega)) (Fin.ext (by omega))
  have hu : (Finset.univ : Finset S512x32768.Idx) = (Finset.univ : Finset (Fin 4 × Fin 4)).biUnion fun x => gcol (8192 * x.1.val + 2048 * x.2.val) 2048 := by
    ext i
    have hi : (i 1).val < 32768 := (i 1).isLt
    refine ⟨fun _ => Finset.mem_biUnion.mpr ⟨(⟨(i 1).val / 8192, by omega⟩, ⟨(i 1).val % 8192 / 2048, by omega⟩), Finset.mem_univ _, ?_⟩, fun _ => Finset.mem_univ _⟩
    refine Finset.mem_filter.mpr ⟨Finset.mem_univ _, ?_, ?_⟩
    · show 8192 * ((i 1).val / 8192) + 2048 * ((i 1).val % 8192 / 2048) ≤ (i 1).val
      omega
    · show (i 1).val < 8192 * ((i 1).val / 8192) + 2048 * ((i 1).val % 8192 / 2048) + 2048
      omega
  show (gL c ↦[Finset.univ]{fullShare} f) = _
  rw [hu]
  exact pointsTo_biUnion (ℓ := gL c) Finset.univ _ hd

/-- The statistics are four rows. -/
theorem st_pieces (c : Dev nD) (f : Buf (Elt F) (stL c)) :
    (stL c ↦{fullShare} f : sProp 𝕄) = bigSep Finset.univ fun j : Fin 4 => stL c ↦[srow j.val]{fullShare} f := by
  have hd : ∀ x ∈ (Finset.univ : Finset (Fin 4)), ∀ y ∈ (Finset.univ : Finset (Fin 4)), x ≠ y → Disjoint (srow x.val) (srow y.val) := by
    intro x _ y _ hxy
    exact Finset.disjoint_left.mpr fun i h1 h2 => hxy (Fin.ext ((Finset.mem_filter.mp h1).2.symm.trans (Finset.mem_filter.mp h2).2))
  have hu : (Finset.univ : Finset S4x512.Idx) = (Finset.univ : Finset (Fin 4)).biUnion fun j => srow j.val := by
    ext i
    exact ⟨fun _ => Finset.mem_biUnion.mpr ⟨⟨(i 0).val, (i 0).isLt⟩, Finset.mem_univ _, Finset.mem_filter.mpr ⟨Finset.mem_univ _, rfl⟩⟩, fun _ => Finset.mem_univ _⟩
  show (stL c ↦[Finset.univ]{fullShare} f) = _
  rw [hu]
  exact pointsTo_biUnion (ℓ := stL c) Finset.univ _ hd

/-- A group at any contents is a landing place. -/
theorem junk_g (c : Dev nD) (j : ℕ) (u : Fin 5) (hu : ¬ u = 4) (f : Buf (Elt F) (gL c)) : (gL c ↦[gcol (8192 * j + 2048 * u.val) 2048]{fullShare} f) ⊢ junk (F := F) c j u := by
  unfold junk
  rw [if_neg hu]
  iintro H
  iexists f
  iexact H
/-- A row at any contents is a landing place. -/
theorem junk_s (c : Dev nD) (j : ℕ) (f : Buf (Elt F) (stL c)) : (stL c ↦[srow j]{fullShare} f) ⊢ junk (F := F) c j 4 := by
  unfold junk
  rw [if_pos rfl]
  iintro H
  iexists f
  iexact H
/-- A block's five places. -/
theorem AA_intro (c : Dev nD) (f : Buf (Elt F) (gL c)) (f' : Buf (Elt F) (stL c)) (j : Fin 4) :
    iprop((bigSep Finset.univ fun u : Fin 4 => gL c ↦[gcol (8192 * j.val + 2048 * u.val) 2048]{fullShare} f) ∗ stL c ↦[srow j.val]{fullShare} f') ⊢ AA (F := F) c j := by
  unfold AA
  rw [four, five]
  iintro ⟨⟨H0, H1, H2, H3⟩, H4⟩
  isplitl [H0]
  · iapply (junk_g c j.val 0 (by decide) f); iexact H0
  isplitl [H1]
  · iapply (junk_g c j.val 1 (by decide) f); iexact H1
  isplitl [H2]
  · iapply (junk_g c j.val 2 (by decide) f); iexact H2
  isplitl [H3]
  · iapply (junk_g c j.val 3 (by decide) f); iexact H3
  iapply (junk_s c j.val f'); iexact H4

/-- The two buffers are the places of the four blocks. -/
theorem places (c : Dev nD) (f : Buf (Elt F) (gL c)) (f' : Buf (Elt F) (stL c)) :
    iprop((gL c ↦{fullShare} f) ∗ stL c ↦{fullShare} f') ⊢ bigSep Finset.univ (AA (F := F) c) := by
  rw [g_pieces, st_pieces, bigSep_univ_prod, ← bigSep_sep']
  exact bigSep_mono fun j _ => AA_intro c f f' j

/-- A place of two tiles is two places of one. -/
theorem junk_tiles (c : Dev nD) (lo : ℕ) (f : Buf (Elt F) (gL c)) :
    (gL c ↦[gcol lo 2048]{fullShare} f) ⊢ iprop(gJ (F := F) c lo 1024 ∗ gJ c (lo + 1024) 1024) := by
  have h : gcol lo 1024 ⊆ gcol lo 2048 := by
    intro i hi
    have hi := (Finset.mem_filter.mp hi).2
    exact Finset.mem_filter.mpr ⟨Finset.mem_univ _, by omega⟩
  have e : gcol lo 2048 \ gcol lo 1024 = gcol (lo + 1024) 1024 := by
    ext i
    simp only [gcol, Finset.mem_sdiff, Finset.mem_filter, Finset.mem_univ, true_and]
    omega
  unfold gJ
  iintro H
  ihave H := (pointsTo_split_subset (ℓ := gL c) h).1 $$ H
  rw [e]
  icases H with ⟨H1, H2⟩
  isplitl [H1]
  · iexists f; iexact H1
  iexists f; iexact H2

/-- A landing place of a group is two tiles. -/
theorem junk_tiles' (c : Dev nD) (j : ℕ) (u : Fin 5) (hu : ¬ u = 4) (a b : ℕ) (ha : 8192 * j + 2048 * u.val = a) (hb : a + 1024 = b) :
    junk (F := F) c j u ⊢ iprop(gJ c a 1024 ∗ gJ c b 1024) := by
  subst ha hb
  unfold junk
  rw [if_neg hu]
  iintro ⟨%f, H⟩
  iapply (junk_tiles c _ f)
  iexact H

/-- The own block's places: its tiles and its row. -/
theorem own_places (c : Dev nD) : AA (F := F) c c ⊢ iprop(JJ c ∗ SRow c) := by
  unfold AA JJ
  rw [five]
  iintro ⟨H0, H1, H2, H3, H4⟩
  ihave ⟨A0, A1⟩ := (junk_tiles' c c.val 0 (by decide) (8192 * c.val + 1024 * 0) (8192 * c.val + 1024 * 1) (by rfl) (by omega)) $$ H0
  ihave ⟨A2, A3⟩ := (junk_tiles' c c.val 1 (by decide) (8192 * c.val + 1024 * 2) (8192 * c.val + 1024 * 3) (by rfl) (by omega)) $$ H1
  ihave ⟨A4, A5⟩ := (junk_tiles' c c.val 2 (by decide) (8192 * c.val + 1024 * 4) (8192 * c.val + 1024 * 5) (by rfl) (by omega)) $$ H2
  ihave ⟨A6, A7⟩ := (junk_tiles' c c.val 3 (by decide) (8192 * c.val + 1024 * 6) (8192 * c.val + 1024 * 7) (by rfl) (by omega)) $$ H3
  isplitr [H4]
  · isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    iempintro
  · have e : junk (F := F) c c.val 4 = SRow c := by unfold junk SRow; rw [if_pos rfl]
    iapply (Entails.of_eq e)
    iexact H4

/-- The places the neighbours write: those of the other blocks. -/
theorem others (c : Dev nD) :
    bigSep (Finset.univ.erase (c : Fin 4)) (AA (F := F) c) ⊢ bigSep Finset.univ fun k : TK => if ract c k then junk (F := F) c (slot c k.1 (k.2.1.val + 1)) k.2.2 else iprop(emp) := by
  have hS : ∀ x : Bool × Fin 3, ex c x.1 (x.2.val + 1) = true → (⟨slot c x.1 (x.2.val + 1) % 4, Nat.mod_lt _ (by decide)⟩ : Fin 4) ∈ (Finset.univ.erase (c : Fin 4)) := by
    generalize c = d; revert d; decide +kernel
  have hi : ∀ x y : Bool × Fin 3, ex c x.1 (x.2.val + 1) = true → ex c y.1 (y.2.val + 1) = true →
      (⟨slot c x.1 (x.2.val + 1) % 4, Nat.mod_lt _ (by decide)⟩ : Fin 4) = ⟨slot c y.1 (y.2.val + 1) % 4, Nat.mod_lt _ (by decide)⟩ → x = y := by
    clear hS; generalize c = d; revert d; decide +kernel
  have hm : ∀ x : Bool × Fin 3, ex c x.1 (x.2.val + 1) = true → slot c x.1 (x.2.val + 1) % 4 = slot c x.1 (x.2.val + 1) := by
    clear hS hi; generalize c = d; revert d; decide +kernel
  suffices h2 : (bigSep Finset.univ fun x : Bool × Fin 3 => if ex c x.1 (x.2.val + 1) then AA (F := F) c ⟨slot c x.1 (x.2.val + 1) % 4, Nat.mod_lt _ (by decide)⟩ else iprop(emp))
      = bigSep Finset.univ fun k : TK => if ract c k then junk (F := F) c (slot c k.1 (k.2.1.val + 1)) k.2.2 else iprop(emp) by
    rw [← h2]
    exact pull (fun x : Bool × Fin 3 => (⟨slot c x.1 (x.2.val + 1) % 4, Nat.mod_lt _ (by decide)⟩ : Fin 4)) (fun x => ex c x.1 (x.2.val + 1)) Finset.univ _
      (fun x _ h => hS x h) (fun x _ y _ h h' e => hi x y h h' e)
  rw [bigSep_univ_prod, bigSep_univ_prod]
  refine bigSep_congr fun b _ => ?_
  rw [bigSep_univ_prod]
  refine bigSep_congr fun h _ => ?_
  show (if ex c b (h.val + 1) then AA (F := F) c ⟨slot c b (h.val + 1) % 4, _⟩ else iprop(emp)) = bigSep Finset.univ fun u => if ex c b (h.val + 1) then junk (F := F) c (slot c b (h.val + 1)) u else iprop(emp)
  by_cases he : ex c b (h.val + 1) = true
  · rw [if_pos he]
    unfold AA
    refine bigSep_congr fun u _ => ?_
    rw [if_pos he]
    show junk c (slot c b (h.val + 1) % 4) u = _
    rw [hm (b, h) he]
  · rw [if_neg he, bigSep_congr (s := Finset.univ) (Ψ := fun _ : Fin 5 => (iprop(emp) : sProp 𝕄)) fun u _ => if_neg he]
    exact (bigSep_emp_const Finset.univ).symm

/-- They are what its entry signals hand over. -/
theorem gifts (c : Dev nD) :
    (bigSep Finset.univ fun k : TK => if ract c k then junk (F := F) c (slot c k.1 (k.2.1.val + 1)) k.2.2 else iprop(emp))
      ⊢ iprop((if nbr c true then barPay (F := F) (peer c true) false else iprop(emp)) ∗ (if nbr c false then barPay (F := F) (peer c false) true else iprop(emp))) := by
  rw [bigSep_univ_prod, two]
  have key : ∀ b : Bool, (bigSep Finset.univ fun i : TI => if ract c (!b, i) then junk (F := F) c (slot c (!b) (i.1.val + 1)) i.2 else iprop(emp))
      ⊢ (if nbr c b then barPay (F := F) (peer c b) (!b) else iprop(emp)) := by
    intro b
    by_cases hn : nbr c b = true
    · rw [if_pos hn]
      have h1 : ∀ i : TI, act (peer c b) (!b, i) = ract c (!b, i) := by revert hn; generalize c = d; revert b d; decide +kernel
      have h2 : peer (peer c b) (!b) = c := by clear h1; revert hn; generalize c = d; revert b d; decide +kernel
      have h3 : ∀ i : TI, ract c (!b, i) = true → slot (peer c b) (!b) i.1.val = slot c (!b) (i.1.val + 1) := by clear h1 h2; revert hn; generalize c = d; revert b d; decide +kernel
      unfold barPay
      refine bigSep_mono fun i _ => ?_
      rw [h1 i, h2]
      by_cases hr : ract c (!b, i) = true
      · rw [if_pos hr, if_pos hr, h3 i hr]
        exact BI.Entails.refl _
      · rw [if_neg hr, if_neg hr]
        exact BI.Entails.refl _
    · rw [if_neg hn]
      iintro -
      iempintro
  iintro ⟨H1, H2⟩
  isplitl [H1]
  · iapply (key true); iexact H1
  · iapply (key false); iexact H2

/-- The two slots of the weight buffers. -/
theorem wb_split (c : Dev nD) (f : Buf (Elt F) (wbL c)) : (wbL c ↦{fullShare} f) ⊢ iprop(WBany (F := F) c 0 ∗ WBany c 1) := by
  have e : (Finset.univ : Finset S2x1024x1024.Idx) \ wslot 0 = wslot 1 := by
    ext i
    have hi : (i 0).val < 2 := (i 0).isLt
    simp only [wslot, Finset.mem_sdiff, Finset.mem_filter, Finset.mem_univ, true_and]
    omega
  unfold WBany
  iintro H
  ihave H := (pointsTo_split_subset (ℓ := wbL c) (S := Finset.univ) (I := wslot 0) (Finset.subset_univ _)).1 $$ H
  rw [e]
  icases H with ⟨H1, H2⟩
  isplitl [H1]
  · iexists f; iexact H1
  iexists f; iexact H2
/-- The two slots of the weight buffers are the whole buffer. -/
theorem wb_join (c : Dev nD) : iprop(WBany (F := F) c 0 ∗ WBany c 1) ⊢ iprop(∃ f : Buf (Elt F) (wbL c), wbL c ↦{fullShare} f) := by
  have e : (Finset.univ : Finset S2x1024x1024.Idx) \ wslot 0 = wslot 1 := by
    ext i
    have hi : (i 0).val < 2 := (i 0).isLt
    simp only [wslot, Finset.mem_sdiff, Finset.mem_filter, Finset.mem_univ, true_and]
    omega
  unfold WBany
  iintro ⟨⟨%f, H1⟩, ⟨%g, H2⟩⟩
  iexists ((wslot 0).piecewise f g)
  iapply (pointsTo_join_subset (ℓ := wbL c) (S := Finset.univ) (I := wslot 0) (Finset.subset_univ _))
  rw [e]
  isplitl [H1]
  · iexact H1
  iexact H2
/-- The two slots of the exponential buffers. -/
theorem eb_split (c : Dev nD) (f : Buf (Elt F) (ebL c)) : (ebL c ↦{fullShare} f) ⊢ iprop(EBany (F := F) c 0 ∗ EBany c 1) := by
  have e : (Finset.univ : Finset S2x512x1024.Idx) \ eslot 0 = eslot 1 := by
    ext i
    have hi : (i 0).val < 2 := (i 0).isLt
    simp only [eslot, Finset.mem_sdiff, Finset.mem_filter, Finset.mem_univ, true_and]
    omega
  unfold EBany
  iintro H
  ihave H := (pointsTo_split_subset (ℓ := ebL c) (S := Finset.univ) (I := eslot 0) (Finset.subset_univ _)).1 $$ H
  rw [e]
  icases H with ⟨H1, H2⟩
  isplitl [H1]
  · iexists f; iexact H1
  iexists f; iexact H2
/-- The two slots of the exponential buffers are the whole buffer. -/
theorem eb_join (c : Dev nD) : iprop(EBany (F := F) c 0 ∗ EBany c 1) ⊢ iprop(∃ f : Buf (Elt F) (ebL c), ebL c ↦{fullShare} f) := by
  have e : (Finset.univ : Finset S2x512x1024.Idx) \ eslot 0 = eslot 1 := by
    ext i
    have hi : (i 0).val < 2 := (i 0).isLt
    simp only [eslot, Finset.mem_sdiff, Finset.mem_filter, Finset.mem_univ, true_and]
    omega
  unfold EBany
  iintro ⟨⟨%f, H1⟩, ⟨%g, H2⟩⟩
  iexists ((eslot 0).piecewise f g)
  iapply (pointsTo_join_subset (ℓ := ebL c) (S := Finset.univ) (I := eslot 0) (Finset.subset_univ _))
  rw [e]
  isplitl [H1]
  · iexact H1
  iexact H2

/-- The statistics after the run: all rows, from the shares that came back. -/
theorem st_join (c : Dev nD) :
    iprop((stL c ↦{fullShare.left} sAll m) ∗ (pS m c true 3 4 ∗ pS m c false 3 4) ∗ bigSep Finset.univ (sendPay m c)) ⊢ iprop(∃ f : Buf (Elt F) (stL c), stL c ↦{fullShare} f) := by
  have hS : ∀ b, pS m c b 0 4 = rowP m c c.val (qS b 0) := by
    intro b
    have he : ex c b 0 = true := by generalize c = d; revert b d; decide +kernel
    have hs : slot c b 0 = c.val := by clear he; generalize c = d; revert b d; decide +kernel
    unfold pS pt rowP
    rw [if_pos he, if_pos rfl, hs]
  rw [show pS m c true 3 4 = rowX m c true 3 fullShare.right from pS_row m c true 2, show pS m c false 3 4 = rowX m c false 3 fullShare.right from pS_row m c false 2]
  have e1 : ∀ b, pS m c b 1 4 = rowX m c b 1 fullShare.right := fun b => pS_row m c b 0
  have e2 : ∀ b, pS m c b 2 4 = rowX m c b 2 fullShare.right := fun b => pS_row m c b 1
  have h6 : bigSep Finset.univ (sendPay m c) ⊢ iprop(pS m c false 0 4 ∗ pS m c true 0 4 ∗ pS m c false 1 4 ∗ pS m c true 1 4 ∗ pS m c false 2 4 ∗ pS m c true 2 4) := by
    refine BI.Entails.trans (pullT (fun x : Bool × Fin 3 => ((x.1, x.2, 4) : TK)) Finset.univ (fun _ => Finset.mem_univ _) (fun x y h => by cases x; cases y; cases h; rfl)) ?_
    rw [six]
    exact BI.Entails.refl _
  iintro ⟨HL, ⟨H5, H6⟩, HS⟩
  ihave HS := h6 $$ HS
  rw [hS, hS, e1, e1, e2, e2]
  icases HS with ⟨A0, A1, B0, B1, C0, C1⟩
  ihave HR := (pointsTo_share (ℓ := stL c) right_split).2 $$ [A0 A1]
  · isplitl [A0]
    · iexact A0
    · iexact A1
  ihave HR := (rows_all m c fullShare.right) $$ [HR B0 B1 C0 C1 H5 H6]
  · isplitl [HR]
    · iexact HR
    isplitl [B0]
    · iexact B0
    isplitl [B1]
    · iexact B1
    isplitl [C0]
    · iexact C0
    isplitl [C1]
    · iexact C1
    isplitl [H6]
    · iexact H6
    iexact H5
  iexists (sAll m)
  iapply (pointsTo_share (ℓ := stL c) full_split).2
  isplitl [HL]
  · iexact HL
  iexact HR

/-- `W`'s two shares. -/
theorem w_join (c : Dev nD) : iprop((wL c ↦{qW 0} wblk m c) ∗ (wL c ↦{qW 1} wblk m c)) ⊢ (wL c ↦{fullShare} wblk m c : sProp 𝕄) :=
  (pointsTo_share (ℓ := wL c) full_split).2
/-- The columns of `W` are held in two shares, one for each slot. -/
theorem w_split (c : Dev nD) : (wL c ↦{fullShare} wblk m c : sProp 𝕄) ⊢ iprop((wL c ↦{qW 0} wblk m c) ∗ (wL c ↦{qW 1} wblk m c)) :=
  (pointsTo_share (ℓ := wL c) full_split).1

/-- The result, once everything is finished. -/
theorem out_done (c : Dev nD) : OutP m c (Dn c 24) ⊢ (oL c ↦{fullShare} outAll m) := by
  unfold OutP
  iintro ⟨%f, %h, H⟩
  have e : f = outAll m := funext fun i => h i (Dn_all c (i 1).val (i 1).isLt)
  rw [e]
  iexact H
/-- At first no column of the result is known to be done. -/
theorem out_start (c : Dev nD) (f : Buf (Elt F) (oL c)) : (oL c ↦{fullShare} f) ⊢ OutP m c (Do c 0) := by
  unfold OutP
  iintro H
  iexists f
  isplitr
  · ipureintro
    intro i hi
    unfold Do at hi
    omega
  iexact H

/-! ## The semaphores -/

/-- The kernel's own semaphores: those of the transfers within a device, and those of the transfers between devices. -/
abbrev osem : Fin 5 ⊕ (Bool × TK) → SemLoc sig
  | .inl s => .dma ⟨1 + s.val, by have := s.isLt; show _ < 66; omega⟩
  | .inr bk => .dma (xS bk)

/-- The kernel's own semaphores of device `c` at zero. -/
abbrev Own0 (c : Dev nD) : sProp 𝕄 := Pipeline.ownSems0 (Ix := Unit) (Name := ℕ) (U := UU) (Lvl := ℕ) (Val := Elt F) (τ := τ) osem c

/-- The semaphores of the transfers within a device, unused. -/
def Zs (c : Dev nD) : sProp 𝕄 := iprop(Z0 c (wS 0) ∗ Z0 c (wS 1) ∗ Z0 c (eS 0) ∗ Z0 c (eS 1) ∗ Z0 c lS)

/-- They are the local ones, those of the send cells and those of the receive cells. -/
theorem own_eq (c : Dev nD) : Own0 (F := F) c = iprop(Zs c ∗ (bigSep Finset.univ fun k => semVal (sCell c k) 0) ∗ bigSep Finset.univ fun k => semVal (rCell c k) 0) := by
  unfold Own0 Pipeline.ownSems0
  rw [bigSep_univ_sum]
  have e1 : (bigSep Finset.univ fun a : Fin 5 => semVal ((c.tc : Thread nD τ), osem (.inl a)) 0) = Zs (F := F) c := by rw [five]; rfl
  have e2 : (bigSep Finset.univ fun b : Bool × TK => (semVal ((c.tc : Thread nD τ), osem (.inr b)) 0 : sProp 𝕄)) = iprop((bigSep Finset.univ fun k => semVal (sCell c k) 0) ∗ bigSep Finset.univ fun k => semVal (rCell c k) 0) := by
    rw [bigSep_univ_prod, two]; rfl
  rw [e1, e2]
  rfl

/-- The one semaphore outside the kernel's scope is the barrier. -/
theorem uns_eq (c : Dev nD) : (unscopedSems0 c : sProp 𝕄) = semVal (barCell c) 0 := by
  unfold unscopedSems0; rw [bigSep_eq_bigSepL_of_eq [SemLoc.reg barS] (by decide +kernel) (by decide +kernel)]; rfl

/-! ## What a device ends with -/

/-- The scoped buffers, whole again. -/
abbrev Scr (c : Dev nD) : sProp 𝕄 := iprop((∃ f : Buf (Elt F) (wbL c), wbL c ↦{fullShare} f) ∗ (∃ f : Buf (Elt F) (ebL c), ebL c ↦{fullShare} f) ∗ (∃ f : Buf (Elt F) (stL c), stL c ↦{fullShare} f))

/-- The arrays: `W`'s block as it was, the result computed. -/
abbrev Arr (c : Dev nD) : sProp 𝕄 := iprop((wL c ↦{fullShare} wblk m c) ∗ (oL c ↦{fullShare} outAll m))

/-- What a device ends with, put together: it owes nothing, its buffers are whole, its semaphores at zero. -/
theorem fin_exit (c : Dev nD) :
    FIN m c iprop(emp) ⊢ iprop((∃ W, owes (c : Thread nD τ) 0 W) ∗ (xL c ↦{fullShare} xstg m c) ∗ Arr m c ∗ unscopedSems0 c ∗ Own0 c ∗ Scr c) := by
  have eo : Owe (F := F) c 30 = iprop(∃ W, owes (c : Thread nD τ) 0 W) := by unfold Owe; rw [obl_end]
  have es : bigSep Finset.univ (SD m c) = iprop((bigSep Finset.univ fun k => semVal (sCell c k) 0) ∗ bigSep Finset.univ (sendPay m c)) := by
    rw [← bigSep_sep']; rfl
  have er : bigSep Finset.univ (RD (F := F) c) = bigSep Finset.univ fun k => semVal (rCell c k) 0 := rfl
  unfold FIN TT PE Keep WRdy ERdy
  rw [eo, es, er, own_eq, uns_eq]
  unfold Zs
  iintro ⟨HO, ⟨HS, HP⟩, HR, ⟨⟨E0, ZL⟩, Ho⟩, Hst, Hp3, ⟨⟨⟨W0, w0, Zw0⟩, ⟨W1, w1, Zw1⟩⟩, Ze0, ⟨E1, Ze1⟩, Hx, HB⟩, -⟩
  isplitl [HO]
  · iexact HO
  isplitl [Hx]
  · iexact Hx
  isplitl [w0 w1 Ho]
  · isplitl [w0 w1]
    · iapply (w_join m c)
      isplitl [w0]
      · iexact w0
      iexact w1
    · iapply (out_done m c)
      iexact Ho
  isplitl [HB]
  · iexact HB
  isplitl [HS HR Zw0 Zw1 Ze0 Ze1 ZL]
  · isplitl [Zw0 Zw1 Ze0 Ze1 ZL]
    · isplitl [Zw0]
      · iexact Zw0
      isplitl [Zw1]
      · iexact Zw1
      isplitl [Ze0]
      · iexact Ze0
      isplitl [Ze1]
      · iexact Ze1
      iexact ZL
    isplitl [HS]
    · iexact HS
    iexact HR
  isplitl [W0 W1]
  · iapply (wb_join c)
    isplitl [W0]
    · iexact W0
    iexact W1
  isplitl [E0 E1]
  · iapply (eb_join c)
    isplitl [E0]
    · iexact E0
    iexact E1
  iapply (st_join m c)
  isplitl [Hst]
  · iexact Hst
  isplitl [Hp3]
  · iexact Hp3
  iexact HP

end Cert.KernelProof

end
-- ==== Proof.Deal.lean ====
/-
What the launch deals the devices: the invariants of the cells, the tokens of the transfers each device pays for, and
the credit of the transfers it receives.
-/
module

public import proofs.«01_k».proof.Proof.Pieces

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-! ## Cells and tokens -/

/-- The cells of all the devices' barriers and transfers. -/
def ringCells : Finset (GSem nD τ sig) := Finset.univ.map ⟨kcell, kcell_injective⟩

/-- The tokens of a device's own cells: two of its barrier's, one of each transfer's two cells. -/
abbrev TJ : Type := Bool ⊕ (Bool × TK)
/-- The cell, round and duty of a token. -/
def tokOf : Dev nD × TJ → GSem nD τ sig × ℕ × Bool
  | (c, .inl b) => (barCell c, 0, b)
  | (c, .inr x) => (kcell (c, some x), 0, false)

/-- Different tokens are of different duties. -/
theorem tokOf_injective : Function.Injective tokOf := by
  rintro ⟨c, b | x⟩ ⟨c', b' | x'⟩ h
  · have h1 := kcell_injective (congrArg Prod.fst h)
    have h2 : b = b' := congrArg (fun y : GSem nD τ sig × ℕ × Bool => y.2.2) h
    have h3 : c = c' := congrArg Prod.fst h1
    rw [h2, h3]
  · exact absurd (congrArg Prod.snd (kcell_injective (congrArg Prod.fst h))) (by simp)
  · exact absurd (congrArg Prod.snd (kcell_injective (congrArg Prod.fst h))) (by simp)
  · have h1 := kcell_injective (congrArg Prod.fst h)
    have h2 : some x = some x' := congrArg Prod.snd h1
    have h3 : c = c' := congrArg Prod.fst h1
    rw [Option.some.inj h2, h3]

/-- The tokens of all the cells. -/
def ringToks : Finset (GSem nD τ sig × ℕ × Bool) := Finset.univ.map ⟨tokOf, tokOf_injective⟩

/-- The ghost state at launch: the pipeline's cells and tokens, and those of the transfers. -/
def u₀ : UU := (initOf (Pipeline.cells cfgs cellOf_inj) (Pipeline.launchToks cfgs cellOf_inj), (initOf ringCells ringToks, 1))

/-- A family over a device's cells: the barrier's, the send cells', the receive cells'. -/
theorem cells_split (Φ : CI → sProp 𝕄) :
    bigSep Finset.univ Φ = iprop(Φ none ∗ (bigSep Finset.univ fun k : TK => Φ (some (false, k))) ∗ bigSep Finset.univ fun k : TK => Φ (some (true, k))) := by
  have e1 : (Finset.univ : Finset CI) = insert none ((Finset.univ : Finset (Bool × TK)).map ⟨some, Option.some_injective _⟩) := by
    ext i
    cases i <;> simp
  rw [e1, ins (by simp), bigSep_map, bigSep_univ_prod, two]
  rfl

/-- The tokens of device `c`'s own cells. -/
def toks (c : Dev nD) : sProp 𝕄 := bigSep Finset.univ fun j : TJ => dutyTok ER (tokOf (c, j)).1 (tokOf (c, j)).2.1 (tokOf (c, j)).2.2

/-- They are its barrier's, its send cells' and its receive cells'. -/
theorem toks_eq (c : Dev nD) : (toks c : sProp 𝕄) = iprop((bigSep Finset.univ fun b : Bool => dutyTok ER (barCell c) 0 b)
    ∗ (bigSep Finset.univ fun k : TK => dutyTok ER (sCell c k) 0 false) ∗ bigSep Finset.univ fun k : TK => dutyTok ER (rCell c k) 0 false) := by
  unfold toks
  rw [bigSep_univ_sum, bigSep_univ_prod (fun x : Bool × TK => (dutyTok ER (tokOf (c, Sum.inr x)).1 (tokOf (c, Sum.inr x)).2.1 (tokOf (c, Sum.inr x)).2.2 : sProp 𝕄)),
    two (fun a : Bool => bigSep Finset.univ fun k : TK => (dutyTok ER (tokOf (c, Sum.inr (a, k))).1 (tokOf (c, Sum.inr (a, k))).2.1 (tokOf (c, Sum.inr (a, k))).2.2 : sProp 𝕄))]
  rfl

/-- The tokens of the duties a device pays. -/
def payT (c : Dev nD) : sProp 𝕄 := iprop((bigSep Finset.univ fun b : Bool => if nbr c b then dutyTok ER (barCell (peer c b)) 0 (!b) else iprop(emp))
    ∗ (bigSep Finset.univ fun k : TK => dutyTok ER (sCell c k) 0 false)
    ∗ bigSep Finset.univ fun k : TK => if act c k then dutyTok ER (rCell (peer c k.1) k) 0 false else iprop(emp))

/-- Two devices with the same neighbour in a direction are the same. -/
theorem peer_inj : ∀ c c' : Dev nD, ∀ b : Bool, nbr c b = true → nbr c' b = true → peer c b = peer c' b → c = c' := by decide +kernel
/-- A device that sends a transfer has a neighbour in that direction. -/
theorem act_nbr : ∀ (c : Dev nD) (k : TK), act c k = true → nbr c k.1 = true := by decide +kernel

/-- Every token goes to the device that pays it. -/
theorem toks_around : (bigSep Finset.univ fun c : Dev nD => (toks c : sProp 𝕄)) ⊢ bigSep Finset.univ fun c : Dev nD => payT c := by
  have h1 : (bigSep Finset.univ fun c : Dev nD => bigSep Finset.univ fun b : Bool => (dutyTok ER (barCell c) 0 b : sProp 𝕄))
      ⊢ bigSep Finset.univ fun c : Dev nD => bigSep Finset.univ fun b : Bool => if nbr c b then dutyTok ER (barCell (peer c b)) 0 (!b) else iprop(emp) := by
    rw [← bigSep_univ_prod (fun x : Dev nD × Bool => (dutyTok ER (barCell x.1) 0 x.2 : sProp 𝕄)),
      ← bigSep_univ_prod (fun x : Dev nD × Bool => (if nbr x.1 x.2 then dutyTok ER (barCell (peer x.1 x.2)) 0 (!x.2) else iprop(emp) : sProp 𝕄))]
    exact pull (fun x : Dev nD × Bool => (peer x.1 x.2, !x.2)) (fun x => nbr x.1 x.2) Finset.univ Finset.univ (fun _ _ _ => Finset.mem_univ _) (by
      rintro ⟨c, b⟩ - ⟨c', b'⟩ - a1 a2 h
      have hb : b = b' := by
        have := congrArg Prod.snd h
        revert this
        cases b <;> cases b' <;> simp
      subst hb
      rw [peer_inj c c' b a1 a2 (congrArg Prod.fst h)])
  have h2 : (bigSep Finset.univ fun c : Dev nD => bigSep Finset.univ fun k : TK => (dutyTok ER (rCell c k) 0 false : sProp 𝕄))
      ⊢ bigSep Finset.univ fun c : Dev nD => bigSep Finset.univ fun k : TK => if act c k then dutyTok ER (rCell (peer c k.1) k) 0 false else iprop(emp) := by
    rw [← bigSep_univ_prod (fun x : Dev nD × TK => (dutyTok ER (rCell x.1 x.2) 0 false : sProp 𝕄)),
      ← bigSep_univ_prod (fun x : Dev nD × TK => (if act x.1 x.2 then dutyTok ER (rCell (peer x.1 x.2.1) x.2) 0 false else iprop(emp) : sProp 𝕄))]
    exact pull (fun x : Dev nD × TK => (peer x.1 x.2.1, x.2)) (fun x => act x.1 x.2) Finset.univ Finset.univ (fun _ _ _ => Finset.mem_univ _) (by
      rintro ⟨c, k⟩ - ⟨c', k'⟩ - a1 a2 h
      have hk : k = k' := congrArg Prod.snd h
      subst hk
      rw [peer_inj c c' k.1 (act_nbr c k a1) (act_nbr c' k a2) (congrArg Prod.fst h)])
  rw [bigSep_congr (s := Finset.univ) (fun (c : Dev nD) _ => toks_eq (F := F) c)]
  unfold payT
  simp only [bigSep_sep']
  iintro ⟨H1, H2, H3⟩
  isplitl [H1]
  · iapply h1
    iexact H1
  isplitl [H2]
  · iexact H2
  iapply h2
  iexact H3

/-! ## The launch element -/

/-- What the launch element deals a device. -/
def G (c : Dev nD) : sProp 𝕄 :=
  iprop((bigSep Finset.univ fun i : CI => roundState ER (rd m) (kcell (c, i)) 0)
    ∗ (bigSep Finset.univ fun i : CI => atPos ER (kcell (c, i)) 0 ∅ 0) ∗ (bigSep Finset.univ fun i : CI => reached ER (kcell (c, i)) 0) ∗ toks c)

/-- The ghost state at launch, cut up among the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The invariants -/

/-- A device's semaphores at zero are its local ones and those of its cells. -/
theorem sems0 (c : Dev nD) : iprop(Own0 (F := F) c ∗ unscopedSems0 c) ⊢ iprop(Zs c ∗ bigSep Finset.univ fun i : CI => semVal (kcell (c, i)) 0) := by
  rw [own_eq, uns_eq, cells_split]
  iintro ⟨⟨HZ, HS, HR⟩, HB⟩
  isplitl [HZ]; · iexact HZ
  isplitl [HB]; · iexact HB
  isplitl [HS]; · iexact HS
  iexact HR

/-- A device's cells become invariants; it keeps its positions, its tokens and its local semaphores. -/
theorem core_alloc (c : Dev nD) :
    iprop(Own0 (F := F) c ∗ unscopedSems0 c ∗ G m c)
      ⊢ |={Set.univ}=> iprop((bigSep Finset.univ fun i : CI => iprop(∃ κ : ℕ, cellInv ER (rd m) κ (kcell (c, i))))
          ∗ (bigSep Finset.univ fun i : CI => atPos ER (kcell (c, i)) 0 ∅ 0) ∗ (bigSep Finset.univ fun i : CI => reached ER (kcell (c, i)) 0) ∗ toks c ∗ Zs c) := by
  unfold G
  iintro ⟨Hos, Hus, Hst, Hat, Hr, Htok⟩
  ihave Hv := (sems0 (F := F) c) $$ [Hos Hus]
  · isplitl [Hos] <;> iassumption
  icases Hv with ⟨HZ, Hv⟩
  imod (show iprop((bigSep Finset.univ fun i : CI => semVal (kcell (c, i)) 0) ∗ bigSep Finset.univ fun i : CI => roundState ER (rd m) (kcell (c, i)) 0)
      ⊢ (|={Set.univ}=> bigSep Finset.univ fun i : CI => iprop(∃ κ : ℕ, cellInv ER (rd m) κ (kcell (c, i))) : sProp 𝕄) from by
        rw [← bigSep_sep']
        exact (bigSep_mono fun i _ => (Rounds.body_intro ER (rd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact HZ

/-- What all the devices know: each cell's invariant, and that its round 0 has begun. -/
def records : sProp 𝕄 :=
  iprop((bigSep Finset.univ fun x : Dev nD × CI => cellInv ER (rd m) (K x) (kcell x)) ∗ bigSep Finset.univ fun x : Dev nD × CI => reached ER (kcell x) 0)

/-- This knowledge may be copied. -/
instance records_persistent : BI.Persistent (records m K) := by unfold records; infer_instance

/-- What is a device's own: its positions, the tokens it pays with, its local semaphores. -/
def linear (c : Dev nD) : sProp 𝕄 := iprop((bigSep Finset.univ fun i : CI => atPos ER (kcell (c, i)) 0 ∅ 0) ∗ payT c ∗ Zs c)

/-- What device `c` starts its program with: the knowledge, under some names of the invariants, and its own part. -/
def G' (c : Dev nD) : sProp 𝕄 := iprop(∃ K, records m K ∗ linear c)

/-- What can be shared may be handed to every member of a family. -/
theorem with_records {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices have allocated, dealt anew: the tokens go to the devices that pay with them. -/
theorem regroup :
    (bigSep Finset.univ fun c : Dev nD => iprop((bigSep Finset.univ fun i : CI => iprop(∃ κ : ℕ, cellInv ER (rd m) κ (kcell (c, i))))
          ∗ (bigSep Finset.univ fun i : CI => atPos ER (kcell (c, i)) 0 ∅ 0) ∗ (bigSep Finset.univ fun i : CI => reached ER (kcell (c, i)) 0) ∗ toks c ∗ Zs c) : sProp 𝕄)
      ⊢ bigSep Finset.univ (G' m) := by
  rw [bigSep_sep', bigSep_sep', bigSep_sep', bigSep_sep', ← bigSep_univ_prod (fun x : Dev nD × CI => iprop(∃ κ : ℕ, cellInv ER (rd m) κ (kcell x))),
    ← bigSep_univ_prod (fun x : Dev nD × CI => (reached ER (kcell x) 0 : sProp 𝕄))]
  iintro ⟨HI, Hat, #HR, Htok, HZ⟩
  ihave HK := (BI.bigSep_exists_pi Finset.univ (fun (x : Dev nD × CI) (κ : ℕ) => (cellInv ER (rd m) κ (kcell x) : sProp 𝕄))) $$ HI
  icases HK with ⟨%K, #HI⟩
  ihave Htk := (toks_around (F := F)) $$ Htok
  iapply (with_records (R := records m K) (Φ := linear (F := F)) (fun c _ => show iprop(records m K ∗ linear c) ⊢ G' m c from by
    unfold G'
    iintro H
    iexists K
    iexact H))
  isplitr
  · unfold records
    isplitl
    · iexact HI
    iexact HR
  unfold linear
  simp only [bigSep_sep']
  isplitl [Hat]; · iexact Hat
  isplitl [Htk]; · iexact Htk
  iexact HZ

/-- The global step: the semaphores of all the devices at once. -/
theorem glob : (bigSep Finset.univ fun c => iprop(Own0 (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

/-- A tally at one cell, read at any cell. -/
theorem tal (g g' : GSem nD τ sig) (n : ℕ) : (tallyAt g () n : CellTallies nD τ sig Unit) g' () = if g = g' then n else 0 := by
  by_cases h : g = g'
  · subst h
    rw [tallyAt_apply, if_pos rfl, if_pos ⟨rfl, rfl⟩]
  · rw [tallyAt_ne_cell (fun e => h e.symm), if_neg h]
    rfl

/-- What a device owes for one transfer, at any cell. -/
theorem owedOf_at (d c : Dev nD) (k' : TK) (i : CI) : owedOf d k' (kcell (c, i)) () = if act d k' = true ∧ (peer d k'.1, (some (true, k') : CI)) = (c, i) then NN k'.2.2 else 0 := by
  unfold owedOf
  by_cases h : act d k' = true
  · rw [if_pos h, tal]
    by_cases h2 : ((peer d k'.1, (some (true, k') : CI)) : Dev nD × CI) = (c, i)
    · rw [if_pos (congrArg kcell h2), if_pos ⟨h, h2⟩]
    · rw [if_neg (fun e => h2 (kcell_injective e)), if_neg (fun e => h2 e.2)]
  · rw [if_neg h, if_neg (fun e => h e.1)]
    rfl

/-- What it owes for an entry signal, at any cell. -/
theorem owedSig_at (d c : Dev nD) (b : Bool) (i : CI) : owedSig d b (kcell (c, i)) () = if nbr d b = true ∧ (peer d b, (none : CI)) = (c, i) then 1 else 0 := by
  unfold owedSig
  by_cases h : nbr d b = true
  · rw [if_pos h, tal]
    by_cases h2 : ((peer d b, (none : CI)) : Dev nD × CI) = (c, i)
    · rw [if_pos (congrArg kcell h2), if_pos ⟨h, h2⟩]
    · rw [if_neg (fun e => h2 (kcell_injective e)), if_neg (fun e => h2 e.2)]
  · rw [if_neg h, if_neg (fun e => h e.1)]
    rfl

/-- What it owes for all its transfers, at any cell. -/
theorem obl_at (d c : Dev nD) (i : CI) : obl d 0 (kcell (c, i)) () = ∑ k' : TK, if act d k' = true ∧ (peer d k'.1, (some (true, k') : CI)) = (c, i) then NN k'.2.2 else 0 := by
  unfold obl
  rw [Finset.sum_apply, Finsupp.finset_sum_apply]
  exact Finset.sum_congr rfl fun k' _ => by rw [if_pos (Nat.zero_le _), owedOf_at]

/-- What it owes at launch, at any cell: for its transfers and for its two signals. -/
theorem O₀_at (d c : Dev nD) (i : CI) : O₀ d (kcell (c, i)) () = obl d 0 (kcell (c, i)) () + owedSig d false (kcell (c, i)) () + owedSig d true (kcell (c, i)) () := rfl

/-- What it owes at launch to a receive cell. -/
theorem O₀_recv (d c : Dev nD) (k : TK) : O₀ d (rCell c k) () = if act d k = true ∧ peer d k.1 = c then NN k.2.2 else 0 := by
  rw [O₀_at, owedSig_at, owedSig_at, if_neg (fun e => by simpa using congrArg Prod.snd e.2), if_neg (fun e => by simpa using congrArg Prod.snd e.2), obl_at,
    Finset.sum_eq_single k]
  · by_cases h : act d k = true ∧ peer d k.1 = c
    · rw [if_pos h, if_pos ⟨h.1, by rw [h.2]⟩]; rfl
    · rw [if_neg h, if_neg (fun e => h ⟨e.1, congrArg Prod.fst e.2⟩)]
  · intro k' _ hk
    exact if_neg (fun e => hk (by simpa using congrArg Prod.snd e.2))
  · exact fun h => absurd (Finset.mem_univ _) h

/-- What it owes at launch to a barrier. -/
theorem O₀_bar (d c : Dev nD) : O₀ d (barCell c) () = (if nbr d false = true ∧ peer d false = c then 1 else 0) + (if nbr d true = true ∧ peer d true = c then 1 else 0) := by
  rw [O₀_at, owedSig_at, owedSig_at, obl_at, Finset.sum_eq_zero (fun k' _ => if_neg (fun e => by simpa using congrArg Prod.snd e.2)), Nat.zero_add]
  congr 1 <;> exact if_congr ⟨fun e => ⟨e.1, congrArg Prod.fst e.2⟩, fun e => ⟨e.1, by rw [e.2]⟩⟩ rfl rfl

/-- A barrier is owed one unit by each neighbour. -/
theorem sum_bar : ∀ c : Dev nD, (∑ d : Dev nD, ((if nbr d false = true ∧ peer d false = c then 1 else 0) + (if nbr d true = true ∧ peer d true = c then 1 else 0))) = nNbr c := by
  decide +kernel
/-- A transfer that a device receives is owed by exactly one device. -/
theorem sum_recv : ∀ (c : Dev nD) (k : TK), (Finset.univ.filter fun d : Dev nD => act d k = true ∧ peer d k.1 = c).card = if ract c k then 1 else 0 := by
  decide +kernel

/-- The credit on a barrier at launch: one for each neighbour. -/
theorem launch_bar (c : Dev nD) :
    tallyOn (barCell c) (launchCredit (Pipeline.owing O₀) 0 (barCell c)) = (tallyAt (barCell c) () (nNbr c) : CellTallies nD τ sig Unit) := by
  unfold tallyAt
  refine congrArg _ (Finsupp.ext fun u => ?_)
  cases u
  rw [Pipeline.launchCredit_owing, Finsupp.single_eq_same, Finset.sum_congr rfl fun d _ => O₀_bar d c]
  exact sum_bar c

/-- The credit on a receive cell at launch: the words of the transfer. -/
theorem launch_recv (c : Dev nD) (k : TK) (h : ract c k = true) :
    tallyOn (rCell c k) (launchCredit (Pipeline.owing O₀) 0 (rCell c k)) = (tallyAt (rCell c k) () (NN k.2.2) : CellTallies nD τ sig Unit) := by
  unfold tallyAt
  refine congrArg _ (Finsupp.ext fun u => ?_)
  cases u
  rw [Pipeline.launchCredit_owing, Finsupp.single_eq_same, Finset.sum_congr rfl fun d _ => O₀_recv d c k, ← Finset.sum_filter, Finset.sum_const, sum_recv, if_pos h, one_smul]

/-- The credit a device starts with: its neighbours' entry signals and the transfers it receives. -/
theorem creds (c : Dev nD) :
    (Pipeline.launchCred O₀ c : sProp 𝕄)
      ⊢ iprop(cred (tallyAt (barCell c) () (nNbr c)) ∗ bigSep Finset.univ fun k : TK => if ract c k then cred (tallyAt (rCell c k) () (NN k.2.2)) else iprop(emp)) := by
  have h : bigSep (Finset.univ.erase (SemLoc.reg barS)) (fun sm : SemLoc sig => (cred (tallyOn ((c : Thread nD τ), sm) (launchCredit (Pipeline.owing O₀) 0 ((c : Thread nD τ), sm))) : sProp 𝕄))
      ⊢ bigSep Finset.univ fun k : TK => if ract c k then cred (tallyAt (rCell c k) () (NN k.2.2)) else iprop(emp) := by
    refine BI.Entails.trans (pull (fun k : TK => csem (some (true, k))) (fun k => ract c k) Finset.univ _
      (fun k _ _ => Finset.mem_erase.mpr ⟨fun e => absurd (csem_injective (show csem (some (true, k)) = csem none from e)) (by simp), Finset.mem_univ _⟩)
      (fun i _ j _ _ _ e => by simpa using csem_injective e)) (bigSep_mono fun k _ => ?_)
    by_cases h : ract c k = true
    · rw [if_pos h, if_pos h, ← launch_recv c k h]
      exact BI.Entails.refl _
    · rw [if_neg h, if_neg h]
      exact BI.Entails.refl _
  unfold Pipeline.launchCred
  rw [bigSep_univ_at _ (SemLoc.reg barS)]
  rw [← launch_bar]
  exact sep_mono_right h

end Cert.KernelProof

end
-- ==== Proof.Launch.lean ====
/-
The launch: a device's program started from the memory and the dealt cells, and the run of the four devices.
-/
module

public import proofs.«01_k».proof.Proof.Deal
public import Idealize.ShloMosaic.Lib.Pipeline.CollectiveSegs

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat BodyObligation)

variable (K : Dev nD × CI → ℕ)

/-! ## What a device starts with -/

/-- The token and the landing places that a device pays an entry signal with. -/
theorem sig_intro (c : Dev nD) (b : Bool) :
    iprop((if nbr c b then dutyTok ER (barCell (peer c b)) 0 (!b) else iprop(emp)) ∗ (if nbr c b then barPay (F := F) (peer c b) (!b) else iprop(emp))) ⊢ sigRes (F := F) c b := by
  unfold sigRes
  by_cases h : nbr c b = true
  · rw [if_pos h, if_pos h, if_pos h]
  · rw [if_neg h, if_neg h, if_neg h]
    iintro -
    iempintro

/-- What a device needs for one transfer that it sends. -/
theorem sb_intro (c : Dev nD) (k : TK) :
    iprop(atPos ER (sCell c k) 0 ∅ 0 ∗ dutyTok ER (sCell c k) 0 false ∗ (if act c k then dutyTok ER (rCell (peer c k.1) k) 0 false else iprop(emp))) ⊢ SB0 (F := F) c k := by
  unfold SB0
  by_cases h : act c k = true
  · rw [if_pos h, if_pos h]
  · rw [if_neg h, if_neg h]
    iintro ⟨H, -⟩
    isplitl [H]
    · iexact H
    iempintro

/-- The same of all the transfers. -/
theorem sbs (c : Dev nD) :
    iprop((bigSep Finset.univ fun k : TK => atPos ER (sCell c k) 0 ∅ 0) ∗ (bigSep Finset.univ fun k : TK => dutyTok ER (sCell c k) 0 false)
      ∗ bigSep Finset.univ fun k : TK => if act c k then dutyTok ER (rCell (peer c k.1) k) 0 false else iprop(emp)) ⊢ bigSep Finset.univ (SB0 (F := F) c) := by
  rw [← bigSep_sep', ← bigSep_sep']
  exact bigSep_mono fun k _ => sb_intro c k

/-- What a device needs for all the transfers that it receives. -/
theorem rbs (c : Dev nD) :
    iprop((bigSep Finset.univ fun k : TK => atPos ER (rCell c k) 0 ∅ 0) ∗ bigSep Finset.univ fun k : TK => if ract c k then cred (tallyAt (rCell c k) () (NN k.2.2)) else iprop(emp))
      ⊢ bigSep Finset.univ (RB (F := F) c) := by
  rw [← bigSep_sep']
  exact bigSep_mono fun k _ => by unfold RB; exact BI.Entails.refl _

/-- The places a device has of the exponentials and the statistics: its own, and those it lends its neighbours. -/
theorem places_split (c : Dev nD) (f : Buf (Elt F) (gL c)) (f' : Buf (Elt F) (stL c)) :
    iprop((gL c ↦{fullShare} f) ∗ stL c ↦{fullShare} f')
      ⊢ iprop((JJ c ∗ SRow c) ∗ (if nbr c true then barPay (F := F) (peer c true) false else iprop(emp)) ∗ (if nbr c false then barPay (F := F) (peer c false) true else iprop(emp))) := by
  refine BI.Entails.trans (places c f f') ?_
  rw [bigSep_univ_at _ (c : Fin 4)]
  exact BI.Laws.sep_mono (own_places c) (BI.Entails.trans (others c) (gifts c))

/-- The launch's part. -/
def start (c : Dev nD) : sProp 𝕄 :=
  iprop(G' m c ∗ levAts L lv ∗ Pipeline.launchCred O₀ c ∗ (wL c ↦{fullShare} wblk m c) ∗ (oL c ↦{fullShare} m (oL c)) ∗ (gL c ↦{fullShare} m (gL c)))

/-- A device's program can start. -/
theorem ini (c : Dev nD) :
    iprop((start m c ∗ Scr c) ∗ (∃ W, owes (c : Thread nD τ) (O₀ c) W) ∗ (xL c ↦{fullShare} xstg m c)) ⊢ iprop(∃ K, INI m K c iprop(emp)) := by
  unfold start G' records linear payT Scr Zs
  iintro ⟨⟨⟨⟨%K, ⟨HI, HR⟩, Hat, ⟨Ht1, Ht2, Ht3⟩, Z1, Z2, Z3, Z4, Z5⟩, Hl, Hc, HW, HO, HG⟩, ⟨%f1, HB1⟩, ⟨%f2, HB2⟩, ⟨%f3, HB3⟩⟩, Ho, Hx⟩
  iexists K
  ihave Hc' := (creds (F := F) c) $$ Hc
  icases Hc' with ⟨Hc1, Hc2⟩
  ihave Hat' := (Entails.of_eq (cells_split (F := F) fun i => atPos ER (kcell (c, i)) 0 ∅ 0)) $$ Hat
  icases Hat' with ⟨Ha1, Ha2, Ha3⟩
  ihave Hp := (places_split c (m (gL c)) f3) $$ [HG HB3]
  · isplitl [HG] <;> iassumption
  icases Hp with ⟨⟨HJ, HS⟩, Hg1, Hg2⟩
  ihave Hwb := (wb_split c f1) $$ HB1
  icases Hwb with ⟨Hwb0, Hwb1⟩
  ihave Heb := (eb_split c f2) $$ HB2
  icases Heb with ⟨Heb0, Heb1⟩
  ihave Hw := (w_split m c) $$ HW
  icases Hw with ⟨Hw0, Hw1⟩
  ihave Hout := (out_start m c (m (oL c))) $$ HO
  ihave Ht1' := (Entails.of_eq (two (F := F) fun b => if nbr c b then dutyTok ER (barCell (peer c b)) 0 (!b) else iprop(emp))) $$ Ht1
  icases Ht1' with ⟨Htf, Htt⟩
  unfold INI S0 Recs
  isplitl [HI HR Hl]
  · isplitl [HI]; · iexact HI
    isplitl [HR]; · iexact HR
    iexact Hl
  isplitl [Ho]; · iexact Ho
  isplitl [Htt Hg1]
  · iapply (sig_intro c true)
    isplitl [Htt]; · iexact Htt
    iexact Hg1
  isplitl [Htf Hg2]
  · iapply (sig_intro c false)
    isplitl [Htf]; · iexact Htf
    iexact Hg2
  isplitl [Hc1]; · iexact Hc1
  isplitl [Ha1]; · iexact Ha1
  isplitl [Ha2 Ht2 Ht3]
  · iapply (sbs c)
    isplitl [Ha2]; · iexact Ha2
    isplitl [Ht2]; · iexact Ht2
    iexact Ht3
  isplitl [Ha3 Hc2]
  · iapply (rbs c)
    isplitl [Ha3]; · iexact Ha3
    iexact Hc2
  iapply (show iprop((WRdy m c 0 ∗ WRdy m c 1) ∗ (ERdy c 0 ∗ ERdy c 1) ∗ (xL c ↦{fullShare} xstg m c) ∗ JJ c ∗ iprop(emp) ∗ (SRow c ∗ (Z0 c lS ∗ OutP m c (Do c 0)) ∗ iprop(emp)))
    ⊢ GS m c ![WRdy m c 0, WRdy m c 1] ![ERdy c 0, ERdy c 1] (JJ c) iprop(emp) iprop(SRow c ∗ (Z0 c lS ∗ OutP m c (Do c 0)) ∗ iprop(emp)) from BI.Entails.refl _)
  unfold WRdy ERdy
  isplitl [Hwb0 Hwb1 Hw0 Hw1 Z1 Z2]
  · isplitl [Hwb0 Hw0 Z1]
    · isplitl [Hwb0]; · iexact Hwb0
      isplitl [Hw0]; · iexact Hw0
      iexact Z1
    · isplitl [Hwb1]; · iexact Hwb1
      isplitl [Hw1]; · iexact Hw1
      iexact Z2
  isplitl [Heb0 Heb1 Z3 Z4]
  · isplitl [Heb0 Z3]
    · isplitl [Heb0]; · iexact Heb0
      iexact Z3
    · isplitl [Heb1]; · iexact Heb1
      iexact Z4
  isplitl [Hx]; · iexact Hx
  isplitl [HJ]; · iexact HJ
  isplitr
  · iempintro
  isplitl [HS]; · iexact HS
  isplitl [Z5 Hout]
  · isplitl [Z5]; · iexact Z5
    iexact Hout
  iempintro

/-! ## The pipeline's data -/

variable (ρ : Dev nD → PrngReg)

/-- What a device holds when its body begins. -/
def Φ₀ (c : Dev nD) : sProp 𝕄 := iprop(start m c ∗ Scr c)
/-- What it holds when its body has ended. -/
def Φ₁ (c : Dev nD) : sProp 𝕄 := iprop(Arr m c ∗ unscopedSems0 c ∗ Own0 c ∗ Scr c)

/-- The pipeline's data: the arrays at entry, the staged `x`, and what is owed before and after the one step. -/
def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- To own a whole buffer at some contents is to hold its place at them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body. -/
def bodyPre (c : Dev nD) : sProp 𝕄 :=
  iprop(Φ₀ m c ∗ (dats m 0 c).owesAt () t0_0.castSucc ∗ (∃ d, stg c cc0_stg0_0 ((dats m 0 c).before (0 : Fin 1) t0_0 d)))
/-- What the pipeline wants back from it. -/
def bodyPost (c : Dev nD) : sProp 𝕄 :=
  iprop(Φ₁ m c ∗ (dats m 0 c).owesAt () t0_0.succ ∗ stg c cc0_stg0_0 (xstg m c))

/-- What the device ends with is what the pipeline wants back. -/
theorem body_post (c : Dev nD) : FIN m c iprop(emp) ⊢ bodyPost m c := by
  suffices h : iprop((∃ W, owes (c : Thread nD τ) 0 W) ∗ (xL c ↦{fullShare} xstg m c) ∗ Arr m c ∗ unscopedSems0 c ∗ Own0 c ∗ Scr c) ⊢ bodyPost m c from BI.Entails.trans (fin_exit m c) h
  unfold bodyPost Φ₁ Dat.owesAt Pipeline.owesWithin
  rw [show (dats m 0 c).owed t0_0.succ = 0 from rfl]
  iintro ⟨⟨%W, HO⟩, Hx, HA⟩
  isplitl [HA]; · iexact HA
  isplitl [HO]
  · iexists W
    isplitr
    · ipureintro
      exact fun _ _ => Or.inl trivial
    iexact HO
  iexists _
  isplitr
  · ipureintro
    rfl
  iexact Hx

/-- What the pipeline hands the body is what the device begins with. -/
theorem body_pre (c : Dev nD) : bodyPre m c ⊢ iprop(∃ K, INI m K c iprop(emp)) := by
  unfold bodyPre Dat.owesAt Pipeline.owesWithin
  rw [show (dats m 0 c).owed t0_0.castSucc = O₀ c from rfl]
  iintro ⟨HΦ, ⟨%W, %hW, HO⟩, ⟨%d, %g, %hg, Hx⟩⟩
  have hx : g = xstg m c := by rw [hg]; unfold Dat.before; rw [if_pos (fetch0_0 t0_0)]; rfl
  subst hx
  iapply (ini m c)
  unfold Φ₀
  isplitl [HΦ]; · iexact HΦ
  isplitl [HO]
  · iexists W
    iexact HO
  iexact Hx

/-- The body, from what the pipeline hands it, ends with what the pipeline wants back. -/
theorem body_sound (c : Dev nD) : bodyPre m c ⊢ WP c (cc0_body xM (Memref.isWhole_whole _) wM (Memref.isWhole_whole _) oM (Memref.isWhole_whole _) gM (Memref.isWhole_whole _)
    wbM (Memref.isWhole_whole _) ebM (Memref.isWhole_whole _) stM (Memref.isWhole_whole _)
    cc0_scratch3 cc0_scratch4 cc0_scratch5 cc0_scratch6 cc0_scratch7 cc0_scratch8 cc0_scratch9 cc0_scratch10 cc0_scratch11 cc0_scratch12 cc0_scratch13) (fun _ => bodyPost m c) := by
  iintro H0
  ihave H := (body_pre m c) $$ H0
  icases H with ⟨%K, H⟩
  iapply (body_run m K c (body_post m c))
  iexact H

/-- So the pipeline's obligation for its one step is met. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_sound m c

/-! ## The launch -/

/-- The kernel's semaphores are its own, and not the pipeline's. -/
theorem ownSemFacts : Pipeline.OwnSemFacts cfg0.spec osem := by decide +kernel

/-- Every window is held whole. -/
theorem share_eq (c : Dev nD) (w : Fin cfg0.W) : (dats m 0 c).share w = fullShare := by unfold Dat.share; split <;> rfl

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hw, Ho, Hg⟩, Hlev, Hcr, -, HG⟩
  imodintro
  unfold start
  isplitl
  · isplitl [HG]; · iexact HG
    isplitl [Hlev]; · iexact Hlev
    isplitl [Hcr]; · iexact Hcr
    isplitl [Hw]; · iexact Hw
    isplitl [Ho]; · iexact Ho
    iexact Hg
  · iempintro

/-- With the scoped buffers it is what the body begins with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scr
  iintro ⟨Hs, -, Hr⟩
  isplitl [Hs]; · iexact Hs
  iexact Hr

/-- What the body ends with gives back the scoped buffers and the semaphores. -/
theorem phi1_exit (c : Dev nD) :
    (dats m 0 c).Φ (Fin.last cfg0.N) ⊢ iprop((unscopedSems0 c ∗ Arr m c) ∗ Pipeline.ownSems0 osem c ∗ Pipeline.scopedRest cfg0.spec c) := by
  rw [show (dats m 0 c).Φ (Fin.last cfg0.N) = Φ₁ m c from rfl, scopedRest0_eq]
  unfold Φ₁ Scr
  iintro ⟨HA, HU, HO, HS⟩
  isplitl [HU HA]
  · isplitl [HU] <;> iassumption
  isplitl [HO]; · iexact HO
  iexact HS

/-- The pipeline's own waits are below everything that a device owes. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_O₀ c _ (by fin_cases w; fin_cases s; decide)
    · rw [show (dats m 0 c).owed ⟨_ + 1, ht⟩ = 0 from rfl, MayWait_zero]
      iintro -
      iempintro

/-- What the final memory is read to hold. -/
def QY (c : Dev nD) (s : MemSt nD τ sig (Elt F)) : Prop :=
  (∀ sm : SemLoc sig, sm.isScoped .tc = false → s.sem ((c.tc : Thread nD τ), sm) = 0) ∧ s.mem (wL c) = wblk m c ∧ s.mem (oL c) = outAll m

/-- At the end a device's memory has its columns of `W` unchanged, the result, and its semaphores outside the scope at zero. -/
theorem read_all (c : Dev nD) (s' : Phys nD τ sig (Elt F)) :
    iprop((unscopedSems0 c ∗ Arr m c) ∗ emp ∗ SI s') ⊢ |={Set.univ}=> iprop(⌜QY m c s'.mem⌝ ∗ SI s') := by
  unfold Arr
  iintro ⟨⟨Hu, Hw, Ho⟩, -, HSI⟩
  icombine HSI Hw gives %hw
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hw, Buf.eq_of_forall_mem_univ ho⟩
  iexact HSI

/-! ## The run -/

set_option maxRecDepth 8000 in
/-- For any float values, from any memory with zero counters: every weakly fair execution of the four devices
    terminates, with the arguments unchanged, the result on every device the whole quotient, and every counter at zero. -/
theorem run_main : θ_run defs (onTc (τ := τ) (main (F := F))) ⟨m, fun _ => 0, ρ⟩ (fun r =>
    (∀ c : Dev nD, r.2.mem ((c.tc : Thread nD τ).loc main_v1_0) = outAll m
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb _ _ _) $$ HX
      icases HX' with ⟨HX, -⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ Arr m c)) (Z := fun _ => iprop(emp))
    (hX := start_intro m ρ) (hin := phi0_intro m) (hout := phi1_exit m)
    (QY := QY m) (hY := read_all m)
    (hQ := fun _ h hs => ⟨fun c => ⟨(h c).2.2.2.2, ((h c).1 (0 : Fin 1)).trans ((dats (F := F) m 0 c).arrAt_in (0 : Fin 1) rfl _), (h c).2.2.2.1⟩, sem_eq_zero hs fun c => (h c).2.2.1⟩)

end Cert.KernelProof

end
-- ==== Proof.Frames.lean ====
/-
The runs of the three programs, read at the argument arrays and the semaphores.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem Cert.KernelProof

/-- The two programs have one table of bodies, -/
theorem same_defs₀ : Cert.Kernel.defs₀ (F := Bits) = Cert.KernelIdeal.defs₀ (F := Bits) := by
  unfold Cert.Kernel.defs₀ Cert.KernelIdeal.defs₀
  refine congrArg Defs.onTc ?_
  funext l x
  rcases l with ⟨_ | _, h⟩
  · rfl
  · exact absurd h (by omega)
/-- and one table of labels. -/
theorem same_defs : Cert.Kernel.defs (F := Bits) = Cert.KernelIdeal.defs (F := Bits) := by
  unfold Cert.Kernel.defs Cert.KernelIdeal.defs
  rw [same_defs₀]
  rfl

/-- The kernel as printed runs, with its arguments unchanged and every counter at zero: its text is the idealized one's. -/
theorem frame_kernel : Cert.quiescent_Kernel := fun m ρ _ => by
  rw [same_defs]
  exact (θ_run (Cert.KernelIdeal.defs (F := Bits)) _ _).mono (fun _ h => ⟨fun c => (h.1 c).2, h.2⟩) (run_main (F := Bits) m ρ)

/-- So does the idealized kernel. -/
theorem frame_ideal : Cert.quiescent_KernelIdeal := fun m ρ _ =>
  (θ_run (Cert.KernelIdeal.defs (F := Ideal)) _ _).mono (fun _ h => ⟨fun c => (h.1 c).2, h.2⟩) (run_main (F := Ideal) m ρ)

/-- The reference runs on its one device; it has no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Proof

end
-- ==== Proof.Softmax.lean ====
/-
The arithmetic of the comparison: a softmax of finite numbers does not depend on what is subtracted from them
first, and a product with the reciprocal of the sum is a quotient by it.
-/
module

public import Idealize.ShloMosaic.PureOps.Ideal
public import Idealize.ShloMosaic.PureOps.Ideal.Laws
public import Idealize.ShloMosaic.Lib.IdealHost

@[expose] public section

noncomputable section

namespace Cert.Softmax

open Idealize.ShloMosaic
open scoped BigOperators

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, at least one, is a real. -/
theorem fold_max_real {n : ℕ} (hn : 0 < n) (l : Fin n → ℝ) :
    ∃ M : ℝ, Finset.univ.fold max (⊥ : EReal) (fun k => (l k : EReal)) = (M : EReal) := by
  have hb : (⊥ : EReal) < Finset.univ.fold max (⊥ : EReal) (fun k => (l k : EReal)) :=
    (Finset.lt_fold_max _).2 (.inr ⟨⟨0, hn⟩, Finset.mem_univ _, EReal.bot_lt_coe _⟩)
  have ht : Finset.univ.fold max (⊥ : EReal) (fun k => (l k : EReal)) < ⊤ :=
    (Finset.fold_max_lt _).2 ⟨bot_lt_top, fun k _ => EReal.coe_lt_top _⟩
  exact ⟨_, (EReal.coe_toReal ht.ne hb.ne').symm⟩

/-- A quotient of reals whose divisor is not zero. -/
theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The two forms of a row's softmax agree. -/
theorem row {n : ℕ} (l : Fin n → ℝ) (M : ℝ) (j : Fin n) :
    Ideal.exp (l j : EReal) * Ideal.div 1 (∑ i, Ideal.exp (l i : EReal))
      = Ideal.div (Ideal.exp ((l j : EReal) - (M : EReal))) (0 + ∑ i, Ideal.exp ((l i : EReal) - (M : EReal))) := by
  have h1 : (∑ i, Ideal.exp (l i : EReal)) = ((∑ i, Real.exp (l i) : ℝ) : EReal) := (coe_sum _ _).symm
  have h2 : (∑ i, Ideal.exp ((l i : EReal) - (M : EReal))) = ((∑ i, Real.exp (l i - M) : ℝ) : EReal) := by
    rw [coe_sum]; exact Finset.sum_congr rfl fun i _ => by rw [← EReal.coe_sub]; rfl
  have hp : ∀ g : Fin n → ℝ, 0 < ∑ i, Real.exp (g i) := fun g =>
    Finset.sum_pos (fun i _ => Real.exp_pos _) ⟨j, Finset.mem_univ j⟩
  have e1 := hp l
  have e2 := hp fun i => l i - M
  rw [zero_add, h1, h2, ← EReal.coe_sub, show Ideal.exp ((l j : ℝ) : EReal) = ((Real.exp (l j) : ℝ) : EReal) from rfl,
    show Ideal.exp ((l j - M : ℝ) : EReal) = ((Real.exp (l j - M) : ℝ) : EReal) from rfl,
    show (1 : EReal) = ((1 : ℝ) : EReal) from rfl, div_real _ _ e1.ne', div_real _ _ e2.ne', ← EReal.coe_mul]
  congr 1
  have hs : ∑ i, Real.exp (l i - M) = (∑ i, Real.exp (l i)) / Real.exp M := by
    rw [Finset.sum_div]; exact Finset.sum_congr rfl fun i _ => Real.exp_sub _ _
  have hM := Real.exp_pos M
  rw [hs, Real.exp_sub]
  field_simp

/-- A sum over `a * b` positions, taken `b` at a time. -/
theorem sum_split (n a b : ℕ) (h : n = a * b) (f : ℕ → EReal) :
    ∑ j : Fin n, f j.val = ∑ i : Fin a, ∑ j : Fin b, f (b * i.val + j.val) := by
  subst h
  rw [← finProdFinEquiv.sum_comp, Fintype.sum_prod_type]
  refine Finset.sum_congr rfl fun i _ => Finset.sum_congr rfl fun j _ => congrArg f ?_
  show j.val + b * i.val = _
  omega

/-- A product of finite matrices is finite. -/
theorem dot_real {n : ℕ} (f g : Fin n → EReal) (hf : ∀ k, f k ≠ ⊤ ∧ f k ≠ ⊥) (hg : ∀ k, g k ≠ ⊤ ∧ g k ≠ ⊥) :
    ∃ r : ℝ, ∑ k, f k * g k = (r : EReal) := by
  refine ⟨∑ k, (f k).toReal * (g k).toReal, ?_⟩
  rw [coe_sum]
  exact Finset.sum_congr rfl fun k _ => by
    rw [EReal.coe_mul, EReal.coe_toReal (hf k).1 (hf k).2, EReal.coe_toReal (hg k).1 (hg k).2]

end Cert.Softmax

end
-- ==== Proof.KernelValue.lean ====
/-
The kernel's result over the extended reals: each entry is an exponential times the reciprocal of its row's sum.
-/
module

public import proofs.«01_k».proof.Proof.Base
public import proofs.«01_k».proof.Proof.Softmax
public import Idealize.ShloMosaic.Lib.Pointwise
public import Idealize.ShloMosaic.Lib.Layout

@[expose] public section

noncomputable section

namespace Cert.KernelValue

open Cert.KernelIdeal Cert.KernelIdeal.Gen
open Idealize.ShloMosaic
open Cert.KernelProof (xstg wblk wT w3 eT sAcc dev gAll sAll rV outAll)
open scoped BigOperators

variable (m : (ℓ : Loc nD τ sig) → Buf (Elt Ideal) ℓ)

/-- An index given by two numbers, as an index given by two coordinates. -/
theorem ix_eq {a b : ℕ} (i j : ℕ) (ha : 0 < a) (hb : 0 < b) :
    KernelProof.ix2 i j ha hb = ix2 ⟨i % a, Nat.mod_lt _ ha⟩ ⟨j % b, Nat.mod_lt _ hb⟩ := by
  exact eq_ix2 _

/-- An entry of a tile of the exponentials. -/
theorem eT_apply (c : Dev nD) (t : ℕ) (r : Fin 512) (l : Fin 1024) :
    eT m c t (ix2 r l) = Ideal.exp (∑ k : Fin 1024, xstg m c (ix2 r k) * wT m c t (ix2 k l)) := by
  unfold eT w3
  pointwise [k0_pay34]

/-- A device's row sums after `t` tiles. -/
theorem sAcc_apply (c : Dev nD) (r : Fin 512) (t : ℕ) :
    sAcc m c t (ix1 r) = ∑ s : Fin t, ∑ l : Fin 1024, eT m c s.val (ix2 r l) := by
  induction t with
  | zero =>
    unfold sAcc
    pointwise [k0_pay33]
    simp
  | succ t ih =>
    rw [Fin.sum_univ_castSucc]
    show k0_pay36 (sAcc m c t) (xstg m c) (w3 m c t) (ix1 r) = _
    have : eT m c t = k0_pay34 (xstg m c) (w3 m c t) := rfl
    pointwise [k0_pay36]
    rw [← this, ih]
    rfl

/-- The reciprocal of a row's total. -/
theorem rV_apply (r : Fin 512) :
    rV m (ix2 r 0) = Ideal.div 1 (∑ d : Fin 4, sAcc m (dev d.val) 8 (ix1 r)) := by
  unfold rV sAll
  pointwise [k0_pay63, k0_pay62]
  refine congrArg (Ideal.div 1) (Finset.sum_congr rfl fun d _ => congrArg (sAcc m (dev d.val) 8) (congrArg ix1 (Fin.ext ?_)))
  exact Nat.mod_eq_of_lt r.isLt

/-- The window's block of `x` is the array. -/
theorem xstg_eq (c : Dev nD) : xstg m c = m ((c.tc : Thread nD τ).loc main_arg0) :=
  Memref.read_access_unit_zero (Elt Ideal) main_arg0 (funext fun _ => Nat.zero_mul _) _ _

/-- A device's block of the weights is a quarter of their columns. -/
theorem tiles : Layout.Tiles ⟨2, ![1024, 8192]⟩ ⟨2, ![1024, 32768]⟩ 1 4 := by decide

/-- The logits of the whole product, by the column. -/
def logit (X : Fin 512 → Fin 1024 → EReal) (Y : Fin 1024 → Fin 32768 → EReal) (r : Fin 512) (j : ℕ) : EReal :=
  ∑ k : Fin 1024, X r k * Y k ⟨j % 32768, Nat.mod_lt _ (by decide)⟩

section

variable (X : Vec Ideal S512x1024 .f32) (Y : (⟨2, ![1024, 32768]⟩ : Shape).Idx → EReal)
variable (hX : ∀ c : Dev nD, m ((c.tc : Thread nD τ).loc main_arg0) = X)
variable (hY : ∀ c : Dev nD, m ((c.tc : Thread nD τ).loc main_arg1) = Layout.block ⟨2, ![1024, 8192]⟩ ⟨2, ![1024, 32768]⟩ 1 4 c Y tiles)
include hX hY

/-- An entry of a device's tile is the exponential of the whole product's logit. -/
theorem eT_logit (d : Fin 4) (t : Fin 8) (r : Fin 512) (l : Fin 1024) :
    eT m (dev d.val) t.val (ix2 r l)
      = Ideal.exp (logit (fun r k => X (ix2 r k)) (fun k j => Y (ix2 k j)) r (8192 * d.val + (1024 * t.val + l.val))) := by
  rw [eT_apply]
  refine congrArg Ideal.exp (Finset.sum_congr rfl fun k _ => ?_)
  rw [xstg_eq, hX]
  refine congrArg (X (ix2 r k) * ·) ?_
  unfold wT wblk
  rw [hY, Layout.block_apply]
  refine congrArg Y (funext fun a => Fin.ext ?_)
  rw [Layout.Tiles.idx_val]
  have hd := d.isLt
  have ht := t.isLt
  have hk := k.isLt
  have hl := l.isLt
  match a with
  | ⟨0, _⟩ =>
    show k.val % 1024 = k.val
    omega
  | ⟨1, _⟩ =>
    show d.val % 4 * 8192 + (1024 * t.val + l.val) % 8192 = (8192 * d.val + (1024 * t.val + l.val)) % 32768
    omega

/-- A row's total is the sum of the exponentials of its logits. -/
theorem total (r : Fin 512) :
    ∑ d : Fin 4, sAcc m (dev d.val) 8 (ix1 r)
      = ∑ j : Fin 32768, Ideal.exp (logit (fun r k => X (ix2 r k)) (fun k j => Y (ix2 k j)) r j.val) := by
  rw [Softmax.sum_split 32768 4 8192 rfl fun j => Ideal.exp (logit (fun r k => X (ix2 r k)) (fun k j => Y (ix2 k j)) r j)]
  refine Finset.sum_congr rfl fun d _ => ?_
  rw [sAcc_apply, Softmax.sum_split 8192 8 1024 rfl
    fun j => Ideal.exp (logit (fun r k => X (ix2 r k)) (fun k j => Y (ix2 k j)) r (8192 * d.val + j))]
  exact Finset.sum_congr rfl fun t _ => Finset.sum_congr rfl fun l _ => eT_logit m X Y hX hY d t r l

/-- An entry of the exponentials. -/
theorem gAll_apply (r : Fin 512) (j : Fin 32768) :
    gAll m (ix2 r j) = Ideal.exp (logit (fun r k => X (ix2 r k)) (fun k j => Y (ix2 k j)) r j.val) := by
  have hj := j.isLt
  have e := eT_logit m X Y hX hY ⟨j.val / 8192, by omega⟩ ⟨j.val % 8192 / 1024, by omega⟩ r ⟨j.val % 1024, by omega⟩
  have hi : KernelProof.ix2 (a := 512) (b := 1024) r.val (j.val % 1024) = ix2 r ⟨j.val % 1024, by omega⟩ := by
    rw [ix_eq]
    congr 1
    · exact Fin.ext (Nat.mod_eq_of_lt r.isLt)
    · exact Fin.ext (Nat.mod_mod _ _)
  show eT m (dev (j.val / 8192)) (j.val % 8192 / 1024) (KernelProof.ix2 r.val (j.val % 1024)) = _
  rw [hi]
  refine e.trans (congrArg (fun n => Ideal.exp (logit _ _ r n)) ?_)
  show 8192 * (j.val / 8192) + (1024 * (j.val % 8192 / 1024) + j.val % 1024) = j.val
  omega

/-- An entry of the result. -/
theorem outAll_apply (r : Fin 512) (j : Fin 32768) :
    outAll m (ix2 r j) = Ideal.exp (logit (fun r k => X (ix2 r k)) (fun k j => Y (ix2 k j)) r j.val)
      * Ideal.div 1 (∑ i : Fin 32768, Ideal.exp (logit (fun r k => X (ix2 r k)) (fun k j => Y (ix2 k j)) r i.val)) := by
  rw [← total m X Y hX hY, ← rV_apply, ← gAll_apply m X Y hX hY]
  show gAll m (ix2 r j) * rV m (KernelProof.ix2 r.val 0) = _
  refine congrArg (gAll m (ix2 r j) * rV m ·) ?_
  rw [ix_eq]
  congr 1
  exact Fin.ext (Nat.mod_eq_of_lt r.isLt)

end

end Cert.KernelValue

end
-- ==== Proof.ReferenceValue.lean ====
/-
The reference's result over the extended reals, entry by entry.
-/
module

public import proofs.«01_k».proof.Proof.Gen.ReferenceIdeal.Run
public import proofs.«01_k».proof.Proof.Softmax
public import Idealize.ShloMosaic.Lib.Pointwise

@[expose] public section

noncomputable section

namespace Cert.ReferenceValue

open Cert.ReferenceIdeal Cert.ReferenceIdeal.Gen
open Idealize.ShloMosaic
open scoped BigOperators

variable (X : FVec Ideal S512x1024 .f32) (Y : FVec Ideal S1024x32768 .f32)

/-- The logits. -/
def logits : FVec Ideal S512x32768 .f32 :=
  Host.dotGeneral dot_S512x1024_S1024x32768_S512x32768_1_0_0_1_n_n none X Y
/-- The rows' maxima, spread along the rows. -/
def maxima (D : FVec Ideal S512x32768 .f32) : FVec Ideal S512x32768 .f32 :=
  broadcastInDim S512x32768 ![0, 1] bcast_S512x1_S512x32768_0_1 (broadcastInDim S512x1 ![0] bcast_S512_S512x1_0
    (Host.reduce FloatOps.maximumf D (constant S_ .f32 0xFF800000#32) reducesTo_S512x32768_S512_d1 h_S_))
/-- The exponentials of a row over their sum. -/
def quotient (E : FVec Ideal S512x32768 .f32) : FVec Ideal S512x32768 .f32 :=
  Host.divf E (broadcastInDim S512x32768 ![0, 1] bcast_S512x1_S512x32768_0_1 (broadcastInDim S512x1 ![0] bcast_S512_S512x1_0
    (Host.reduceAdd E (constant S_ .f32 0x00000000#32) reducesTo_S512x32768_S512_d1 h_S_)))
/-- The reference's result. -/
def result : FVec Ideal S512x32768 .f32 :=
  quotient (Host.exp (subf (logits X Y) (maxima (logits X Y))))

/-- An entry of the logits. -/
theorem logits_apply (r : Fin 512) (j : Fin 32768) : logits X Y (ix2 r j) = ∑ k : Fin 1024, X (ix2 r k) * Y (ix2 k j) := by
  unfold logits
  pointwise

/-- A row's maximum. -/
theorem maxima_apply (D : FVec Ideal S512x32768 .f32) (r : Fin 512) (j : Fin 32768) :
    maxima D (ix2 r j) = Finset.univ.fold max (⊥ : EReal) fun k : Fin 32768 => D (ix2 r k) := by
  unfold maxima
  pointwise
  rw [show Ideal.ofBits FTy.f32 0xFF800000#32 = (⊥ : EReal) by simp [Ideal.ofBits, Ideal.ieee]]

/-- An entry of the quotient. -/
theorem quotient_apply (E : FVec Ideal S512x32768 .f32) (r : Fin 512) (j : Fin 32768) :
    quotient E (ix2 r j) = Ideal.div (E (ix2 r j)) (0 + ∑ k : Fin 32768, E (ix2 r k)) := by
  unfold quotient
  pointwise

/-- For finite arguments, an entry of the reference's result is an exponential times the reciprocal of its row's sum. -/
theorem result_apply (hX : ∀ i, X i ≠ ⊤ ∧ X i ≠ ⊥) (hY : ∀ i, Y i ≠ ⊤ ∧ Y i ≠ ⊥) (r : Fin 512) (j : Fin 32768) :
    result X Y (ix2 r j) = Ideal.exp (∑ k : Fin 1024, X (ix2 r k) * Y (ix2 k j))
      * Ideal.div 1 (∑ i : Fin 32768, Ideal.exp (∑ k : Fin 1024, X (ix2 r k) * Y (ix2 k i))) := by
  choose l hl using fun j : Fin 32768 => Softmax.dot_real (fun k => X (ix2 r k)) (fun k => Y (ix2 k j)) (fun k => hX _) fun k => hY _
  obtain ⟨M, hM⟩ := Softmax.fold_max_real (by decide : 0 < 32768) l
  have hD : ∀ i, logits X Y (ix2 r i) = (l i : EReal) := fun i => (logits_apply X Y r i).trans (hl i)
  have hE : ∀ i, Host.exp (subf (logits X Y) (maxima (logits X Y))) (ix2 r i) = Ideal.exp ((l i : EReal) - (M : EReal)) := by
    intro i
    show Ideal.exp (logits X Y (ix2 r i) - maxima (logits X Y) (ix2 r i)) = _
    rw [maxima_apply, hD]
    simp only [hD]
    rw [hM]
  unfold result
  rw [quotient_apply]
  simp only [hE, hl]
  exact (Softmax.row l M j).symm

end Cert.ReferenceValue

end
-- ==== Proof.Value.lean ====
/-
The kernel's result is the reference's, over the extended reals and for finite arguments.
-/
module

public import proofs.«01_k».proof.Defs
public import proofs.«01_k».proof.Proof.Launch
public import proofs.«01_k».proof.Proof.Frames
public import proofs.«01_k».proof.Proof.KernelValue
public import proofs.«01_k».proof.Proof.ReferenceValue

@[expose] public section

noncomputable section

namespace Cert.Proof

open Idealize.ShloMosaic Idealize.SL.Sem

/-- The shapes the precondition's operations take, of a device's blocks. -/
theorem pre_facts : Cert.Pre_finite_KernelIdeal.Facts := ⟨by decide, by decide⟩
/-- The same of the whole arrays. -/
theorem pre_facts' : Cert.Pre_finite_ReferenceIdeal.Facts := ⟨by decide, by decide⟩

/-- A number whose size is below infinity is finite. -/
theorem finite_of_abs {x : EReal} (h : Ideal.cmp .olt (max x (-x)) (Ideal.ofBits .f32 0x7F800000#32) = 1#1) : x ≠ ⊤ ∧ x ≠ ⊥ := by
  have ht : Ideal.ofBits FTy.f32 0x7F800000#32 = (⊤ : EReal) := by simp [Ideal.ofBits, Ideal.ieee]
  rw [ht] at h
  constructor
  · rintro rfl
    simp [Ideal.cmp] at h
  · rintro rfl
    simp [Ideal.cmp] at h

/-- What the precondition says of a device's blocks. -/
theorem finite_of_pre [Cert.Pre_finite_KernelIdeal.Facts] (X : FVec Ideal Cert.Pre_finite_KernelIdeal.S512x1024 .f32)
    (Y : FVec Ideal Cert.Pre_finite_KernelIdeal.S1024x8192 .f32)
    (h : (Cert.Pre_finite_KernelIdeal.fn X Y).1 = (fun _ => 1#1) ∧ (Cert.Pre_finite_KernelIdeal.fn X Y).2 = fun _ => 1#1) :
    (∀ i, X i ≠ ⊤ ∧ X i ≠ ⊥) ∧ ∀ i, Y i ≠ ⊤ ∧ Y i ≠ ⊥ :=
  ⟨fun i => finite_of_abs (congrFun h.1 i), fun i => finite_of_abs (congrFun h.2 i)⟩

/-- If every device's block of an array is finite, the array is. -/
theorem finite_whole (Y : (⟨2, ![1024, 32768]⟩ : Shape).Idx → EReal)
    (h : ∀ (c : Fin 4) i, Layout.block ⟨2, ![1024, 8192]⟩ ⟨2, ![1024, 32768]⟩ 1 4 c Y KernelValue.tiles i ≠ ⊤
      ∧ Layout.block ⟨2, ![1024, 8192]⟩ ⟨2, ![1024, 32768]⟩ 1 4 c Y KernelValue.tiles i ≠ ⊥) (i) : Y i ≠ ⊤ ∧ Y i ≠ ⊥ := by
  obtain ⟨k, j, rfl⟩ : ∃ (k : Fin 1024) (j : Fin 32768), i = ix2 k j := ⟨i 0, i 1, eq_ix2 i⟩
  have hj := j.isLt
  have e := h ⟨j.val / 8192, by omega⟩ (ix2 k ⟨j.val % 8192, by omega⟩)
  rw [Layout.block_apply] at e
  suffices hs : KernelValue.tiles.idx ⟨j.val / 8192, by omega⟩ (ix2 k ⟨j.val % 8192, by omega⟩) = ix2 k j from hs ▸ e
  funext a
  refine Fin.ext ?_
  rw [Layout.Tiles.idx_val]
  match a with
  | ⟨0, _⟩ => rfl
  | ⟨1, _⟩ =>
    show j.val / 8192 * 8192 + j.val % 8192 = j.val
    omega

/-- The two results are one. -/
theorem values [Cert.Pre_finite_KernelIdeal.Facts]
    (m : (ℓ : Loc Cert.KernelIdeal.nD Cert.KernelIdeal.τ Cert.KernelIdeal.sig) → Buf (Elt Ideal) ℓ)
    (X : FVec Ideal Cert.ReferenceIdeal.S512x1024 .f32) (Y : FVec Ideal Cert.ReferenceIdeal.S1024x32768 .f32)
    (hp : Cert.Pre_KernelIdeal_finite_KernelIdeal m)
    (hX : ∀ c : Dev Cert.KernelIdeal.nD, m ((c.tc : Thread Cert.KernelIdeal.nD Cert.KernelIdeal.τ).loc Cert.KernelIdeal.main_arg0) = X)
    (hY : ∀ c : Dev Cert.KernelIdeal.nD, m ((c.tc : Thread Cert.KernelIdeal.nD Cert.KernelIdeal.τ).loc Cert.KernelIdeal.main_arg1)
      = Layout.block ⟨2, ![1024, 8192]⟩ ⟨2, ![1024, 32768]⟩ 1 4 c Y KernelValue.tiles) :
    KernelProof.outAll m = ReferenceValue.result X Y := by
  have f := fun c => finite_of_pre _ _ (hp c)
  have fX : ∀ i, X i ≠ ⊤ ∧ X i ≠ ⊥ := fun i => by
    have e := (f (0 : Fin 4)).1 i
    rw [hX] at e
    exact e
  have fY : ∀ i, Y i ≠ ⊤ ∧ Y i ≠ ⊥ := finite_whole Y fun c i => by
    have e := (f c).2 i
    rw [hY] at e
    exact e
  funext i
  obtain ⟨r, j, rfl⟩ : ∃ (r : Fin 512) (j : Fin 32768), i = ix2 r j := ⟨i 0, i 1, eq_ix2 i⟩
  rw [ReferenceValue.result_apply X Y fX fY, KernelValue.outAll_apply m X Y hX hY]
  have hj : ∀ j : Fin 32768, KernelValue.logit (fun r k => X (ix2 r k)) (fun k j => Y (ix2 k j)) r j.val
      = ∑ k : Fin 1024, X (ix2 r k) * Y (ix2 k j) := fun j =>
    Finset.sum_congr rfl fun k _ => congrArg (fun n => X (ix2 r k) * Y (ix2 k n)) (Fin.ext (Nat.mod_eq_of_lt j.isLt))
  simp only [hj]

/-- The value claim. -/
theorem algebraic [hp : Cert.Pre_finite_KernelIdeal.Facts] : Cert.algebraic_KernelIdeal_ReferenceIdeal_pre_finite_KernelIdeal := by
  intro m g m' g' hf hm
  refine ⟨ReferenceValue.result _ _, (θ_run _ _ _).mono (fun r h c => ?_) (KernelProof.run_main (F := Ideal) m g),
    (θ_run _ _ _).mono (fun r h => h 0) (Cert.ReferenceIdeal.Value.run m' g')⟩
  obtain ⟨h0, h1, h2⟩ := h.1 c
  exact ⟨h0.trans (values m _ _ hf (fun c => (hm c).1) fun c => (hm c).2), h1, h2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claim: the frames, those under the precondition among them, and the value of the result. -/
theorem claim : Cert.Claim :=
  ⟨Cert.Kernel.Gen.facts, Cert.KernelIdeal.Gen.facts, Cert.ReferenceIdeal.Gen.facts, pre_facts, pre_facts',
    frame_kernel, frame_ideal, fun m g _ => frame_ideal m g True.intro, frame_reference,
    fun m g _ => frame_reference m g True.intro, True.intro, algebraic (hp := pre_facts)⟩

end Cert.Proof

end
